-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Mixin (m : (ℓ : Loc Cert.Mixin.nD Cert.Mixin.τ Cert.Mixin.sig) → Buf (Elt Bits) ℓ) : Prop :=
  True

def Pre_MixinIdeal (m : (ℓ : Loc Cert.MixinIdeal.nD Cert.MixinIdeal.τ Cert.MixinIdeal.sig) → Buf (Elt Ideal) ℓ) : Prop :=
  True

def Pre_MixinReferenceIdeal (m : (ℓ : Loc Cert.MixinReferenceIdeal.nD Cert.MixinReferenceIdeal.τ Cert.MixinReferenceIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_window [hPre_finite_window : Cert.Pre_finite_window.Facts] (m : (ℓ : Loc Cert.SwaIdeal.nD Cert.SwaIdeal.τ Cert.SwaIdeal.sig) → Buf (Elt Ideal) ℓ) : Prop :=
  ∀ c : Dev Cert.SwaIdeal.nD,
    (Cert.Pre_finite_window.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))) = (fun _ => 1#1)

def Pre_SwaReferenceIdeal (m : (ℓ : Loc Cert.SwaReferenceIdeal.nD Cert.SwaReferenceIdeal.τ Cert.SwaReferenceIdeal.sig) → Buf (Elt Ideal) ℓ) : Prop :=
  True

def Pre_SwaReferenceIdeal_finite_window [hPre_finite_window : Cert.Pre_finite_window.Facts] (m : (ℓ : Loc Cert.SwaReferenceIdeal.nD Cert.SwaReferenceIdeal.τ Cert.SwaReferenceIdeal.sig) → Buf (Elt Ideal) ℓ) : Prop :=
  ∀ c : Dev Cert.SwaReferenceIdeal.nD,
    (Cert.Pre_finite_window.fn (F := Ideal) (m ((c.tc : Thread Cert.SwaReferenceIdeal.nD Cert.SwaReferenceIdeal.τ).loc Cert.SwaReferenceIdeal.main_arg0)) (m ((c.tc : Thread Cert.SwaReferenceIdeal.nD Cert.SwaReferenceIdeal.τ).loc Cert.SwaReferenceIdeal.main_arg1)) (m ((c.tc : Thread Cert.SwaReferenceIdeal.nD Cert.SwaReferenceIdeal.τ).loc Cert.SwaReferenceIdeal.main_arg2)) (m ((c.tc : Thread Cert.SwaReferenceIdeal.nD Cert.SwaReferenceIdeal.τ).loc Cert.SwaReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_Mixin [hMixin : Cert.Mixin.Facts] : Prop :=
  ∀ (m : (ℓ : Loc Cert.Mixin.nD Cert.Mixin.τ Cert.Mixin.sig) → Buf (Elt Bits) ℓ) (g : Dev Cert.Mixin.nD → PrngReg), Pre_Mixin m →
    θ_run (Cert.Mixin.defs (F := Bits)) (onTc (τ := Cert.Mixin.τ) (Cert.Mixin.main (F := Bits))) ⟨m, fun _ => 0, g⟩ (fun r => (∀ c : Dev Cert.Mixin.nD,
      r.2.mem ((c.tc : Thread Cert.Mixin.nD Cert.Mixin.τ).loc Cert.Mixin.main_arg0) = m ((c.tc : Thread Cert.Mixin.nD Cert.Mixin.τ).loc Cert.Mixin.main_arg0)
      ∧ r.2.mem ((c.tc : Thread Cert.Mixin.nD Cert.Mixin.τ).loc Cert.Mixin.main_arg1) = m ((c.tc : Thread Cert.Mixin.nD Cert.Mixin.τ).loc Cert.Mixin.main_arg1)
      ∧ r.2.mem ((c.tc : Thread Cert.Mixin.nD Cert.Mixin.τ).loc Cert.Mixin.main_arg2) = m ((c.tc : Thread Cert.Mixin.nD Cert.Mixin.τ).loc Cert.Mixin.main_arg2)
      ∧ r.2.mem ((c.tc : Thread Cert.Mixin.nD Cert.Mixin.τ).loc Cert.Mixin.main_arg3) = m ((c.tc : Thread Cert.Mixin.nD Cert.Mixin.τ).loc Cert.Mixin.main_arg3))
      ∧ r.2.sem = fun _ => 0)

def quiescent_MixinIdeal [hMixinIdeal : Cert.MixinIdeal.Facts] : Prop :=
  ∀ (m : (ℓ : Loc Cert.MixinIdeal.nD Cert.MixinIdeal.τ Cert.MixinIdeal.sig) → Buf (Elt Ideal) ℓ) (g : Dev Cert.MixinIdeal.nD → PrngReg), Pre_MixinIdeal m →
    θ_run (Cert.MixinIdeal.defs (F := Ideal)) (onTc (τ := Cert.MixinIdeal.τ) (Cert.MixinIdeal.main (F := Ideal))) ⟨m, fun _ => 0, g⟩ (fun r => (∀ c : Dev Cert.MixinIdeal.nD,
      r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
      ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1)
      ∧ r.2.mem ((c.tc : Thread Cert.MixinIdeal.nD Cert.MixinIdeal.τ).loc Cert.MixinIdeal.main_arg2) = m ((c.tc : Thread Cert.MixinIdeal.nD Cert.MixinIdeal.τ).loc Cert.MixinIdeal.main_arg2)
      ∧ r.2.mem ((c.tc : Thread Cert.MixinIdeal.nD Cert.MixinIdeal.τ).loc Cert.MixinIdeal.main_arg3) = m ((c.tc : Thread Cert.MixinIdeal.nD Cert.MixinIdeal.τ).loc Cert.MixinIdeal.main_arg3))
      ∧ r.2.sem = fun _ => 0)

def quiescent_MixinReferenceIdeal [hMixinReferenceIdeal : Cert.MixinReferenceIdeal.Facts] : Prop :=
  ∀ (m : (ℓ : Loc Cert.MixinReferenceIdeal.nD Cert.MixinReferenceIdeal.τ Cert.MixinReferenceIdeal.sig) → Buf (Elt Ideal) ℓ) (g : Dev Cert.MixinReferenceIdeal.nD → PrngReg), Pre_MixinReferenceIdeal m →
    θ_run (Cert.MixinReferenceIdeal.defs (F := Ideal)) (onTc (τ := Cert.MixinReferenceIdeal.τ) (Cert.MixinReferenceIdeal.main (F := Ideal))) ⟨m, fun _ => 0, g⟩ (fun r => (∀ c : Dev Cert.MixinReferenceIdeal.nD,
      r.2.mem ((c.tc : Thread Cert.MixinReferenceIdeal.nD Cert.MixinReferenceIdeal.τ).loc Cert.MixinReferenceIdeal.main_arg0) = m ((c.tc : Thread Cert.MixinReferenceIdeal.nD Cert.MixinReferenceIdeal.τ).loc Cert.MixinReferenceIdeal.main_arg0)
      ∧ r.2.mem ((c.tc : Thread Cert.MixinReferenceIdeal.nD Cert.MixinReferenceIdeal.τ).loc Cert.MixinReferenceIdeal.main_arg1) = m ((c.tc : Thread Cert.MixinReferenceIdeal.nD Cert.MixinReferenceIdeal.τ).loc Cert.MixinReferenceIdeal.main_arg1)
      ∧ r.2.mem ((c.tc : Thread Cert.MixinReferenceIdeal.nD Cert.MixinReferenceIdeal.τ).loc Cert.MixinReferenceIdeal.main_arg2) = m ((c.tc : Thread Cert.MixinReferenceIdeal.nD Cert.MixinReferenceIdeal.τ).loc Cert.MixinReferenceIdeal.main_arg2)
      ∧ r.2.mem ((c.tc : Thread Cert.MixinReferenceIdeal.nD Cert.MixinReferenceIdeal.τ).loc Cert.MixinReferenceIdeal.main_arg3) = m ((c.tc : Thread Cert.MixinReferenceIdeal.nD Cert.MixinReferenceIdeal.τ).loc Cert.MixinReferenceIdeal.main_arg3))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_finite_window [hSwaIdeal : Cert.SwaIdeal.Facts] [hPre_finite_window : Cert.Pre_finite_window.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_window m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaReferenceIdeal [hSwaReferenceIdeal : Cert.SwaReferenceIdeal.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2)
      ∧ r.2.mem ((c.tc : Thread Cert.SwaReferenceIdeal.nD Cert.SwaReferenceIdeal.τ).loc Cert.SwaReferenceIdeal.main_arg3) = m ((c.tc : Thread Cert.SwaReferenceIdeal.nD Cert.SwaReferenceIdeal.τ).loc Cert.SwaReferenceIdeal.main_arg3))
      ∧ r.2.sem = fun _ => 0)

def quiescent_SwaReferenceIdeal_pre_finite_window [hSwaReferenceIdeal : Cert.SwaReferenceIdeal.Facts] [hPre_finite_window : Cert.Pre_finite_window.Facts] : Prop :=
  ∀ (m : (ℓ : Loc Cert.SwaReferenceIdeal.nD Cert.SwaReferenceIdeal.τ Cert.SwaReferenceIdeal.sig) → Buf (Elt Ideal) ℓ) (g : Dev Cert.SwaReferenceIdeal.nD → PrngReg), Pre_SwaReferenceIdeal_finite_window m →
    θ_run (Cert.SwaReferenceIdeal.defs (F := Ideal)) (onTc (τ := Cert.SwaReferenceIdeal.τ) (Cert.SwaReferenceIdeal.main (F := Ideal))) ⟨m, fun _ => 0, g⟩ (fun r => (∀ c : Dev Cert.SwaReferenceIdeal.nD,
      r.2.mem ((c.tc : Thread Cert.SwaReferenceIdeal.nD Cert.SwaReferenceIdeal.τ).loc Cert.SwaReferenceIdeal.main_arg0) = m ((c.tc : Thread Cert.SwaReferenceIdeal.nD Cert.SwaReferenceIdeal.τ).loc Cert.SwaReferenceIdeal.main_arg0)
      ∧ r.2.mem ((c.tc : Thread Cert.SwaReferenceIdeal.nD Cert.SwaReferenceIdeal.τ).loc Cert.SwaReferenceIdeal.main_arg1) = m ((c.tc : Thread Cert.SwaReferenceIdeal.nD Cert.SwaReferenceIdeal.τ).loc Cert.SwaReferenceIdeal.main_arg1)
      ∧ r.2.mem ((c.tc : Thread Cert.SwaReferenceIdeal.nD Cert.SwaReferenceIdeal.τ).loc Cert.SwaReferenceIdeal.main_arg2) = m ((c.tc : Thread Cert.SwaReferenceIdeal.nD Cert.SwaReferenceIdeal.τ).loc Cert.SwaReferenceIdeal.main_arg2)
      ∧ r.2.mem ((c.tc : Thread Cert.SwaReferenceIdeal.nD Cert.SwaReferenceIdeal.τ).loc Cert.SwaReferenceIdeal.main_arg3) = m ((c.tc : Thread Cert.SwaReferenceIdeal.nD Cert.SwaReferenceIdeal.τ).loc Cert.SwaReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v107) = v0 c
          ∧ r.2.mem ((c.tc : Thread Cert.FfnReferenceIdeal.nD Cert.FfnReferenceIdeal.τ).loc Cert.FfnReferenceIdeal.main_v110) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v99) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v60_0)) (v1 : (c : Dev Cert.PrepIdeal.nD) → Buf (Elt Ideal) ((c.tc : Thread Cert.PrepIdeal.nD Cert.PrepIdeal.τ).loc Cert.PrepIdeal.main_v60_1)) (v2 : (c : Dev Cert.PrepIdeal.nD) → Buf (Elt Ideal) ((c.tc : Thread Cert.PrepIdeal.nD Cert.PrepIdeal.τ).loc Cert.PrepIdeal.main_v60_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v60_0) = v0 c
          ∧ r.2.mem ((c.tc : Thread Cert.PrepIdeal.nD Cert.PrepIdeal.τ).loc Cert.PrepIdeal.main_v60_1) = v1 c
          ∧ r.2.mem ((c.tc : Thread Cert.PrepIdeal.nD Cert.PrepIdeal.τ).loc Cert.PrepIdeal.main_v60_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v163) = v0 c
          ∧ r.2.mem ((c.tc : Thread Cert.PrepReferenceIdeal.nD Cert.PrepReferenceIdeal.τ).loc Cert.PrepReferenceIdeal.main_v165) = v1 c
          ∧ r.2.mem ((c.tc : Thread Cert.PrepReferenceIdeal.nD Cert.PrepReferenceIdeal.τ).loc Cert.PrepReferenceIdeal.main_v167) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v25) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_Mixin_MixinIdeal : Prop :=
  True

def algebraic_MixinIdeal_MixinReferenceIdeal [hMixinIdeal : Cert.MixinIdeal.Facts] [hMixinReferenceIdeal : Cert.MixinReferenceIdeal.Facts] : Prop :=
  ∀ (m : (ℓ : Loc Cert.MixinIdeal.nD Cert.MixinIdeal.τ Cert.MixinIdeal.sig) → Buf (Elt Ideal) ℓ) (g : Dev Cert.MixinIdeal.nD → PrngReg)
    (m' : (ℓ : Loc Cert.MixinReferenceIdeal.nD Cert.MixinReferenceIdeal.τ Cert.MixinReferenceIdeal.sig) → Buf (Elt Ideal) ℓ) (g' : Dev Cert.MixinReferenceIdeal.nD → PrngReg), Pre_MixinIdeal m →
    (∀ c : Dev Cert.MixinIdeal.nD,
      m' ((c.tc : Thread Cert.MixinReferenceIdeal.nD Cert.MixinReferenceIdeal.τ).loc Cert.MixinReferenceIdeal.main_arg0) = m ((c.tc : Thread Cert.MixinIdeal.nD Cert.MixinIdeal.τ).loc Cert.MixinIdeal.main_arg0)
      ∧ m' ((c.tc : Thread Cert.MixinReferenceIdeal.nD Cert.MixinReferenceIdeal.τ).loc Cert.MixinReferenceIdeal.main_arg1) = m ((c.tc : Thread Cert.MixinIdeal.nD Cert.MixinIdeal.τ).loc Cert.MixinIdeal.main_arg1)
      ∧ m' ((c.tc : Thread Cert.MixinReferenceIdeal.nD Cert.MixinReferenceIdeal.τ).loc Cert.MixinReferenceIdeal.main_arg2) = m ((c.tc : Thread Cert.MixinIdeal.nD Cert.MixinIdeal.τ).loc Cert.MixinIdeal.main_arg2)
      ∧ m' ((c.tc : Thread Cert.MixinReferenceIdeal.nD Cert.MixinReferenceIdeal.τ).loc Cert.MixinReferenceIdeal.main_arg3) = m ((c.tc : Thread Cert.MixinIdeal.nD Cert.MixinIdeal.τ).loc Cert.MixinIdeal.main_arg3)) →
    ∃ (v0 : (c : Dev Cert.MixinIdeal.nD) → Buf (Elt Ideal) ((c.tc : Thread Cert.MixinIdeal.nD Cert.MixinIdeal.τ).loc Cert.MixinIdeal.main_v0_0)) (v1 : (c : Dev Cert.MixinIdeal.nD) → Buf (Elt Ideal) ((c.tc : Thread Cert.MixinIdeal.nD Cert.MixinIdeal.τ).loc Cert.MixinIdeal.main_v0_1)),
      θ_run (Cert.MixinIdeal.defs (F := Ideal)) (onTc (τ := Cert.MixinIdeal.τ) (Cert.MixinIdeal.main (F := Ideal))) ⟨m, fun _ => 0, g⟩ (fun r => ∀ c : Dev Cert.MixinIdeal.nD,
          r.2.mem ((c.tc : Thread Cert.MixinIdeal.nD Cert.MixinIdeal.τ).loc Cert.MixinIdeal.main_v0_0) = v0 c
          ∧ r.2.mem ((c.tc : Thread Cert.MixinIdeal.nD Cert.MixinIdeal.τ).loc Cert.MixinIdeal.main_v0_1) = v1 c
          ∧ r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
          ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1)
          ∧ r.2.mem ((c.tc : Thread Cert.MixinIdeal.nD Cert.MixinIdeal.τ).loc Cert.MixinIdeal.main_arg2) = m ((c.tc : Thread Cert.MixinIdeal.nD Cert.MixinIdeal.τ).loc Cert.MixinIdeal.main_arg2)
          ∧ r.2.mem ((c.tc : Thread Cert.MixinIdeal.nD Cert.MixinIdeal.τ).loc Cert.MixinIdeal.main_arg3) = m ((c.tc : Thread Cert.MixinIdeal.nD Cert.MixinIdeal.τ).loc Cert.MixinIdeal.main_arg3))
      ∧ θ_run (Cert.MixinReferenceIdeal.defs (F := Ideal)) (onTc (τ := Cert.MixinReferenceIdeal.τ) (Cert.MixinReferenceIdeal.main (F := Ideal))) ⟨m', fun _ => 0, g'⟩ (fun r => ∀ c : Dev Cert.MixinReferenceIdeal.nD,
          r.2.mem ((c.tc : Thread Cert.MixinReferenceIdeal.nD Cert.MixinReferenceIdeal.τ).loc Cert.MixinReferenceIdeal.main_v29) = v0 c
          ∧ r.2.mem ((c.tc : Thread Cert.MixinReferenceIdeal.nD Cert.MixinReferenceIdeal.τ).loc Cert.MixinReferenceIdeal.main_v32) = v1 c
          ∧ r.2.mem ((c.tc : Thread Cert.MixinReferenceIdeal.nD Cert.MixinReferenceIdeal.τ).loc Cert.MixinReferenceIdeal.main_arg0) = m' ((c.tc : Thread Cert.MixinReferenceIdeal.nD Cert.MixinReferenceIdeal.τ).loc Cert.MixinReferenceIdeal.main_arg0)
          ∧ r.2.mem ((c.tc : Thread Cert.MixinReferenceIdeal.nD Cert.MixinReferenceIdeal.τ).loc Cert.MixinReferenceIdeal.main_arg1) = m' ((c.tc : Thread Cert.MixinReferenceIdeal.nD Cert.MixinReferenceIdeal.τ).loc Cert.MixinReferenceIdeal.main_arg1)
          ∧ r.2.mem ((c.tc : Thread Cert.MixinReferenceIdeal.nD Cert.MixinReferenceIdeal.τ).loc Cert.MixinReferenceIdeal.main_arg2) = m' ((c.tc : Thread Cert.MixinReferenceIdeal.nD Cert.MixinReferenceIdeal.τ).loc Cert.MixinReferenceIdeal.main_arg2)
          ∧ r.2.mem ((c.tc : Thread Cert.MixinReferenceIdeal.nD Cert.MixinReferenceIdeal.τ).loc Cert.MixinReferenceIdeal.main_arg3) = m' ((c.tc : Thread Cert.MixinReferenceIdeal.nD Cert.MixinReferenceIdeal.τ).loc Cert.MixinReferenceIdeal.main_arg3))

def preserves_Swa_SwaIdeal : Prop :=
  True

def algebraic_SwaIdeal_SwaReferenceIdeal_pre_finite_window [hSwaIdeal : Cert.SwaIdeal.Facts] [hSwaReferenceIdeal : Cert.SwaReferenceIdeal.Facts] [hPre_finite_window : Cert.Pre_finite_window.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaReferenceIdeal.nD Cert.SwaReferenceIdeal.τ Cert.SwaReferenceIdeal.sig) → Buf (Elt Ideal) ℓ) (g' : Dev Cert.SwaReferenceIdeal.nD → PrngReg), Pre_SwaIdeal_finite_window m →
    (∀ c : Dev Cert.SwaIdeal.nD,
      m' ((c.tc : Thread Cert.SwaReferenceIdeal.nD Cert.SwaReferenceIdeal.τ).loc Cert.SwaReferenceIdeal.main_arg0) = m ((c.tc : Thread Cert.SwaIdeal.nD Cert.SwaIdeal.τ).loc Cert.SwaIdeal.main_arg0)
      ∧ m' ((c.tc : Thread Cert.SwaReferenceIdeal.nD Cert.SwaReferenceIdeal.τ).loc Cert.SwaReferenceIdeal.main_arg1) = m ((c.tc : Thread Cert.SwaIdeal.nD Cert.SwaIdeal.τ).loc Cert.SwaIdeal.main_arg1)
      ∧ m' ((c.tc : Thread Cert.SwaReferenceIdeal.nD Cert.SwaReferenceIdeal.τ).loc Cert.SwaReferenceIdeal.main_arg2) = m ((c.tc : Thread Cert.SwaIdeal.nD Cert.SwaIdeal.τ).loc Cert.SwaIdeal.main_arg2)
      ∧ m' ((c.tc : Thread Cert.SwaReferenceIdeal.nD Cert.SwaReferenceIdeal.τ).loc Cert.SwaReferenceIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v46_0)) (v1 : (c : Dev Cert.SwaIdeal.nD) → Buf (Elt Ideal) ((c.tc : Thread Cert.SwaIdeal.nD Cert.SwaIdeal.τ).loc Cert.SwaIdeal.main_v46_1)) (v2 : (c : Dev Cert.SwaIdeal.nD) → Buf (Elt Ideal) ((c.tc : Thread Cert.SwaIdeal.nD Cert.SwaIdeal.τ).loc Cert.SwaIdeal.main_v46_2)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v46_0) = v0 c
          ∧ r.2.mem ((c.tc : Thread Cert.SwaIdeal.nD Cert.SwaIdeal.τ).loc Cert.SwaIdeal.main_v46_1) = v1 c
          ∧ r.2.mem ((c.tc : Thread Cert.SwaIdeal.nD Cert.SwaIdeal.τ).loc Cert.SwaIdeal.main_v46_2) = v2 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaReferenceIdeal.defs (F := Ideal)) (onTc (τ := Cert.SwaReferenceIdeal.τ) (Cert.SwaReferenceIdeal.main (F := Ideal))) ⟨m', fun _ => 0, g'⟩ (fun r => ∀ c : Dev Cert.SwaReferenceIdeal.nD,
          r.2.mem ((c.tc : Thread Cert.SwaReferenceIdeal.nD Cert.SwaReferenceIdeal.τ).loc Cert.SwaReferenceIdeal.main_v165) = v0 c
          ∧ r.2.mem ((c.tc : Thread Cert.SwaReferenceIdeal.nD Cert.SwaReferenceIdeal.τ).loc Cert.SwaReferenceIdeal.main_v169) = v1 c
          ∧ r.2.mem ((c.tc : Thread Cert.SwaReferenceIdeal.nD Cert.SwaReferenceIdeal.τ).loc Cert.SwaReferenceIdeal.main_v172) = v2 c
          ∧ r.2.mem ((c.tc : Thread Cert.SwaReferenceIdeal.nD Cert.SwaReferenceIdeal.τ).loc Cert.SwaReferenceIdeal.main_arg0) = m' ((c.tc : Thread Cert.SwaReferenceIdeal.nD Cert.SwaReferenceIdeal.τ).loc Cert.SwaReferenceIdeal.main_arg0)
          ∧ r.2.mem ((c.tc : Thread Cert.SwaReferenceIdeal.nD Cert.SwaReferenceIdeal.τ).loc Cert.SwaReferenceIdeal.main_arg1) = m' ((c.tc : Thread Cert.SwaReferenceIdeal.nD Cert.SwaReferenceIdeal.τ).loc Cert.SwaReferenceIdeal.main_arg1)
          ∧ r.2.mem ((c.tc : Thread Cert.SwaReferenceIdeal.nD Cert.SwaReferenceIdeal.τ).loc Cert.SwaReferenceIdeal.main_arg2) = m' ((c.tc : Thread Cert.SwaReferenceIdeal.nD Cert.SwaReferenceIdeal.τ).loc Cert.SwaReferenceIdeal.main_arg2)
          ∧ r.2.mem ((c.tc : Thread Cert.SwaReferenceIdeal.nD Cert.SwaReferenceIdeal.τ).loc Cert.SwaReferenceIdeal.main_arg3) = m' ((c.tc : Thread Cert.SwaReferenceIdeal.nD Cert.SwaReferenceIdeal.τ).loc Cert.SwaReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hPrep : Cert.Prep.Facts) (hPrepIdeal : Cert.PrepIdeal.Facts) (hPrepReferenceIdeal : Cert.PrepReferenceIdeal.Facts) (hAda : Cert.Ada.Facts) (hAdaIdeal : Cert.AdaIdeal.Facts) (hAdaReferenceIdeal : Cert.AdaReferenceIdeal.Facts) (hMixin : Cert.Mixin.Facts) (hMixinIdeal : Cert.MixinIdeal.Facts) (hMixinReferenceIdeal : Cert.MixinReferenceIdeal.Facts) (hSwa : Cert.Swa.Facts) (hSwaIdeal : Cert.SwaIdeal.Facts) (hSwaReferenceIdeal : Cert.SwaReferenceIdeal.Facts) (hPre_finite_scores : Cert.Pre_finite_scores.Facts) (hPre_finite_window : Cert.Pre_finite_window.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Mixin (hMixin := hMixin)
    ∧ quiescent_MixinIdeal (hMixinIdeal := hMixinIdeal)
    ∧ quiescent_MixinReferenceIdeal (hMixinReferenceIdeal := hMixinReferenceIdeal)
    ∧ quiescent_Swa (hSwa := hSwa)
    ∧ quiescent_SwaIdeal (hSwaIdeal := hSwaIdeal)
    ∧ quiescent_SwaIdeal_pre_finite_window (hSwaIdeal := hSwaIdeal) (hPre_finite_window := hPre_finite_window)
    ∧ quiescent_SwaReferenceIdeal (hSwaReferenceIdeal := hSwaReferenceIdeal)
    ∧ quiescent_SwaReferenceIdeal_pre_finite_window (hSwaReferenceIdeal := hSwaReferenceIdeal) (hPre_finite_window := hPre_finite_window)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Prep_PrepIdeal
    ∧ algebraic_PrepIdeal_PrepReferenceIdeal (hPrepIdeal := hPrepIdeal) (hPrepReferenceIdeal := hPrepReferenceIdeal)
    ∧ preserves_Ada_AdaIdeal
    ∧ algebraic_AdaIdeal_AdaReferenceIdeal (hAdaIdeal := hAdaIdeal) (hAdaReferenceIdeal := hAdaReferenceIdeal)
    ∧ preserves_Mixin_MixinIdeal
    ∧ algebraic_MixinIdeal_MixinReferenceIdeal (hMixinIdeal := hMixinIdeal) (hMixinReferenceIdeal := hMixinReferenceIdeal)
    ∧ preserves_Swa_SwaIdeal
    ∧ algebraic_SwaIdeal_SwaReferenceIdeal_pre_finite_window (hSwaIdeal := hSwaIdeal) (hSwaReferenceIdeal := hSwaReferenceIdeal) (hPre_finite_window := hPre_finite_window)
-- ==== Pre_finite_scores.lean ====
abbrev S9216x2048 : Shape := ⟨2, ![9216, 2048]⟩
abbrev S9216x1024 : Shape := ⟨2, ![9216, 1024]⟩
abbrev S_ : Shape := ⟨0, ![]⟩

class Facts : Prop where
  bitsLt_bf16_f32 : FTy.bits .bf16 < FTy.bits .f32
  bcast_S_S9216x2048 : S_.BroadcastsInDim S9216x2048 (![] : Fin 0 → Fin S9216x2048.rank)
  reducesTo_S9216x2048_S_d0_1 : S9216x2048.ReducesTo [0, 1] S_
  h_S_ : 0 < S_.numel

variable [Facts]

def fn {F : FTy → Type} [FloatOps F] (main_arg0 : FVec F S9216x2048 .bf16) (main_arg1 : FVec F S9216x2048 .bf16) (main_arg2 : FVec F S9216x1024 .bf16) : IVec S_ 1 :=
  let main_v0 : FVec F S9216x2048 .f32 := (extf .f32 · bitsLt_bf16_f32) main_arg0
  let main_v1 : FVec F S9216x2048 .f32 := Host.absf main_v0
  let main_cst : FVec F S_ .f32 := constant S_ .f32 0x7F800000#32
  let main_v2 : FVec F S9216x2048 .f32 := broadcastInDim S9216x2048 ![] bcast_S_S9216x2048 main_cst
  let main_v3 : IVec S9216x2048 1 := cmpf .olt main_v1 main_v2
  let main_c : IVec S_ 1 := constantI S_ 1 1#1
  let main_v4 : IVec S_ 1 := (fun x v => Host.reduce IntOp.andi x v reducesTo_S9216x2048_S_d0_1 h_S_) main_v3 main_c
  let main_v5 : FVec F S9216x2048 .f32 := (extf .f32 · bitsLt_bf16_f32) main_arg1
  let main_v6 : FVec F S9216x2048 .f32 := Host.absf main_v5
  let main_cst_0 : FVec F S_ .f32 := constant S_ .f32 0x7F800000#32
  let main_v7 : FVec F S9216x2048 .f32 := broadcastInDim S9216x2048 ![] bcast_S_S9216x2048 main_cst_0
  let main_v8 : IVec S9216x2048 1 := cmpf .olt main_v6 main_v7
  let main_c_1 : IVec S_ 1 := constantI S_ 1 1#1
  let main_v9 : IVec S_ 1 := (fun x v => Host.reduce IntOp.andi x v reducesTo_S9216x2048_S_d0_1 h_S_) main_v8 main_c_1
  let main_v10 : IVec S_ 1 := andi main_v4 main_v9
  main_v10
-- ==== Pre_finite_window.lean ====
abbrev S9216x10752 : Shape := ⟨2, ![9216, 10752]⟩
abbrev S2x16 : Shape := ⟨2, ![2, 16]⟩
abbrev S2x3x1024x2048 : Shape := ⟨4, ![2, 3, 1024, 2048]⟩
abbrev S2x2048x2048 : Shape := ⟨3, ![2, 2048, 2048]⟩
abbrev S9216x1280 : Shape := ⟨2, ![9216, 1280]⟩
abbrev S_ : Shape := ⟨0, ![]⟩
abbrev S1x16 : Shape := ⟨2, ![1, 16]⟩
abbrev S16 : Shape := ⟨1, ![16]⟩

class Facts : Prop where
  slices_S9216x10752_S9216x1280_0_3072 : S9216x10752.Slices ![0, 3072] S9216x1280
  bitsLt_bf16_f32 : FTy.bits .bf16 < FTy.bits .f32
  bcast_S_S9216x1280 : S_.BroadcastsInDim S9216x1280 (![] : Fin 0 → Fin S9216x1280.rank)
  reducesTo_S9216x1280_S_d0_1 : S9216x1280.ReducesTo [0, 1] S_
  h_S_ : 0 < S_.numel
  slices_S2x16_S1x16_0_0 : S2x16.Slices ![0, 0] S1x16
  shapeCasts_S1x16_S16 : S1x16.ShapeCasts S16
  bcast_S_S16 : S_.BroadcastsInDim S16 (![] : Fin 0 → Fin S16.rank)
  reducesTo_S16_S_d0 : S16.ReducesTo [0] S_

variable [Facts]

def fn {F : FTy → Type} [FloatOps F] (main_arg0 : FVec F S9216x10752 .bf16) (main_arg1 : FVec F S2x16 .f32) (main_arg2 : FVec F S2x3x1024x2048 .f32) (main_arg3 : FVec F S2x2048x2048 .f32) : IVec S_ 1 :=
  let main_v0 : FVec F S9216x1280 .bf16 := (extractStridedSlice S9216x1280 ![0, 3072] · slices_S9216x10752_S9216x1280_0_3072) main_arg0
  let main_v1 : FVec F S9216x1280 .f32 := (extf .f32 · bitsLt_bf16_f32) main_v0
  let main_v2 : FVec F S9216x1280 .f32 := Host.absf main_v1
  let main_cst : FVec F S_ .f32 := constant S_ .f32 0x7F800000#32
  let main_v3 : FVec F S9216x1280 .f32 := broadcastInDim S9216x1280 ![] bcast_S_S9216x1280 main_cst
  let main_v4 : IVec S9216x1280 1 := cmpf .olt main_v2 main_v3
  let main_c : IVec S_ 1 := constantI S_ 1 1#1
  let main_v5 : IVec S_ 1 := (fun x v => Host.reduce IntOp.andi x v reducesTo_S9216x1280_S_d0_1 h_S_) main_v4 main_c
  let main_v6 : FVec F S1x16 .f32 := (extractStridedSlice S1x16 ![0, 0] · slices_S2x16_S1x16_0_0) main_arg1
  let main_v7 : FVec F S16 .f32 := shapeCast S16 main_v6 shapeCasts_S1x16_S16
  let main_v8 : FVec F S16 .f32 := Host.absf main_v7
  let main_cst_0 : FVec F S_ .f32 := constant S_ .f32 0x7F800000#32
  let main_v9 : FVec F S16 .f32 := broadcastInDim S16 ![] bcast_S_S16 main_cst_0
  let main_v10 : IVec S16 1 := cmpf .olt main_v8 main_v9
  let main_c_1 : IVec S_ 1 := constantI S_ 1 1#1
  let main_v11 : IVec S_ 1 := (fun x v => Host.reduce IntOp.andi x v reducesTo_S16_S_d0 h_S_) main_v10 main_c_1
  let main_v12 : IVec S_ 1 := andi main_v5 main_v11
  main_v12
-- ==== Kernel.lean ====
abbrev S9216x2048 : Shape := ⟨2, ![9216, 2048]⟩
abbrev S9216x1024 : Shape := ⟨2, ![9216, 1024]⟩
abbrev S384x2048 : Shape := ⟨2, ![384, 2048]⟩
abbrev S2304x2048 : Shape := ⟨2, ![2304, 2048]⟩
abbrev S2304x1024 : Shape := ⟨2, ![2304, 1024]⟩
abbrev S384x1024 : Shape := ⟨2, ![384, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S2304x256 : Shape := ⟨2, ![2304, 256]⟩
abbrev S128x2304 : Shape := ⟨2, ![128, 2304]⟩
abbrev S128 : Shape := ⟨1, ![128]⟩
abbrev S128x1 : Shape := ⟨2, ![128, 1]⟩
abbrev S2304x128 : Shape := ⟨2, ![2304, 128]⟩
abbrev S128x128 : Shape := ⟨2, ![128, 128]⟩
abbrev S384x256 : Shape := ⟨2, ![384, 256]⟩
abbrev S384x2304 : Shape := ⟨2, ![384, 2304]⟩
abbrev S384 : Shape := ⟨1, ![384]⟩
abbrev S384x1 : Shape := ⟨2, ![384, 1]⟩
abbrev S384x128 : Shape := ⟨2, ![384, 128]⟩

abbrev nBuf : Space → Nat
  | .hbm => 4
  | .vmem => 8
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x1024, .bf16⟩
  | .hbm, ⟨3, _⟩ => ⟨S9216x1024, .bf16⟩
  | .local _ .vmem, ⟨0, _⟩ => ⟨S384x2048, .bf16⟩
  | .local _ .vmem, ⟨1, _⟩ => ⟨S384x2048, .bf16⟩
  | .local _ .vmem, ⟨2, _⟩ => ⟨S2304x2048, .bf16⟩
  | .local _ .vmem, ⟨3, _⟩ => ⟨S2304x2048, .bf16⟩
  | .local _ .vmem, ⟨4, _⟩ => ⟨S2304x1024, .bf16⟩
  | .local _ .vmem, ⟨5, _⟩ => ⟨S2304x1024, .bf16⟩
  | .local _ .vmem, ⟨6, _⟩ => ⟨S384x1024, .bf16⟩
  | .local _ .vmem, ⟨7, _⟩ => ⟨S384x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S9216x2048 : Shape := ⟨2, ![9216, 2048]⟩
abbrev S9216x1024 : Shape := ⟨2, ![9216, 1024]⟩
abbrev S_ : Shape := ⟨0, ![]⟩
abbrev S4x2304x8x256 : Shape := ⟨4, ![4, 2304, 8, 256]⟩
abbrev S4x2304x8x128 : Shape := ⟨4, ![4, 2304, 8, 128]⟩
abbrev S4x256x8x256 : Shape := ⟨4, ![4, 256, 8, 256]⟩
abbrev S4x256x8x128 : Shape := ⟨4, ![4, 256, 8, 128]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S4x2048x8x256 : Shape := ⟨4, ![4, 2048, 8, 256]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x8x128 : Shape := ⟨4, ![4, 2048, 8, 128]⟩

abbrev nBuf : Space → Nat
  | .hbm => 56
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x1024, .bf16⟩
  | .hbm, ⟨3, _⟩ => ⟨S_, .f32⟩
  | .hbm, ⟨4, _⟩ => ⟨S_, .f32⟩
  | .hbm, ⟨5, _⟩ => ⟨S9216x2048, .f32⟩
  | .hbm, ⟨6, _⟩ => ⟨S4x2304x8x256, .f32⟩
  | .hbm, ⟨7, _⟩ => ⟨S9216x2048, .f32⟩
  | .hbm, ⟨8, _⟩ => ⟨S4x2304x8x256, .f32⟩
  | .hbm, ⟨9, _⟩ => ⟨S9216x1024, .f32⟩
  | .hbm, ⟨10, _⟩ => ⟨S4x2304x8x128, .f32⟩
  | .hbm, ⟨11, _⟩ => ⟨S4x256x8x256, .f32⟩
  | .hbm, ⟨12, _⟩ => ⟨S4x256x8x256, .f32⟩
  | .hbm, ⟨13, _⟩ => ⟨S4x256x8x128, .f32⟩
  | .hbm, ⟨14, _⟩ => ⟨S4x8x256x256, .f32⟩
  | .hbm, ⟨15, _⟩ => ⟨S4x8x256x256, .f32⟩
  | .hbm, ⟨16, _⟩ => ⟨S4x8x256x256, .f32⟩
  | .hbm, ⟨17, _⟩ => ⟨S_, .f32⟩
  | .hbm, ⟨18, _⟩ => ⟨S4x8x256, .f32⟩
  | .hbm, ⟨19, _⟩ => ⟨S_, .f32⟩
  | .hbm, ⟨20, _⟩ => ⟨S4x8x256, .f32⟩
  | .hbm, ⟨21, _⟩ => ⟨S4x8x256, .f32⟩
  | .hbm, ⟨22, _⟩ => ⟨S4x8x256x1, .f32⟩
  | .hbm, ⟨23, _⟩ => ⟨S4x8x256x256, .f32⟩
  | .hbm, ⟨24, _⟩ => ⟨S4x8x256x256, .f32⟩
  | .hbm, ⟨25, _⟩ => ⟨S4x8x256x256, .f32⟩
  | .hbm, ⟨26, _⟩ => ⟨S_, .f32⟩
  | .hbm, ⟨27, _⟩ => ⟨S4x8x256, .f32⟩
  | .hbm, ⟨28, _⟩ => ⟨S4x8x256x1, .f32⟩
  | .hbm, ⟨29, _⟩ => ⟨S4x8x256x256, .f32⟩
  | .hbm, ⟨30, _⟩ => ⟨S4x8x256x256, .f32⟩
  | .hbm, ⟨31, _⟩ => ⟨S4x8x128x256, .f32⟩
  | .hbm, ⟨32, _⟩ => ⟨S4x256x8x128, .f32⟩
  | .hbm, ⟨33, _⟩ => ⟨S4x2048x8x256, .f32⟩
  | .hbm, ⟨34, _⟩ => ⟨S4x8x2048x2304, .f32⟩
  | .hbm, ⟨35, _⟩ => ⟨S4x8x2048x2304, .f32⟩
  | .hbm, ⟨36, _⟩ => ⟨S4x8x2048x2304, .f32⟩
  | .hbm, ⟨37, _⟩ => ⟨S_, .f32⟩
  | .hbm, ⟨38, _⟩ => ⟨S4x8x2048, .f32⟩
  | .hbm, ⟨39, _⟩ => ⟨S_, .f32⟩
  | .hbm, ⟨40, _⟩ => ⟨S4x8x2048, .f32⟩
  | .hbm, ⟨41, _⟩ => ⟨S4x8x2048, .f32⟩
  | .hbm, ⟨42, _⟩ => ⟨S4x8x2048x1, .f32⟩
  | .hbm, ⟨43, _⟩ => ⟨S4x8x2048x2304, .f32⟩
  | .hbm, ⟨44, _⟩ => ⟨S4x8x2048x2304, .f32⟩
  | .hbm, ⟨45, _⟩ => ⟨S4x8x2048x2304, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x2304, .f32⟩
  | .hbm, ⟨50, _⟩ => ⟨S4x8x2048x2304, .f32⟩
  | .hbm, ⟨51, _⟩ => ⟨S4x8x128x2048, .f32⟩
  | .hbm, ⟨52, _⟩ => ⟨S4x2048x8x128, .f32⟩
  | .hbm, ⟨53, _⟩ => ⟨S4x2304x8x128, .f32⟩
  | .hbm, ⟨54, _⟩ => ⟨S9216x1024, .f32⟩
  | .hbm, ⟨55, _⟩ => ⟨S9216x1024, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Ffn.lean ====
abbrev S9216x2048 : Shape := ⟨2, ![9216, 2048]⟩
abbrev S2x6x8x1x2048 : Shape := ⟨5, ![2, 6, 8, 1, 2048]⟩
abbrev S2048x11264 : Shape := ⟨2, ![2048, 11264]⟩
abbrev S5632x2048 : Shape := ⟨2, ![5632, 2048]⟩
abbrev S2x2048 : Shape := ⟨2, ![2, 2048]⟩
abbrev S2x10560x2048 : Shape := ⟨3, ![2, 10560, 2048]⟩
abbrev S2x1x2048 : Shape := ⟨3, ![2, 1, 2048]⟩
abbrev S10560x2048 : Shape := ⟨2, ![10560, 2048]⟩
abbrev S768x2048 : Shape := ⟨2, ![768, 2048]⟩
abbrev S1x1x1x1x2048 : Shape := ⟨5, ![1, 1, 1, 1, 2048]⟩
abbrev S2048x512 : Shape := ⟨2, ![2048, 512]⟩
abbrev S512x2048 : Shape := ⟨2, ![512, 2048]⟩
abbrev S1x1x2048 : Shape := ⟨3, ![1, 1, 2048]⟩
abbrev S1x80x2048 : Shape := ⟨3, ![1, 80, 2048]⟩
abbrev S80x2048 : Shape := ⟨2, ![80, 2048]⟩
abbrev S1x2048 : Shape := ⟨2, ![1, 2048]⟩
abbrev S768x1 : Shape := ⟨2, ![768, 1]⟩
abbrev S768x512 : Shape := ⟨2, ![768, 512]⟩
abbrev S768 : Shape := ⟨1, ![768]⟩

abbrev nBuf : Space → Nat
  | .hbm => 11
  | .vmem => 26
  | .smem => 0
  | _ => 0

abbrev bufTy : (tb : Table) → Fin (tcTables nBuf tb) → BufTy
  | .hbm, ⟨0, _⟩ => ⟨S9216x2048, .f32⟩
  | .hbm, ⟨1, _⟩ => ⟨S2x6x8x1x2048, .f32⟩
  | .hbm, ⟨2, _⟩ => ⟨S2048x11264, .bf16⟩
  | .hbm, ⟨3, _⟩ => ⟨S5632x2048, .bf16⟩
  | .hbm, ⟨4, _⟩ => ⟨S2x2048, .f32⟩
  | .hbm, ⟨5, _⟩ => ⟨S2x2048, .f32⟩
  | .hbm, ⟨6, _⟩ => ⟨S2x10560x2048, .f32⟩
  | .hbm, ⟨7, _⟩ => ⟨S2x1x2048, .f32⟩
  | .hbm, ⟨8, _⟩ => ⟨S2x1x2048, .f32⟩
  | .hbm, ⟨9, _⟩ => ⟨S9216x2048, .f32⟩
  | .hbm, ⟨10, _⟩ => ⟨S10560x2048, .bf16⟩
  | .local _ .vmem, ⟨0, _⟩ => ⟨S768x2048, .f32⟩
  | .local _ .vmem, ⟨1, _⟩ => ⟨S768x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S512x2048, .bf16⟩
  | .local _ .vmem, ⟨16, _⟩ => ⟨S512x2048, .bf16⟩
  | .local _ .vmem, ⟨17, _⟩ => ⟨S1x1x2048, .f32⟩
  | .local _ .vmem, ⟨18, _⟩ => ⟨S1x1x2048, .f32⟩
  | .local _ .vmem, ⟨19, _⟩ => ⟨S1x80x2048, .f32⟩
  | .local _ .vmem, ⟨20, _⟩ => ⟨S1x80x2048, .f32⟩
  | .local _ .vmem, ⟨21, _⟩ => ⟨S768x2048, .f32⟩
  | .local _ .vmem, ⟨22, _⟩ => ⟨S768x2048, .f32⟩
  | .local _ .vmem, ⟨23, _⟩ => ⟨S80x2048, .bf16⟩
  | .local _ .vmem, ⟨24, _⟩ => ⟨S80x2048, .bf16⟩
  | .local _ .vmem, ⟨25, _⟩ => ⟨S768x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![12, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  let c0_i32_6 : BitVec 32 := 0#32
  let c0_i32_7 : BitVec 32 := 0#32
  ![c0_i32_4.toNat, c4_i32.toNat, v16.toNat, c0_i32_5.toNat, c0_i32_6.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c4_i32_0 : BitVec 32 := 4#32
  let c0_i32_1 : BitVec 32 := 0#32
  let c0_i32_2 : BitVec 32 := 0#32
  let c0_i32_3 : BitVec 32 := 0#32
  ![c0_i32.toNat, c4_i32.toNat, c4_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32_5 : BitVec 32 := 3#32
  let c0_i32_6 : BitVec 32 := 0#32
  let c0_i32_7 : BitVec 32 := 0#32
  let c0_i32_8 : BitVec 32 := 0#32
  ![c0_i32_4.toNat, c3_i32_5.toNat, v16.toNat, c0_i32_6.toNat, c0_i32_7.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c4_i32 : BitVec 32 := 4#32
  let c0_i32_0 : BitVec 32 := 0#32
  let c0_i32_1 : BitVec 32 := 0#32
  let c0_i32_2 : BitVec 32 := 0#32
  ![c0_i32.toNat, c3_i32.toNat, c4_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  let c0_i32_6 : BitVec 32 := 0#32
  let c0_i32_7 : BitVec 32 := 0#32
  ![c0_i32_4.toNat, c5_i32.toNat, v16.toNat, c0_i32_5.toNat, c0_i32_6.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c5_i32 : BitVec 32 := 5#32
  let c4_i32 : BitVec 32 := 4#32
  let c0_i32_0 : BitVec 32 := 0#32
  let c0_i32_1 : BitVec 32 := 0#32
  let c0_i32_2 : BitVec 32 := 0#32
  ![c0_i32.toNat, c5_i32.toNat, c4_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c131_i32 : BitVec 32 := 131#32
  let v2 : BitVec 32 := Scalar.minsi v1 c131_i32
  let c1_i32 : BitVec 32 := 1#32
  let c0_i32 : BitVec 32 := 0#32
  let c0_i32_0 : BitVec 32 := 0#32
  ![c1_i32.toNat, v2.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c131_i32 : BitVec 32 := 131#32
  let v2 : BitVec 32 := Scalar.minsi v1 c131_i32
  let c0_i32 : BitVec 32 := 0#32
  let c0_i32_0 : BitVec 32 := 0#32
  ![v2.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1x1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x80x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S768x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S80x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== FfnReferenceIdeal.lean ====
abbrev S9216x2048 : Shape := ⟨2, ![9216, 2048]⟩
abbrev S2x6x8x1x2048 : Shape := ⟨5, ![2, 6, 8, 1, 2048]⟩
abbrev S2048x11264 : Shape := ⟨2, ![2048, 11264]⟩
abbrev S5632x2048 : Shape := ⟨2, ![5632, 2048]⟩
abbrev S2x2048 : Shape := ⟨2, ![2, 2048]⟩
abbrev S2x10560x2048 : Shape := ⟨3, ![2, 10560, 2048]⟩
abbrev S4x2304x2048 : Shape := ⟨3, ![4, 2304, 2048]⟩
abbrev S4x256x2048 : Shape := ⟨3, ![4, 256, 2048]⟩
abbrev S4x2048x2048 : Shape := ⟨3, ![4, 2048, 2048]⟩
abbrev S1x1x4x1x2048 : Shape := ⟨5, ![1, 1, 4, 1, 2048]⟩
abbrev S4x1x2048 : Shape := ⟨3, ![4, 1, 2048]⟩
abbrev S1x1x1x1x2048 : Shape := ⟨5, ![1, 1, 1, 1, 2048]⟩
abbrev S2048 : Shape := ⟨1, ![2048]⟩
abbrev S_ : Shape := ⟨0, ![]⟩
abbrev S4x2048x11264 : Shape := ⟨3, ![4, 2048, 11264]⟩
abbrev S4x2048x5632 : Shape := ⟨3, ![4, 2048, 5632]⟩
abbrev S1x2048 : Shape := ⟨2, ![1, 2048]⟩
abbrev S4x2048 : Shape := ⟨2, ![4, 2048]⟩
abbrev S4x2048x1 : Shape := ⟨3, ![4, 2048, 1]⟩
abbrev S1x1x2048 : Shape := ⟨3, ![1, 1, 2048]⟩
abbrev S4x256x11264 : Shape := ⟨3, ![4, 256, 11264]⟩
abbrev S4x256x5632 : Shape := ⟨3, ![4, 256, 5632]⟩
abbrev S4x256 : Shape := ⟨2, ![4, 256]⟩
abbrev S4x256x1 : Shape := ⟨3, ![4, 256, 1]⟩
abbrev S1x10560x2048 : Shape := ⟨3, ![1, 10560, 2048]⟩
abbrev S10560x2048 : Shape := ⟨2, ![10560, 2048]⟩

abbrev nBuf : Space → Nat
  | .hbm => 146
  | .vmem => 0
  | .smem => 0
  | _ => 0

abbrev hbmTy0_0 (i : Nat) : BufTy := match i % 128 with
  | 0 => ⟨S9216x2048, .f32⟩
  | 1 => ⟨S2x6x8x1x2048, .f32⟩
  | 2 => ⟨S2048x11264, .bf16⟩
  | 3 => ⟨S5632x2048, .bf16⟩
  | 4 => ⟨S2x2048, .f32⟩
  | 5 => ⟨S2x2048, .f32⟩
  | 6 => ⟨S2x10560x2048, .f32⟩
  | 7 => ⟨S2048x11264, .f32⟩
  | 8 => ⟨S5632x2048, .f32⟩
  | 9 => ⟨S4x2304x2048, .f32⟩
  | 10 => ⟨S4x256x2048, .f32⟩
  | 11 => ⟨S4x2048x2048, .f32⟩
  | 12 => ⟨S1x1x4x1x2048, .f32⟩
  | 13 => ⟨S4x1x2048, .f32⟩
  | 14 => ⟨S1x1x4x1x2048, .f32⟩
  | 15 => ⟨S4x1x2048, .f32⟩
  | 16 => ⟨S1x1x4x1x2048, .f32⟩
  | 17 => ⟨S4x1x2048, .f32⟩
  | 18 => ⟨S1x1x1x1x2048, .f32⟩
  | 19 => ⟨S2048, .f32⟩
  | 20 => ⟨S1x1x1x1x2048, .f32⟩
  | 21 => ⟨S2048, .f32⟩
  | 22 => ⟨S1x1x1x1x2048, .f32⟩
  | 23 => ⟨S2048, .f32⟩
  | 24 => ⟨S_, .f32⟩
  | 25 => ⟨S4x2048x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S4x2048x2048, .f32⟩
  | 31 => ⟨S4x2048x11264, .f32⟩
  | 32 => ⟨S4x2048x5632, .f32⟩
  | 33 => ⟨S4x2048x5632, .f32⟩
  | 34 => ⟨S4x2048x5632, .f32⟩
  | 35 => ⟨S4x2048x5632, .f32⟩
  | 36 => ⟨S_, .f32⟩
  | 37 => ⟨S4x2048x5632, .f32⟩
  | 38 => ⟨S4x2048x5632, .f32⟩
  | 39 => ⟨S_, .f32⟩
  | 40 => ⟨S4x2048x5632, .f32⟩
  | 41 => ⟨S4x2048x5632, .f32⟩
  | 42 => ⟨S4x2048x5632, .f32⟩
  | 43 => ⟨S4x2048x5632, .f32⟩
  | 44 => ⟨S4x2048x2048, .f32⟩
  | 45 => ⟨S4x2048x2048, .f32⟩
  | 46 => ⟨S4x2048x2048, .f32⟩
  | 47 => ⟨S4x2048x2048, .f32⟩
  | 48 => ⟨S1x2048, .f32⟩
  | 49 => ⟨S2048, .f32⟩
  | 50 => ⟨S1x2048, .f32⟩
  | 51 => ⟨S2048, .f32⟩
  | 52 => ⟨S_, .f32⟩
  | 53 => ⟨S4x2048, .f32⟩
  | 54 => ⟨S4x2048x1, .f32⟩
  | 55 => ⟨S_, .f32⟩
  | 56 => ⟨S4x2048x1, .f32⟩
  | 57 => ⟨S4x2048x1, .f32⟩
  | 58 => ⟨S4x2048x2048, .f32⟩
  | 59 => ⟨S4x2048x2048, .f32⟩
  | 60 => ⟨S4x2048x2048, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S4x2048x2048, .f32⟩
  | 68 => ⟨S4x2048x2048, .f32⟩
  | 69 => ⟨S_, .f32⟩
  | 70 => ⟨S4x2048x1, .f32⟩
  | 71 => ⟨S4x2048x1, .f32⟩
  | 72 => ⟨S4x2048x1, .f32⟩
  | 73 => ⟨S4x2048x2048, .f32⟩
  | 74 => ⟨S4x2048x2048, .f32⟩
  | 75 => ⟨S1x1x2048, .f32⟩
  | 76 => ⟨S4x2048x2048, .f32⟩
  | 77 => ⟨S4x2048x2048, .f32⟩
  | 78 => ⟨S1x1x2048, .f32⟩
  | 79 => ⟨S4x2048x2048, .f32⟩
  | 80 => ⟨S4x2048x2048, .f32⟩
  | 81 => ⟨S_, .f32⟩
  | 82 => ⟨S4x256x2048, .f32⟩
  | 83 => ⟨S4x256x2048, .f32⟩
  | 84 => ⟨S1x1x2048, .f32⟩
  | 85 => ⟨S4x256x2048, .f32⟩
  | 86 => ⟨S4x256x2048, .f32⟩
  | 87 => ⟨S1x1x2048, .f32⟩
  | 88 => ⟨S4x256x2048, .f32⟩
  | 89 => ⟨S4x256x2048, .f32⟩
  | 90 => ⟨S4x256x11264, .f32⟩
  | 91 => ⟨S4x256x5632, .f32⟩
  | 92 => ⟨S4x256x5632, .f32⟩
  | 93 => ⟨S4x256x5632, .f32⟩
  | 94 => ⟨S4x256x5632, .f32⟩
  | 95 => ⟨S_, .f32⟩
  | 96 => ⟨S4x256x5632, .f32⟩
  | 97 => ⟨S4x256x5632, .f32⟩
  | 98 => ⟨S_, .f32⟩
  | 99 => ⟨S4x256x5632, .f32⟩
  | 100 => ⟨S4x256x5632, .f32⟩
  | 101 => ⟨S4x256x5632, .f32⟩
  | 102 => ⟨S4x256x5632, .f32⟩
  | 103 => ⟨S4x256x2048, .f32⟩
  | 104 => ⟨S1x1x2048, .f32⟩
  | 105 => ⟨S4x256x2048, .f32⟩
  | 106 => ⟨S4x256x2048, .f32⟩
  | 107 => ⟨S4x256x2048, .f32⟩
  | 108 => ⟨S1x2048, .f32⟩
  | 109 => ⟨S2048, .f32⟩
  | 110 => ⟨S1x2048, .f32⟩
  | 111 => ⟨S2048, .f32⟩
  | 112 => ⟨S_, .f32⟩
  | 113 => ⟨S4x256, .f32⟩
  | 114 => ⟨S4x256x1, .f32⟩
  | 115 => ⟨S_, .f32⟩
  | 116 => ⟨S4x256x1, .f32⟩
  | 117 => ⟨S4x256x1, .f32⟩
  | 118 => ⟨S4x256x2048, .f32⟩
  | 119 => ⟨S4x256x2048, .f32⟩
  | 120 => ⟨S4x256x2048, .f32⟩
  | 121 => ⟨S_, .f32⟩
  | 122 => ⟨S4x256, .f32⟩
  | 123 => ⟨S4x256x1, .f32⟩
  | 124 => ⟨S_, .f32⟩
  | 125 => ⟨S4x256x1, .f32⟩
  | 126 => ⟨S4x256x1, .f32⟩
  | 127 => ⟨S4x256x2048, .f32⟩
  | _ => ⟨S9216x2048, .f32⟩

abbrev hbmTy0_1 (i : Nat) : BufTy := match i % 128 with
  | 0 => ⟨S4x256x2048, .f32⟩
  | 1 => ⟨S_, .f32⟩
  | 2 => ⟨S4x256x1, .f32⟩
  | 3 => ⟨S4x256x1, .f32⟩
  | 4 => ⟨S4x256x1, .f32⟩
  | 5 => ⟨S4x256x2048, .f32⟩
  | 6 => ⟨S4x256x2048, .f32⟩
  | 7 => ⟨S1x1x2048, .f32⟩
  | 8 => ⟨S4x256x2048, .f32⟩
  | 9 => ⟨S4x256x2048, .f32⟩
  | 10 => ⟨S1x1x2048, .f32⟩
  | 11 => ⟨S4x256x2048, .f32⟩
  | 12 => ⟨S4x256x2048, .f32⟩
  | 13 => ⟨S4x2304x2048, .f32⟩
  | 14 => ⟨S9216x2048, .f32⟩
  | 15 => ⟨S1x10560x2048, .f32⟩
  | 16 => ⟨S10560x2048, .f32⟩
  | 17 => ⟨S10560x2048, .bf16⟩
  | _ => ⟨S9216x2048, .f32⟩

abbrev hbmTy (i : Nat) : BufTy := match i / 128 with
  | 0 => hbmTy0_0 i
  | 1 => hbmTy0_1 i
  | _ => ⟨S9216x2048, .f32⟩

abbrev bufTy : (tb : Table) → Fin (tcTables nBuf tb) → BufTy
  | .hbm, ⟨i, _⟩ => hbmTy i
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_0 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_6 : Ref sig .tc := ⟨.hbm, 112, rfl⟩
abbrev main_v82 : Ref sig .tc := ⟨.hbm, 113, rfl⟩
abbrev main_v83 : Ref sig .tc := ⟨.hbm, 114, rfl⟩
abbrev main_cst_7 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_8 : Ref sig .tc := ⟨.hbm, 121, rfl⟩
abbrev main_v89 : Ref sig .tc := ⟨.hbm, 122, rfl⟩
abbrev main_v90 : Ref sig .tc := ⟨.hbm, 123, rfl⟩
abbrev main_cst_9 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_10 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩

abbrev nD : Nat := 1
abbrev τ : Topo := Topo.v7x

variable {F : FTy → Type} [FloatOps F]
-- ==== Merge.lean ====
abbrev S9216x1024 : Shape := ⟨2, ![9216, 1024]⟩
abbrev S9216x10752 : Shape := ⟨2, ![9216, 10752]⟩
abbrev S3x1024x2048 : Shape := ⟨3, ![3, 1024, 2048]⟩
abbrev S2048x2048 : Shape := ⟨2, ![2048, 2048]⟩
abbrev S9216x2048 : Shape := ⟨2, ![9216, 2048]⟩
abbrev S2x6x8x1x2048 : Shape := ⟨5, ![2, 6, 8, 1, 2048]⟩
abbrev S2x2048 : Shape := ⟨2, ![2, 2048]⟩
abbrev S2x1x2048 : Shape := ⟨3, ![2, 1, 2048]⟩
abbrev S576x1024 : Shape := ⟨2, ![576, 1024]⟩
abbrev S576x512 : Shape := ⟨2, ![576, 512]⟩
abbrev S3x1024x512 : Shape := ⟨3, ![3, 1024, 512]⟩
abbrev S512x2048 : Shape := ⟨2, ![512, 2048]⟩
abbrev S576x2048 : Shape := ⟨2, ![576, 2048]⟩
abbrev S1x1x1x1x2048 : Shape := ⟨5, ![1, 1, 1, 1, 2048]⟩
abbrev S1x1x2048 : Shape := ⟨3, ![1, 1, 2048]⟩
abbrev S1x1024x512 : Shape := ⟨3, ![1, 1024, 512]⟩
abbrev S1024x512 : Shape := ⟨2, ![1024, 512]⟩
abbrev S1x2048 : Shape := ⟨2, ![1, 2048]⟩
abbrev S576x1 : Shape := ⟨2, ![576, 1]⟩
abbrev S576 : Shape := ⟨1, ![576]⟩

abbrev nBuf : Space → Nat
  | .hbm => 13
  | .vmem => 25
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S9216x10752, .bf16⟩
  | .hbm, ⟨4, _⟩ => ⟨S3x1024x2048, .bf16⟩
  | .hbm, ⟨5, _⟩ => ⟨S2048x2048, .bf16⟩
  | .hbm, ⟨6, _⟩ => ⟨S9216x2048, .f32⟩
  | .hbm, ⟨7, _⟩ => ⟨S2x6x8x1x2048, .f32⟩
  | .hbm, ⟨8, _⟩ => ⟨S2x2048, .f32⟩
  | .hbm, ⟨9, _⟩ => ⟨S2x2048, .f32⟩
  | .hbm, ⟨10, _⟩ => ⟨S2x1x2048, .f32⟩
  | .hbm, ⟨11, _⟩ => ⟨S2x1x2048, .f32⟩
  | .hbm, ⟨12, _⟩ => ⟨S9216x2048, .f32⟩
  | .local _ .vmem, ⟨0, _⟩ => ⟨S576x1024, .bf16⟩
  | .local _ .vmem, ⟨1, _⟩ => ⟨S576x1024, .bf16⟩
  | .local _ .vmem, ⟨2, _⟩ => ⟨S576x1024, .bf16⟩
  | .local _ .vmem, ⟨3, _⟩ => ⟨S576x1024, .bf16⟩
  | .local _ .vmem, ⟨4, _⟩ => ⟨S576x1024, .bf16⟩
  | .local _ .vmem, ⟨5, _⟩ => ⟨S576x1024, .bf16⟩
  | .local _ .vmem, ⟨6, _⟩ => ⟨S576x512, .bf16⟩
  | .local _ .vmem, ⟨7, _⟩ => ⟨S576x512, .bf16⟩
  | .local _ .vmem, ⟨8, _⟩ => ⟨S576x512, .bf16⟩
  | .local _ .vmem, ⟨9, _⟩ => ⟨S576x512, .bf16⟩
  | .local _ .vmem, ⟨10, _⟩ => ⟨S576x512, .bf16⟩
  | .local _ .vmem, ⟨11, _⟩ => ⟨S576x512, .bf16⟩
  | .local _ .vmem, ⟨12, _⟩ => ⟨S3x1024x512, .bf16⟩
  | .local _ .vmem, ⟨13, _⟩ => ⟨S3x1024x512, .bf16⟩
  | .local _ .vmem, ⟨14, _⟩ => ⟨S512x2048, .bf16⟩
  | .local _ .vmem, ⟨15, _⟩ => ⟨S512x2048, .bf16⟩
  | .local _ .vmem, ⟨16, _⟩ => ⟨S576x2048, .f32⟩
  | .local _ .vmem, ⟨17, _⟩ => ⟨S576x2048, .f32⟩
  | .local _ .vmem, ⟨18, _⟩ => ⟨S1x1x1x1x2048, .f32⟩
  | .local _ .vmem, ⟨19, _⟩ => ⟨S1x1x1x1x2048, .f32⟩
  | .local _ .vmem, ⟨20, _⟩ => ⟨S1x1x1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S576x2048, .f32⟩
  | .local _ .vmem, ⟨24, _⟩ => ⟨S576x2048, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  let c0_i32_6 : BitVec 32 := 0#32
  let c0_i32_7 : BitVec 32 := 0#32
  ![c0_i32_4.toNat, c2_i32.toNat, v16.toNat, c0_i32_5.toNat, c0_i32_6.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c4_i32 : BitVec 32 := 4#32
  let c0_i32_0 : BitVec 32 := 0#32
  let c0_i32_1 : BitVec 32 := 0#32
  let c0_i32_2 : BitVec 32 := 0#32
  ![c0_i32.toNat, c2_i32.toNat, c4_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S576x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S576x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S576x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S576x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S576x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S576x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S576x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1x1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S576x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MergeReferenceIdeal.lean ====
abbrev S9216x1024 : Shape := ⟨2, ![9216, 1024]⟩
abbrev S9216x10752 : Shape := ⟨2, ![9216, 10752]⟩
abbrev S3x1024x2048 : Shape := ⟨3, ![3, 1024, 2048]⟩
abbrev S2048x2048 : Shape := ⟨2, ![2048, 2048]⟩
abbrev S9216x2048 : Shape := ⟨2, ![9216, 2048]⟩
abbrev S2x6x8x1x2048 : Shape := ⟨5, ![2, 6, 8, 1, 2048]⟩
abbrev S2x2048 : Shape := ⟨2, ![2, 2048]⟩
abbrev S9216x1x1024 : Shape := ⟨3, ![9216, 1, 1024]⟩
abbrev S9216x3x1024 : Shape := ⟨3, ![9216, 3, 1024]⟩
abbrev S3x2048x9216 : Shape := ⟨3, ![3, 2048, 9216]⟩
abbrev S9216x3x2048 : Shape := ⟨3, ![9216, 3, 2048]⟩
abbrev S9216x6144 : Shape := ⟨2, ![9216, 6144]⟩
abbrev S_ : Shape := ⟨0, ![]⟩
abbrev S4x2304x2048 : Shape := ⟨3, ![4, 2304, 2048]⟩
abbrev S1x1x4x1x2048 : Shape := ⟨5, ![1, 1, 4, 1, 2048]⟩
abbrev S4x1x2048 : Shape := ⟨3, ![4, 1, 2048]⟩
abbrev S1x1x1x1x2048 : Shape := ⟨5, ![1, 1, 1, 1, 2048]⟩
abbrev S2048 : Shape := ⟨1, ![2048]⟩
abbrev S4x2048x2048 : Shape := ⟨3, ![4, 2048, 2048]⟩
abbrev S1x2048 : Shape := ⟨2, ![1, 2048]⟩
abbrev S4x2048 : Shape := ⟨2, ![4, 2048]⟩
abbrev S4x2048x1 : Shape := ⟨3, ![4, 2048, 1]⟩
abbrev S1x1x2048 : Shape := ⟨3, ![1, 1, 2048]⟩
abbrev S4x256x2048 : Shape := ⟨3, ![4, 256, 2048]⟩
abbrev S4x256 : Shape := ⟨2, ![4, 256]⟩
abbrev S4x256x1 : Shape := ⟨3, ![4, 256, 1]⟩

abbrev nBuf : Space → Nat
  | .hbm => 125
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S9216x10752, .bf16⟩
  | .hbm, ⟨4, _⟩ => ⟨S3x1024x2048, .bf16⟩
  | .hbm, ⟨5, _⟩ => ⟨S2048x2048, .bf16⟩
  | .hbm, ⟨6, _⟩ => ⟨S9216x2048, .f32⟩
  | .hbm, ⟨7, _⟩ => ⟨S2x6x8x1x2048, .f32⟩
  | .hbm, ⟨8, _⟩ => ⟨S2x2048, .f32⟩
  | .hbm, ⟨9, _⟩ => ⟨S2x2048, .f32⟩
  | .hbm, ⟨10, _⟩ => ⟨S9216x1x1024, .bf16⟩
  | .hbm, ⟨11, _⟩ => ⟨S9216x1x1024, .bf16⟩
  | .hbm, ⟨12, _⟩ => ⟨S9216x1x1024, .bf16⟩
  | .hbm, ⟨13, _⟩ => ⟨S9216x3x1024, .bf16⟩
  | .hbm, ⟨14, _⟩ => ⟨S9216x3x1024, .f32⟩
  | .hbm, ⟨15, _⟩ => ⟨S3x1024x2048, .f32⟩
  | .hbm, ⟨16, _⟩ => ⟨S3x2048x9216, .f32⟩
  | .hbm, ⟨17, _⟩ => ⟨S9216x3x2048, .f32⟩
  | .hbm, ⟨18, _⟩ => ⟨S9216x6144, .bf16⟩
  | .hbm, ⟨19, _⟩ => ⟨S9216x6144, .f32⟩
  | .hbm, ⟨20, _⟩ => ⟨S9216x3x2048, .f32⟩
  | .hbm, ⟨21, _⟩ => ⟨S9216x3x2048, .f32⟩
  | .hbm, ⟨22, _⟩ => ⟨S9216x3x2048, .f32⟩
  | .hbm, ⟨23, _⟩ => ⟨S_, .f32⟩
  | .hbm, ⟨24, _⟩ => ⟨S9216x3x2048, .f32⟩
  | .hbm, ⟨25, _⟩ => ⟨S9216x3x2048, .f32⟩
  | .hbm, ⟨26, _⟩ => ⟨S_, .f32⟩
  | .hbm, ⟨27, _⟩ => ⟨S9216x3x2048, .f32⟩
  | .hbm, ⟨28, _⟩ => ⟨S9216x3x2048, .f32⟩
  | .hbm, ⟨29, _⟩ => ⟨S9216x3x2048, .f32⟩
  | .hbm, ⟨30, _⟩ => ⟨S_, .f32⟩
  | .hbm, ⟨31, _⟩ => ⟨S9216x2048, .f32⟩
  | .hbm, ⟨32, _⟩ => ⟨S2048x2048, .f32⟩
  | .hbm, ⟨33, _⟩ => ⟨S9216x2048, .f32⟩
  | .hbm, ⟨34, _⟩ => ⟨S4x2304x2048, .f32⟩
  | .hbm, ⟨35, _⟩ => ⟨S4x2304x2048, .f32⟩
  | .hbm, ⟨36, _⟩ => ⟨S1x1x4x1x2048, .f32⟩
  | .hbm, ⟨37, _⟩ => ⟨S4x1x2048, .f32⟩
  | .hbm, ⟨38, _⟩ => ⟨S1x1x1x1x2048, .f32⟩
  | .hbm, ⟨39, _⟩ => ⟨S2048, .f32⟩
  | .hbm, ⟨40, _⟩ => ⟨S4x2048x2048, .f32⟩
  | .hbm, ⟨41, _⟩ => ⟨S_, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S1x2048, .f32⟩
  | .hbm, ⟨49, _⟩ => ⟨S2048, .f32⟩
  | .hbm, ⟨50, _⟩ => ⟨S1x2048, .f32⟩
  | .hbm, ⟨51, _⟩ => ⟨S2048, .f32⟩
  | .hbm, ⟨52, _⟩ => ⟨S_, .f32⟩
  | .hbm, ⟨53, _⟩ => ⟨S4x2048, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S4x2048x2048, .f32⟩
  | .hbm, ⟨68, _⟩ => ⟨S4x2048x2048, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S4x2048x1, .f32⟩
  | .hbm, ⟨73, _⟩ => ⟨S4x2048x2048, .f32⟩
  | .hbm, ⟨74, _⟩ => ⟨S4x2048x2048, .f32⟩
  | .hbm, ⟨75, _⟩ => ⟨S1x1x2048, .f32⟩
  | .hbm, ⟨76, _⟩ => ⟨S4x2048x2048, .f32⟩
  | .hbm, ⟨77, _⟩ => ⟨S4x2048x2048, .f32⟩
  | .hbm, ⟨78, _⟩ => ⟨S1x1x2048, .f32⟩
  | .hbm, ⟨79, _⟩ => ⟨S4x2048x2048, .f32⟩
  | .hbm, ⟨80, _⟩ => ⟨S4x2048x2048, .f32⟩
  | .hbm, ⟨81, _⟩ => ⟨S4x256x2048, .f32⟩
  | .hbm, ⟨82, _⟩ => ⟨S_, .f32⟩
  | .hbm, ⟨83, _⟩ => ⟨S4x256x2048, .f32⟩
  | .hbm, ⟨84, _⟩ => ⟨S4x256x2048, .f32⟩
  | .hbm, ⟨85, _⟩ => ⟨S4x256x2048, .f32⟩
  | .hbm, ⟨86, _⟩ => ⟨S1x1x2048, .f32⟩
  | .hbm, ⟨87, _⟩ => ⟨S4x256x2048, .f32⟩
  | .hbm, ⟨88, _⟩ => ⟨S4x256x2048, .f32⟩
  | .hbm, ⟨89, _⟩ => ⟨S4x256x2048, .f32⟩
  | .hbm, ⟨90, _⟩ => ⟨S1x2048, .f32⟩
  | .hbm, ⟨91, _⟩ => ⟨S2048, .f32⟩
  | .hbm, ⟨92, _⟩ => ⟨S1x2048, .f32⟩
  | .hbm, ⟨93, _⟩ => ⟨S2048, .f32⟩
  | .hbm, ⟨94, _⟩ => ⟨S_, .f32⟩
  | .hbm, ⟨95, _⟩ => ⟨S4x256, .f32⟩
  | .hbm, ⟨96, _⟩ => ⟨S4x256x1, .f32⟩
  | .hbm, ⟨97, _⟩ => ⟨S_, .f32⟩
  | .hbm, ⟨98, _⟩ => ⟨S4x256x1, .f32⟩
  | .hbm, ⟨99, _⟩ => ⟨S4x256x1, .f32⟩
  | .hbm, ⟨100, _⟩ => ⟨S4x256x2048, .f32⟩
  | .hbm, ⟨101, _⟩ => ⟨S4x256x2048, .f32⟩
  | .hbm, ⟨102, _⟩ => ⟨S4x256x2048, .f32⟩
  | .hbm, ⟨103, _⟩ => ⟨S_, .f32⟩
  | .hbm, ⟨104, _⟩ => ⟨S4x256, .f32⟩
  | .hbm, ⟨105, _⟩ => ⟨S4x256x1, .f32⟩
  | .hbm, ⟨106, _⟩ => ⟨S_, .f32⟩
  | .hbm, ⟨107, _⟩ => ⟨S4x256x1, .f32⟩
  | .hbm, ⟨108, _⟩ => ⟨S4x256x1, .f32⟩
  | .hbm, ⟨109, _⟩ => ⟨S4x256x2048, .f32⟩
  | .hbm, ⟨110, _⟩ => ⟨S4x256x2048, .f32⟩
  | .hbm, ⟨111, _⟩ => ⟨S_, .f32⟩
  | .hbm, ⟨112, _⟩ => ⟨S4x256x1, .f32⟩
  | .hbm, ⟨113, _⟩ => ⟨S4x256x1, .f32⟩
  | .hbm, ⟨114, _⟩ => ⟨S4x256x1, .f32⟩
  | .hbm, ⟨115, _⟩ => ⟨S4x256x2048, .f32⟩
  | .hbm, ⟨116, _⟩ => ⟨S4x256x2048, .f32⟩
  | .hbm, ⟨117, _⟩ => ⟨S1x1x2048, .f32⟩
  | .hbm, ⟨118, _⟩ => ⟨S4x256x2048, .f32⟩
  | .hbm, ⟨119, _⟩ => ⟨S4x256x2048, .f32⟩
  | .hbm, ⟨120, _⟩ => ⟨S1x1x2048, .f32⟩
  | .hbm, ⟨121, _⟩ => ⟨S4x256x2048, .f32⟩
  | .hbm, ⟨122, _⟩ => ⟨S4x256x2048, .f32⟩
  | .hbm, ⟨123, _⟩ => ⟨S4x2304x2048, .f32⟩
  | .hbm, ⟨124, _⟩ => ⟨S9216x2048, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_v82 : Ref sig .tc := ⟨.hbm, 105, rfl⟩
abbrev main_cst_12 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩

abbrev nD : Nat := 1
abbrev τ : Topo := Topo.v7x

variable {F : FTy → Type} [FloatOps F]
-- ==== Prep.lean ====
abbrev S9216x10752 : Shape := ⟨2, ![9216, 10752]⟩
abbrev S2x512 : Shape := ⟨2, ![2, 512]⟩
abbrev S2x512x1536 : Shape := ⟨3, ![2, 512, 1536]⟩
abbrev S2x256 : Shape := ⟨2, ![2, 256]⟩
abbrev S2x256x2048 : Shape := ⟨3, ![2, 256, 2048]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S256x128 : Shape := ⟨2, ![256, 128]⟩
abbrev S2304x128 : Shape := ⟨2, ![2304, 128]⟩
abbrev S2x512x8x192 : Shape := ⟨4, ![2, 512, 8, 192]⟩
abbrev S2x512x8x256 : Shape := ⟨4, ![2, 512, 8, 256]⟩
abbrev S2x256x8x256 : Shape := ⟨4, ![2, 256, 8, 256]⟩
abbrev S2x256x8x128 : Shape := ⟨4, ![2, 256, 8, 128]⟩
abbrev S2x256x1024 : Shape := ⟨3, ![2, 256, 1024]⟩
abbrev S2x512x2048 : Shape := ⟨3, ![2, 512, 2048]⟩
abbrev S2x1x512 : Shape := ⟨3, ![2, 1, 512]⟩
abbrev S2x1x256 : Shape := ⟨3, ![2, 1, 256]⟩
abbrev S9216x2048 : Shape := ⟨2, ![9216, 2048]⟩
abbrev S9216x1024 : Shape := ⟨2, ![9216, 1024]⟩
abbrev S576x512 : Shape := ⟨2, ![576, 512]⟩
abbrev S576x256 : Shape := ⟨2, ![576, 256]⟩
abbrev S576x128 : Shape := ⟨2, ![576, 128]⟩
abbrev S1x1x512 : Shape := ⟨3, ![1, 1, 512]⟩
abbrev S1x512x2048 : Shape := ⟨3, ![1, 512, 2048]⟩
abbrev S1x1x256 : Shape := ⟨3, ![1, 1, 256]⟩
abbrev S1x256x1024 : Shape := ⟨3, ![1, 256, 1024]⟩
abbrev S576x2048 : Shape := ⟨2, ![576, 2048]⟩
abbrev S576x1024 : Shape := ⟨2, ![576, 1024]⟩
abbrev S1x512 : Shape := ⟨2, ![1, 512]⟩
abbrev S576 : Shape := ⟨1, ![576]⟩
abbrev S576x1 : Shape := ⟨2, ![576, 1]⟩
abbrev S512x2048 : Shape := ⟨2, ![512, 2048]⟩
abbrev S1x256 : Shape := ⟨2, ![1, 256]⟩
abbrev S256x1024 : Shape := ⟨2, ![256, 1024]⟩
abbrev S1x128 : Shape := ⟨2, ![1, 128]⟩

abbrev nBuf : Space → Nat
  | .hbm => 78
  | .vmem => 21
  | .smem => 0
  | _ => 0

abbrev bufTy : (tb : Table) → Fin (tcTables nBuf tb) → BufTy
  | .hbm, ⟨0, _⟩ => ⟨S9216x10752, .bf16⟩
  | .hbm, ⟨1, _⟩ => ⟨S2x512, .f32⟩
  | .hbm, ⟨2, _⟩ => ⟨S2x512x1536, .f32⟩
  | .hbm, ⟨3, _⟩ => ⟨S2x256, .f32⟩
  | .hbm, ⟨4, _⟩ => ⟨S2x256x2048, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S2048x1, .f32⟩
  | .hbm, ⟨27, _⟩ => ⟨S1x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x1, .f32⟩
  | .hbm, ⟨32, _⟩ => ⟨S1x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x64, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x64, .f32⟩
  | .hbm, ⟨48, _⟩ => ⟨S_, .f32⟩
  | .hbm, ⟨49, _⟩ => ⟨S2048x64, .f32⟩
  | .hbm, ⟨50, _⟩ => ⟨S2048x128, .f32⟩
  | .hbm, ⟨51, _⟩ => ⟨S_, .f32⟩
  | .hbm, ⟨52, _⟩ => ⟨S2048x64, .f32⟩
  | .hbm, ⟨53, _⟩ => ⟨S2048x128, .f32⟩
  | .hbm, ⟨54, _⟩ => ⟨S_, .f32⟩
  | .hbm, ⟨55, _⟩ => ⟨S256x128, .f32⟩
  | .hbm, ⟨56, _⟩ => ⟨S2304x128, .f32⟩
  | .hbm, ⟨57, _⟩ => ⟨S_, .f32⟩
  | .hbm, ⟨58, _⟩ => ⟨S256x128, .f32⟩
  | .hbm, ⟨59, _⟩ => ⟨S2304x128, .f32⟩
  | .hbm, ⟨60, _⟩ => ⟨S2x512x8x192, .f32⟩
  | .hbm, ⟨61, _⟩ => ⟨S_, .i32⟩
  | .hbm, ⟨62, _⟩ => ⟨S_, .f32⟩
  | .hbm, ⟨63, _⟩ => ⟨S2x512x8x256, .f32⟩
  | .hbm, ⟨64, _⟩ => ⟨S2x256x8x256, .f32⟩
  | .hbm, ⟨65, _⟩ => ⟨S2x256x8x128, .f32⟩
  | .hbm, ⟨66, _⟩ => ⟨S2x256x1024, .f32⟩
  | .hbm, ⟨67, _⟩ => ⟨S2x256x8x128, .f32⟩
  | .hbm, ⟨68, _⟩ => ⟨S2x256x1024, .f32⟩
  | .hbm, ⟨69, _⟩ => ⟨S2x512x2048, .f32⟩
  | .hbm, ⟨70, _⟩ => ⟨S2x512x2048, .bf16⟩
  | .hbm, ⟨71, _⟩ => ⟨S2x256x1024, .bf16⟩
  | .hbm, ⟨72, _⟩ => ⟨S2x256x1024, .bf16⟩
  | .hbm, ⟨73, _⟩ => ⟨S2x1x512, .f32⟩
  | .hbm, ⟨74, _⟩ => ⟨S2x1x256, .f32⟩
  | .hbm, ⟨75, _⟩ => ⟨S9216x2048, .bf16⟩
  | .hbm, ⟨76, _⟩ => ⟨S9216x2048, .bf16⟩
  | .hbm, ⟨77, _⟩ => ⟨S9216x1024, .bf16⟩
  | .local _ .vmem, ⟨0, _⟩ => ⟨S576x512, .bf16⟩
  | .local _ .vmem, ⟨1, _⟩ => ⟨S576x512, .bf16⟩
  | .local _ .vmem, ⟨2, _⟩ => ⟨S576x256, .bf16⟩
  | .local _ .vmem, ⟨3, _⟩ => ⟨S576x256, .bf16⟩
  | .local _ .vmem, ⟨4, _⟩ => ⟨S576x128, .bf16⟩
  | .local _ .vmem, ⟨5, _⟩ => ⟨S576x128, .bf16⟩
  | .local _ .vmem, ⟨6, _⟩ => ⟨S1x1x512, .f32⟩
  | .local _ .vmem, ⟨7, _⟩ => ⟨S1x512x2048, .bf16⟩
  | .local _ .vmem, ⟨8, _⟩ => ⟨S1x1x256, .f32⟩
  | .local _ .vmem, ⟨9, _⟩ => ⟨S1x256x1024, .bf16⟩
  | .local _ .vmem, ⟨10, _⟩ => ⟨S1x256x1024, .bf16⟩
  | .local _ .vmem, ⟨11, _⟩ => ⟨S576x128, .f32⟩
  | .local _ .vmem, ⟨12, _⟩ => ⟨S576x128, .f32⟩
  | .local _ .vmem, ⟨13, _⟩ => ⟨S576x128, .f32⟩
  | .local _ .vmem, ⟨14, _⟩ => ⟨S576x128, .f32⟩
  | .local _ .vmem, ⟨15, _⟩ => ⟨S576x2048, .bf16⟩
  | .local _ .vmem, ⟨16, _⟩ => ⟨S576x2048, .bf16⟩
  | .local _ .vmem, ⟨17, _⟩ => ⟨S576x2048, .bf16⟩
  | .local _ .vmem, ⟨18, _⟩ => ⟨S576x2048, .bf16⟩
  | .local _ .vmem, ⟨19, _⟩ => ⟨S576x1024, .bf16⟩
  | .local _ .vmem, ⟨20, _⟩ => ⟨S576x1024, .bf16⟩
  | _, _ => ⟨S9216x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c : Ref sig .tc := ⟨.hbm, 61, rfl⟩
abbrev main_call0_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60_0 : Ref sig .tc := ⟨.hbm, 75, rfl⟩
abbrev main_v60_1 : Ref sig .tc := ⟨.hbm, 76, rfl⟩
abbrev main_v60_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S576x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S576x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S576x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S576x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S576x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S576x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S576x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S576x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PrepReferenceIdeal.lean ====
abbrev S9216x10752 : Shape := ⟨2, ![9216, 10752]⟩
abbrev S2x512 : Shape := ⟨2, ![2, 512]⟩
abbrev S2x512x1536 : Shape := ⟨3, ![2, 512, 1536]⟩
abbrev S2x256 : Shape := ⟨2, ![2, 256]⟩
abbrev S2x256x2048 : Shape := ⟨3, ![2, 256, 2048]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S4x2304x10752 : Shape := ⟨3, ![4, 2304, 10752]⟩
abbrev S4x2304x512 : Shape := ⟨3, ![4, 2304, 512]⟩
abbrev S4x2304x256 : Shape := ⟨3, ![4, 2304, 256]⟩
abbrev S4x2304x64 : Shape := ⟨3, ![4, 2304, 64]⟩
abbrev S1x512 : Shape := ⟨2, ![1, 512]⟩
abbrev S512 : Shape := ⟨1, ![512]⟩
abbrev S4x2304 : Shape := ⟨2, ![4, 2304]⟩
abbrev S4x2304x1 : Shape := ⟨3, ![4, 2304, 1]⟩
abbrev S1x1x512 : Shape := ⟨3, ![1, 1, 512]⟩
abbrev S1x512x1536 : Shape := ⟨3, ![1, 512, 1536]⟩
abbrev S512x1536 : Shape := ⟨2, ![512, 1536]⟩
abbrev S4x2304x1536 : Shape := ⟨3, ![4, 2304, 1536]⟩
abbrev S4x2304x8x192 : Shape := ⟨4, ![4, 2304, 8, 192]⟩
abbrev S1x256 : Shape := ⟨2, ![1, 256]⟩
abbrev S256 : Shape := ⟨1, ![256]⟩
abbrev S1x1x256 : Shape := ⟨3, ![1, 1, 256]⟩
abbrev S1x256x2048 : Shape := ⟨3, ![1, 256, 2048]⟩
abbrev S256x2048 : Shape := ⟨2, ![256, 2048]⟩
abbrev S4x2304x2048 : Shape := ⟨3, ![4, 2304, 2048]⟩
abbrev S4x2304x8x256 : Shape := ⟨4, ![4, 2304, 8, 256]⟩
abbrev S4x2304x1x64 : Shape := ⟨4, ![4, 2304, 1, 64]⟩
abbrev S4x256x1x64 : Shape := ⟨4, ![4, 256, 1, 64]⟩
abbrev S4x2048x1x64 : Shape := ⟨4, ![4, 2048, 1, 64]⟩
abbrev S4x2048x1x32 : Shape := ⟨4, ![4, 2048, 1, 32]⟩
abbrev S1x2048x1x16 : Shape := ⟨4, ![1, 2048, 1, 16]⟩
abbrev S4x2048x1x16 : Shape := ⟨4, ![4, 2048, 1, 16]⟩
abbrev S4x2304x8x64 : Shape := ⟨4, ![4, 2304, 8, 64]⟩
abbrev S4x2304x8x128 : Shape := ⟨4, ![4, 2304, 8, 128]⟩
abbrev S4x256x8x64 : Shape := ⟨4, ![4, 256, 8, 64]⟩
abbrev S4x2048x8x64 : Shape := ⟨4, ![4, 2048, 8, 64]⟩
abbrev S4x2048x8x32 : Shape := ⟨4, ![4, 2048, 8, 32]⟩
abbrev S4x2048x8x16 : Shape := ⟨4, ![4, 2048, 8, 16]⟩
abbrev S9216x2048 : Shape := ⟨2, ![9216, 2048]⟩
abbrev S9216x1024 : Shape := ⟨2, ![9216, 1024]⟩

abbrev nBuf : Space → Nat
  | .hbm => 185
  | .vmem => 0
  | .smem => 0
  | _ => 0

abbrev hbmTy0_0 (i : Nat) : BufTy := match i % 128 with
  | 0 => ⟨S9216x10752, .bf16⟩
  | 1 => ⟨S2x512, .f32⟩
  | 2 => ⟨S2x512x1536, .f32⟩
  | 3 => ⟨S2x256, .f32⟩
  | 4 => ⟨S2x256x2048, .f32⟩
  | 5 => ⟨S32, .f32⟩
  | 6 => ⟨S32x64, .f32⟩
  | 7 => ⟨S2048, .f32⟩
  | 8 => ⟨S64, .f32⟩
  | 9 => ⟨S1x64, .f32⟩
  | 10 => ⟨S32x64, .f32⟩
  | 11 => ⟨S2048, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S2048x1, .f32⟩
  | 27 => ⟨S1x16, .f32⟩
  | 28 => ⟨S2048x16, .f32⟩
  | 29 => ⟨S2048x16, .f32⟩
  | 30 => ⟨S2048x16, .f32⟩
  | 31 => ⟨S2048x1, .f32⟩
  | 32 => ⟨S1x16, .f32⟩
  | 33 => ⟨S2048x16, .f32⟩
  | 34 => ⟨S2048x16, .f32⟩
  | 35 => ⟨S2048x16, .f32⟩
  | 36 => ⟨S9216x10752, .f32⟩
  | 37 => ⟨S4x2304x10752, .f32⟩
  | 38 => ⟨S4x2304x512, .f32⟩
  | 39 => ⟨S4x2304x256, .f32⟩
  | 40 => ⟨S4x2304x64, .f32⟩
  | 41 => ⟨S1x512, .f32⟩
  | 42 => ⟨S512, .f32⟩
  | 43 => ⟨S4x2304x512, .f32⟩
  | 44 => ⟨S_, .f32⟩
  | 45 => ⟨S4x2304, .f32⟩
  | 46 => ⟨S4x2304x1, .f32⟩
  | 47 => ⟨S_, .f32⟩
  | 48 => ⟨S4x2304x1, .f32⟩
  | 49 => ⟨S4x2304x1, .f32⟩
  | 50 => ⟨S_, .f32⟩
  | 51 => ⟨S4x2304x1, .f32⟩
  | 52 => ⟨S4x2304x1, .f32⟩
  | 53 => ⟨S4x2304x1, .f32⟩
  | 54 => ⟨S4x2304x512, .f32⟩
  | 55 => ⟨S4x2304x512, .f32⟩
  | 56 => ⟨S1x1x512, .f32⟩
  | 57 => ⟨S4x2304x512, .f32⟩
  | 58 => ⟨S4x2304x512, .f32⟩
  | 59 => ⟨S1x512x1536, .f32⟩
  | 60 => ⟨S512x1536, .f32⟩
  | 61 => ⟨S4x2304x1536, .f32⟩
  | 62 => ⟨S4x2304x8x192, .f32⟩
  | 63 => ⟨S1x256, .f32⟩
  | 64 => ⟨S256, .f32⟩
  | 65 => ⟨S4x2304x256, .f32⟩
  | 66 => ⟨S_, .f32⟩
  | 67 => ⟨S4x2304, .f32⟩
  | 68 => ⟨S4x2304x1, .f32⟩
  | 69 => ⟨S_, .f32⟩
  | 70 => ⟨S4x2304x1, .f32⟩
  | 71 => ⟨S4x2304x1, .f32⟩
  | 72 => ⟨S_, .f32⟩
  | 73 => ⟨S4x2304x1, .f32⟩
  | 74 => ⟨S4x2304x1, .f32⟩
  | 75 => ⟨S4x2304x1, .f32⟩
  | 76 => ⟨S4x2304x256, .f32⟩
  | 77 => ⟨S4x2304x256, .f32⟩
  | 78 => ⟨S1x1x256, .f32⟩
  | 79 => ⟨S4x2304x256, .f32⟩
  | 80 => ⟨S4x2304x256, .f32⟩
  | 81 => ⟨S1x256x2048, .f32⟩
  | 82 => ⟨S256x2048, .f32⟩
  | 83 => ⟨S4x2304x2048, .f32⟩
  | 84 => ⟨S4x2304x8x256, .f32⟩
  | 85 => ⟨S4x2304x1x64, .f32⟩
  | 86 => ⟨S4x256x1x64, .f32⟩
  | 87 => ⟨S4x2048x1x64, .f32⟩
  | 88 => ⟨S4x2048x1x32, .f32⟩
  | 89 => ⟨S2048x16, .f32⟩
  | 90 => ⟨S1x2048x1x16, .f32⟩
  | 91 => ⟨S2048x16, .f32⟩
  | 92 => ⟨S1x2048x1x16, .f32⟩
  | 93 => ⟨S4x2048x1x16, .f32⟩
  | 94 => ⟨S4x2048x1x16, .f32⟩
  | 95 => ⟨S4x2048x1x16, .f32⟩
  | 96 => ⟨S4x2048x1x16, .f32⟩
  | 97 => ⟨S4x2048x1x16, .f32⟩
  | 98 => ⟨S4x2048x1x16, .f32⟩
  | 99 => ⟨S4x2048x1x16, .f32⟩
  | 100 => ⟨S4x2048x1x16, .f32⟩
  | 101 => ⟨S4x2048x1x16, .f32⟩
  | 102 => ⟨S4x2048x1x16, .f32⟩
  | 103 => ⟨S4x2048x1x16, .f32⟩
  | 104 => ⟨S4x2048x1x16, .f32⟩
  | 105 => ⟨S4x2048x1x32, .f32⟩
  | 106 => ⟨S4x2048x1x32, .f32⟩
  | 107 => ⟨S2048x16, .f32⟩
  | 108 => ⟨S1x2048x1x16, .f32⟩
  | 109 => ⟨S2048x16, .f32⟩
  | 110 => ⟨S1x2048x1x16, .f32⟩
  | 111 => ⟨S4x2048x1x16, .f32⟩
  | 112 => ⟨S4x2048x1x16, .f32⟩
  | 113 => ⟨S4x2048x1x16, .f32⟩
  | 114 => ⟨S4x2048x1x16, .f32⟩
  | 115 => ⟨S4x2048x1x16, .f32⟩
  | 116 => ⟨S4x2048x1x16, .f32⟩
  | 117 => ⟨S4x2048x1x16, .f32⟩
  | 118 => ⟨S4x2048x1x16, .f32⟩
  | 119 => ⟨S4x2048x1x16, .f32⟩
  | 120 => ⟨S4x2048x1x16, .f32⟩
  | 121 => ⟨S4x2048x1x16, .f32⟩
  | 122 => ⟨S4x2048x1x16, .f32⟩
  | 123 => ⟨S4x2048x1x32, .f32⟩
  | 124 => ⟨S4x2048x1x64, .f32⟩
  | 125 => ⟨S4x2304x1x64, .f32⟩
  | 126 => ⟨S4x2304x8x64, .f32⟩
  | 127 => ⟨S_, .f32⟩
  | _ => ⟨S9216x10752, .bf16⟩

abbrev hbmTy0_1 (i : Nat) : BufTy := match i % 128 with
  | 0 => ⟨S4x2304x8x64, .f32⟩
  | 1 => ⟨S4x2304x8x128, .f32⟩
  | 2 => ⟨S4x2304x8x64, .f32⟩
  | 3 => ⟨S4x256x8x64, .f32⟩
  | 4 => ⟨S4x2048x8x64, .f32⟩
  | 5 => ⟨S4x2048x8x32, .f32⟩
  | 6 => ⟨S2048x16, .f32⟩
  | 7 => ⟨S1x2048x1x16, .f32⟩
  | 8 => ⟨S2048x16, .f32⟩
  | 9 => ⟨S1x2048x1x16, .f32⟩
  | 10 => ⟨S4x2048x8x16, .f32⟩
  | 11 => ⟨S4x2048x8x16, .f32⟩
  | 12 => ⟨S4x2048x8x16, .f32⟩
  | 13 => ⟨S4x2048x8x16, .f32⟩
  | 14 => ⟨S4x2048x8x16, .f32⟩
  | 15 => ⟨S4x2048x8x16, .f32⟩
  | 16 => ⟨S4x2048x8x16, .f32⟩
  | 17 => ⟨S4x2048x8x16, .f32⟩
  | 18 => ⟨S4x2048x8x16, .f32⟩
  | 19 => ⟨S4x2048x8x16, .f32⟩
  | 20 => ⟨S4x2048x8x16, .f32⟩
  | 21 => ⟨S4x2048x8x16, .f32⟩
  | 22 => ⟨S4x2048x8x32, .f32⟩
  | 23 => ⟨S4x2048x8x32, .f32⟩
  | 24 => ⟨S2048x16, .f32⟩
  | 25 => ⟨S1x2048x1x16, .f32⟩
  | 26 => ⟨S2048x16, .f32⟩
  | 27 => ⟨S1x2048x1x16, .f32⟩
  | 28 => ⟨S4x2048x8x16, .f32⟩
  | 29 => ⟨S4x2048x8x16, .f32⟩
  | 30 => ⟨S4x2048x8x16, .f32⟩
  | 31 => ⟨S4x2048x8x16, .f32⟩
  | 32 => ⟨S4x2048x8x16, .f32⟩
  | 33 => ⟨S4x2048x8x16, .f32⟩
  | 34 => ⟨S4x2048x8x16, .f32⟩
  | 35 => ⟨S4x2048x8x16, .f32⟩
  | 36 => ⟨S4x2048x8x16, .f32⟩
  | 37 => ⟨S4x2048x8x16, .f32⟩
  | 38 => ⟨S4x2048x8x16, .f32⟩
  | 39 => ⟨S4x2048x8x16, .f32⟩
  | 40 => ⟨S4x2048x8x32, .f32⟩
  | 41 => ⟨S4x2048x8x64, .f32⟩
  | 42 => ⟨S4x2304x8x64, .f32⟩
  | 43 => ⟨S4x2304x8x192, .f32⟩
  | 44 => ⟨S_, .f32⟩
  | 45 => ⟨S4x2304x8x192, .f32⟩
  | 46 => ⟨S4x2304x8x192, .f32⟩
  | 47 => ⟨S4x2304x8x256, .f32⟩
  | 48 => ⟨S4x2304x8x128, .f32⟩
  | 49 => ⟨S4x2304x8x256, .f32⟩
  | 50 => ⟨S4x2304x8x128, .f32⟩
  | 51 => ⟨S9216x2048, .f32⟩
  | 52 => ⟨S9216x2048, .bf16⟩
  | 53 => ⟨S9216x2048, .f32⟩
  | 54 => ⟨S9216x2048, .bf16⟩
  | 55 => ⟨S9216x1024, .f32⟩
  | 56 => ⟨S9216x1024, .bf16⟩
  | _ => ⟨S9216x10752, .bf16⟩

abbrev hbmTy (i : Nat) : BufTy := match i / 128 with
  | 0 => hbmTy0_0 i
  | 1 => hbmTy0_1 i
  | _ => ⟨S9216x10752, .bf16⟩

abbrev bufTy : (tb : Table) → Fin (tcTables nBuf tb) → BufTy
  | .hbm, ⟨i, _⟩ => hbmTy i
  | _, _ => ⟨S9216x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_cst_9 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_cst_10 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩

abbrev nD : Nat := 1
abbrev τ : Topo := Topo.v7x

variable {F : FTy → Type} [FloatOps F]
-- ==== Ada.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S2x6x8x2048 : Shape := ⟨4, ![2, 6, 8, 2048]⟩
abbrev S1x2048x2048 : Shape := ⟨3, ![1, 2048, 2048]⟩
abbrev S1x1x2048 : Shape := ⟨3, ![1, 1, 2048]⟩
abbrev S1x1x8x2048 : Shape := ⟨4, ![1, 1, 8, 2048]⟩
abbrev S2048x2048 : Shape := ⟨2, ![2048, 2048]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S2x6x8x2048, .f32⟩
  | .local _ .vmem, ⟨0, _⟩ => ⟨S8x2048, .f32⟩
  | .local _ .vmem, ⟨1, _⟩ => ⟨S1x2048x2048, .f32⟩
  | .local _ .vmem, ⟨2, _⟩ => ⟨S1x2048x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x8x2048, .f32⟩
  | .local _ .vmem, ⟨6, _⟩ => ⟨S1x1x8x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![arg0.toNat, v16.toNat, c0_i32_11.toNat, v26.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x12288x8 : Shape := ⟨3, ![2, 12288, 8]⟩
abbrev S2x8x12288 : Shape := ⟨3, ![2, 8, 12288]⟩
abbrev S2x1x12288 : Shape := ⟨3, ![2, 1, 12288]⟩
abbrev S2x8x2048 : Shape := ⟨3, ![2, 8, 2048]⟩
abbrev S2x1x8x2048 : Shape := ⟨4, ![2, 1, 8, 2048]⟩
abbrev S2x6x8x2048 : Shape := ⟨4, ![2, 6, 8, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S2x12288x8, .f32⟩
  | .hbm, ⟨18, _⟩ => ⟨S2x8x12288, .f32⟩
  | .hbm, ⟨19, _⟩ => ⟨S2x1x12288, .f32⟩
  | .hbm, ⟨20, _⟩ => ⟨S2x8x12288, .f32⟩
  | .hbm, ⟨21, _⟩ => ⟨S2x8x12288, .f32⟩
  | .hbm, ⟨22, _⟩ => ⟨S2x8x2048, .f32⟩
  | .hbm, ⟨23, _⟩ => ⟨S2x8x2048, .f32⟩
  | .hbm, ⟨24, _⟩ => ⟨S2x8x2048, .f32⟩
  | .hbm, ⟨25, _⟩ => ⟨S2x8x2048, .f32⟩
  | .hbm, ⟨26, _⟩ => ⟨S2x8x2048, .f32⟩
  | .hbm, ⟨27, _⟩ => ⟨S2x8x2048, .f32⟩
  | .hbm, ⟨28, _⟩ => ⟨S_, .f32⟩
  | .hbm, ⟨29, _⟩ => ⟨S2x8x2048, .f32⟩
  | .hbm, ⟨30, _⟩ => ⟨S2x8x2048, .f32⟩
  | .hbm, ⟨31, _⟩ => ⟨S_, .f32⟩
  | .hbm, ⟨32, _⟩ => ⟨S2x8x2048, .f32⟩
  | .hbm, ⟨33, _⟩ => ⟨S2x8x2048, .f32⟩
  | .hbm, ⟨34, _⟩ => ⟨S2x1x8x2048, .f32⟩
  | .hbm, ⟨35, _⟩ => ⟨S2x1x8x2048, .f32⟩
  | .hbm, ⟨36, _⟩ => ⟨S2x1x8x2048, .f32⟩
  | .hbm, ⟨37, _⟩ => ⟨S2x1x8x2048, .f32⟩
  | .hbm, ⟨38, _⟩ => ⟨S2x1x8x2048, .f32⟩
  | .hbm, ⟨39, _⟩ => ⟨S2x1x8x2048, .f32⟩
  | .hbm, ⟨40, _⟩ => ⟨S2x6x8x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Mixin.lean ====
abbrev S9216x2048 : Shape := ⟨2, ![9216, 2048]⟩
abbrev S2x6x8x1x2048 : Shape := ⟨5, ![2, 6, 8, 1, 2048]⟩
abbrev S10560x2048 : Shape := ⟨2, ![10560, 2048]⟩
abbrev S2x5632x2048 : Shape := ⟨3, ![2, 5632, 2048]⟩
abbrev S9216x10752 : Shape := ⟨2, ![9216, 10752]⟩
abbrev S5632x2048 : Shape := ⟨2, ![5632, 2048]⟩
abbrev S1152x2048 : Shape := ⟨2, ![1152, 2048]⟩
abbrev S1x1x1x1x2048 : Shape := ⟨5, ![1, 1, 1, 1, 2048]⟩
abbrev S1536x2048 : Shape := ⟨2, ![1536, 2048]⟩
abbrev S1x128x2048 : Shape := ⟨3, ![1, 128, 2048]⟩
abbrev S1152x1536 : Shape := ⟨2, ![1152, 1536]⟩
abbrev S128x2048 : Shape := ⟨2, ![128, 2048]⟩
abbrev S1x2048 : Shape := ⟨2, ![1, 2048]⟩
abbrev S1152x1 : Shape := ⟨2, ![1152, 1]⟩

abbrev nBuf : Space → Nat
  | .hbm => 6
  | .vmem => 17
  | .smem => 0
  | _ => 0

abbrev bufTy : (tb : Table) → Fin (tcTables nBuf tb) → BufTy
  | .hbm, ⟨0, _⟩ => ⟨S9216x2048, .f32⟩
  | .hbm, ⟨1, _⟩ => ⟨S2x6x8x1x2048, .f32⟩
  | .hbm, ⟨2, _⟩ => ⟨S10560x2048, .bf16⟩
  | .hbm, ⟨3, _⟩ => ⟨S2x5632x2048, .f32⟩
  | .hbm, ⟨4, _⟩ => ⟨S9216x10752, .bf16⟩
  | .hbm, ⟨5, _⟩ => ⟨S5632x2048, .bf16⟩
  | .local _ .vmem, ⟨0, _⟩ => ⟨S1152x2048, .f32⟩
  | .local _ .vmem, ⟨1, _⟩ => ⟨S1152x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1536x2048, .bf16⟩
  | .local _ .vmem, ⟨9, _⟩ => ⟨S1536x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1152x1536, .bf16⟩
  | .local _ .vmem, ⟨13, _⟩ => ⟨S1152x1536, .bf16⟩
  | .local _ .vmem, ⟨14, _⟩ => ⟨S128x2048, .bf16⟩
  | .local _ .vmem, ⟨15, _⟩ => ⟨S128x2048, .bf16⟩
  | .local _ .vmem, ⟨16, _⟩ => ⟨S1152x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 7], ![false, false]⟩

def k0_mult1 (i : grid0.Coords) : BitVec 32 :=
  let arg1 : BitVec 32 := BitVec.ofNat 32 (i 1).val
  let c1536_i32 : BitVec 32 := 1536#32
  let v0 : BitVec 32 := Scalar.muli arg1 c1536_i32
  let c2_i32 : BitVec 32 := 2#32
  let v1 : BitVec 1 := Scalar.cmpi .sge arg1 c2_i32
  let c192_i32 : BitVec 32 := 192#32
  let c0_i32 : BitVec 32 := 0#32
  let v2 : BitVec 32 := Scalar.select v1 c192_i32 c0_i32
  let v3 : BitVec 32 := Scalar.subi v0 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, c1_i32_5.toNat, v16.toNat, c0_i32_6.toNat, c0_i32_7.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c4_i32 : BitVec 32 := 4#32
  let c0_i32_0 : BitVec 32 := 0#32
  let c0_i32_1 : BitVec 32 := 0#32
  let c0_i32_2 : BitVec 32 := 0#32
  ![c0_i32.toNat, c1_i32.toNat, c4_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, c0_i32_5.toNat, v16.toNat, c0_i32_6.toNat, c0_i32_7.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c4_i32 : BitVec 32 := 4#32
  let c0_i32_1 : BitVec 32 := 0#32
  let c0_i32_2 : BitVec 32 := 0#32
  let c0_i32_3 : BitVec 32 := 0#32
  ![c0_i32.toNat, c0_i32_0.toNat, c4_i32.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c1536_i32 : BitVec 32 := 1536#32
  let v0 : BitVec 32 := Scalar.muli arg1 c1536_i32
  let c2_i32 : BitVec 32 := 2#32
  let v1 : BitVec 1 := Scalar.cmpi .sge arg1 c2_i32
  let c192_i32 : BitVec 32 := 192#32
  let c0_i32 : BitVec 32 := 0#32
  let v2 : BitVec 32 := Scalar.select v1 c192_i32 c0_i32
  let v3 : BitVec 32 := Scalar.subi v0 v2
  let v4 : BitVec 32 := v3
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

abbrev stage0_0 : Fin 2 → Memref sig .tc .vmem S1152x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1536x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1152x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixinReferenceIdeal.lean ====
abbrev S9216x2048 : Shape := ⟨2, ![9216, 2048]⟩
abbrev S2x6x8x1x2048 : Shape := ⟨5, ![2, 6, 8, 1, 2048]⟩
abbrev S10560x2048 : Shape := ⟨2, ![10560, 2048]⟩
abbrev S2x5632x2048 : Shape := ⟨3, ![2, 5632, 2048]⟩
abbrev S2048x10560 : Shape := ⟨2, ![2048, 10560]⟩
abbrev S4x2304x2048 : Shape := ⟨3, ![4, 2304, 2048]⟩
abbrev S1x1x4x1x2048 : Shape := ⟨5, ![1, 1, 4, 1, 2048]⟩
abbrev S4x1x2048 : Shape := ⟨3, ![4, 1, 2048]⟩
abbrev S1x1x1x1x2048 : Shape := ⟨5, ![1, 1, 1, 1, 2048]⟩
abbrev S2048 : Shape := ⟨1, ![2048]⟩
abbrev S4x256x2048 : Shape := ⟨3, ![4, 256, 2048]⟩
abbrev S1x1x2048 : Shape := ⟨3, ![1, 1, 2048]⟩
abbrev S4x2048x2048 : Shape := ⟨3, ![4, 2048, 2048]⟩
abbrev S9216x10560 : Shape := ⟨2, ![9216, 10560]⟩
abbrev S9216x3072 : Shape := ⟨2, ![9216, 3072]⟩
abbrev S9216x7680 : Shape := ⟨2, ![9216, 7680]⟩
abbrev S9216x10752 : Shape := ⟨2, ![9216, 10752]⟩
abbrev S1x5632x2048 : Shape := ⟨3, ![1, 5632, 2048]⟩
abbrev S5632x2048 : Shape := ⟨2, ![5632, 2048]⟩

abbrev nBuf : Space → Nat
  | .hbm => 37
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x6x8x1x2048, .f32⟩
  | .hbm, ⟨2, _⟩ => ⟨S10560x2048, .bf16⟩
  | .hbm, ⟨3, _⟩ => ⟨S2x5632x2048, .f32⟩
  | .hbm, ⟨4, _⟩ => ⟨S10560x2048, .f32⟩
  | .hbm, ⟨5, _⟩ => ⟨S2048x10560, .f32⟩
  | .hbm, ⟨6, _⟩ => ⟨S4x2304x2048, .f32⟩
  | .hbm, ⟨7, _⟩ => ⟨S1x1x4x1x2048, .f32⟩
  | .hbm, ⟨8, _⟩ => ⟨S4x1x2048, .f32⟩
  | .hbm, ⟨9, _⟩ => ⟨S1x1x4x1x2048, .f32⟩
  | .hbm, ⟨10, _⟩ => ⟨S4x1x2048, .f32⟩
  | .hbm, ⟨11, _⟩ => ⟨S1x1x1x1x2048, .f32⟩
  | .hbm, ⟨12, _⟩ => ⟨S2048, .f32⟩
  | .hbm, ⟨13, _⟩ => ⟨S1x1x1x1x2048, .f32⟩
  | .hbm, ⟨14, _⟩ => ⟨S2048, .f32⟩
  | .hbm, ⟨15, _⟩ => ⟨S4x256x2048, .f32⟩
  | .hbm, ⟨16, _⟩ => ⟨S1x1x2048, .f32⟩
  | .hbm, ⟨17, _⟩ => ⟨S4x256x2048, .f32⟩
  | .hbm, ⟨18, _⟩ => ⟨S4x256x2048, .f32⟩
  | .hbm, ⟨19, _⟩ => ⟨S1x1x2048, .f32⟩
  | .hbm, ⟨20, _⟩ => ⟨S4x256x2048, .f32⟩
  | .hbm, ⟨21, _⟩ => ⟨S4x256x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2304x2048, .f32⟩
  | .hbm, ⟨28, _⟩ => ⟨S9216x2048, .f32⟩
  | .hbm, ⟨29, _⟩ => ⟨S9216x10560, .f32⟩
  | .hbm, ⟨30, _⟩ => ⟨S9216x3072, .f32⟩
  | .hbm, ⟨31, _⟩ => ⟨S9216x7680, .f32⟩
  | .hbm, ⟨32, _⟩ => ⟨S9216x10752, .f32⟩
  | .hbm, ⟨33, _⟩ => ⟨S9216x10752, .bf16⟩
  | .hbm, ⟨34, _⟩ => ⟨S1x5632x2048, .f32⟩
  | .hbm, ⟨35, _⟩ => ⟨S5632x2048, .f32⟩
  | .hbm, ⟨36, _⟩ => ⟨S5632x2048, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Swa.lean ====
abbrev S9216x10752 : Shape := ⟨2, ![9216, 10752]⟩
abbrev S2x16 : Shape := ⟨2, ![2, 16]⟩
abbrev S2x3x1024x2048 : Shape := ⟨4, ![2, 3, 1024, 2048]⟩
abbrev S2x2048x2048 : Shape := ⟨3, ![2, 2048, 2048]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S256x128 : Shape := ⟨2, ![256, 128]⟩
abbrev S2304x128 : Shape := ⟨2, ![2304, 128]⟩
abbrev S2x3072x2048 : Shape := ⟨3, ![2, 3072, 2048]⟩
abbrev S9216x1024 : Shape := ⟨2, ![9216, 1024]⟩
abbrev S3072x2048 : Shape := ⟨2, ![3072, 2048]⟩
abbrev S2048x2048 : Shape := ⟨2, ![2048, 2048]⟩
abbrev S256x1024 : Shape := ⟨2, ![256, 1024]⟩
abbrev S2304x256 : Shape := ⟨2, ![2304, 256]⟩
abbrev S1x96x2048 : Shape := ⟨3, ![1, 96, 2048]⟩
abbrev S1x64x2048 : Shape := ⟨3, ![1, 64, 2048]⟩
abbrev S96x2048 : Shape := ⟨2, ![96, 2048]⟩
abbrev S64x2048 : Shape := ⟨2, ![64, 2048]⟩
abbrev S1x128 : Shape := ⟨2, ![1, 128]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S1x512 : Shape := ⟨2, ![1, 512]⟩
abbrev S256x512 : Shape := ⟨2, ![256, 512]⟩
abbrev S512x128 : Shape := ⟨2, ![512, 128]⟩

abbrev nBuf : Space → Nat
  | .hbm => 59
  | .vmem => 18
  | .smem => 1
  | _ => 0

abbrev bufTy : (tb : Table) → Fin (tcTables nBuf tb) → BufTy
  | .hbm, ⟨0, _⟩ => ⟨S9216x10752, .bf16⟩
  | .hbm, ⟨1, _⟩ => ⟨S2x16, .f32⟩
  | .hbm, ⟨2, _⟩ => ⟨S2x3x1024x2048, .f32⟩
  | .hbm, ⟨3, _⟩ => ⟨S2x2048x2048, .f32⟩
  | .hbm, ⟨4, _⟩ => ⟨S32, .f32⟩
  | .hbm, ⟨5, _⟩ => ⟨S32x64, .f32⟩
  | .hbm, ⟨6, _⟩ => ⟨S2048, .f32⟩
  | .hbm, ⟨7, _⟩ => ⟨S64, .f32⟩
  | .hbm, ⟨8, _⟩ => ⟨S1x64, .f32⟩
  | .hbm, ⟨9, _⟩ => ⟨S32x64, .f32⟩
  | .hbm, ⟨10, _⟩ => ⟨S2048, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x1, .f32⟩
  | .hbm, ⟨31, _⟩ => ⟨S1x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x64, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x64, .f32⟩
  | .hbm, ⟨47, _⟩ => ⟨S2048x128, .f32⟩
  | .hbm, ⟨48, _⟩ => ⟨S2048x128, .f32⟩
  | .hbm, ⟨49, _⟩ => ⟨S_, .f32⟩
  | .hbm, ⟨50, _⟩ => ⟨S256x128, .f32⟩
  | .hbm, ⟨51, _⟩ => ⟨S2304x128, .f32⟩
  | .hbm, ⟨52, _⟩ => ⟨S_, .f32⟩
  | .hbm, ⟨53, _⟩ => ⟨S256x128, .f32⟩
  | .hbm, ⟨54, _⟩ => ⟨S2304x128, .f32⟩
  | .hbm, ⟨55, _⟩ => ⟨S2x3072x2048, .f32⟩
  | .hbm, ⟨56, _⟩ => ⟨S9216x1024, .bf16⟩
  | .hbm, ⟨57, _⟩ => ⟨S3072x2048, .bf16⟩
  | .hbm, ⟨58, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S2304x256, .bf16⟩
  | .local _ .vmem, ⟨3, _⟩ => ⟨S2304x256, .bf16⟩
  | .local _ .vmem, ⟨4, _⟩ => ⟨S2304x256, .bf16⟩
  | .local _ .vmem, ⟨5, _⟩ => ⟨S2304x256, .bf16⟩
  | .local _ .vmem, ⟨6, _⟩ => ⟨S2304x128, .f32⟩
  | .local _ .vmem, ⟨7, _⟩ => ⟨S2304x128, .f32⟩
  | .local _ .vmem, ⟨8, _⟩ => ⟨S1x96x2048, .f32⟩
  | .local _ .vmem, ⟨9, _⟩ => ⟨S1x96x2048, .f32⟩
  | .local _ .vmem, ⟨10, _⟩ => ⟨S1x64x2048, .f32⟩
  | .local _ .vmem, ⟨11, _⟩ => ⟨S1x64x2048, .f32⟩
  | .local _ .vmem, ⟨12, _⟩ => ⟨S256x1024, .bf16⟩
  | .local _ .vmem, ⟨13, _⟩ => ⟨S256x1024, .bf16⟩
  | .local _ .vmem, ⟨14, _⟩ => ⟨S96x2048, .bf16⟩
  | .local _ .vmem, ⟨15, _⟩ => ⟨S96x2048, .bf16⟩
  | .local _ .vmem, ⟨16, _⟩ => ⟨S64x2048, .bf16⟩
  | .local _ .vmem, ⟨17, _⟩ => ⟨S64x2048, .bf16⟩
  | .local _ .smem, ⟨0, _⟩ => ⟨S2x16, .f32⟩
  | _, _ => ⟨S9216x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 9], ![false, false]⟩

def k0_mult1 (i : grid0.Coords) : BitVec 32 :=
  let arg1 : BitVec 32 := BitVec.ofNat 32 (i 1).val
  let c256_i32 : BitVec 32 := 256#32
  let v8 : BitVec 32 := Scalar.muli arg1 c256_i32
  v8
def k0_off1 (i : grid0.Coords) : Fin 2 → Nat :=
  let arg1 : BitVec 32 := BitVec.ofNat 32 (i 1).val
  let c256_i32 : BitVec 32 := 256#32
  let v8 : BitVec 32 := Scalar.muli arg1 c256_i32
  let v9 : BitVec 32 := v8
  let v13 : Index := Scalar.indexCast v9
  let c0_9 : Index := 0#32
  ![v13.toNat, 0]
def k0_cond2 (i : grid0.Coords) : BitVec 1 :=
  let arg1 : BitVec 32 := BitVec.ofNat 32 (i 1).val
  let c0_i32_12 : BitVec 32 := 0#32
  let v22 : BitVec 1 := Scalar.cmpi .sgt arg1 c0_i32_12
  let v23 : BitVec 32 := Scalar.extui v22
  let c0_i32_13 : BitVec 32 := 0#32
  let v24 : BitVec 1 := Scalar.cmpi .ne v23 c0_i32_13
  v24

def k0_mult2 (i : grid0.Coords) : BitVec 32 :=
  let arg1 : BitVec 32 := BitVec.ofNat 32 (i 1).val
  let c256_i32 : BitVec 32 := 256#32
  let v8 : BitVec 32 := Scalar.muli arg1 c256_i32
  let v9 : BitVec 32 := v8
  let c128_i32 : BitVec 32 := 128#32
  let v25 : BitVec 32 := Scalar.subi v9 c128_i32
  let c1792_i32 : BitVec 32 := 1792#32
  let v26 : BitVec 32 := Scalar.minsi v25 c1792_i32
  v26
def k0_off2 (i : grid0.Coords) : Fin 2 → Nat :=
  let arg1 : BitVec 32 := BitVec.ofNat 32 (i 1).val
  let c256_i32 : BitVec 32 := 256#32
  let v8 : BitVec 32 := Scalar.muli arg1 c256_i32
  let v9 : BitVec 32 := v8
  let c128_i32 : BitVec 32 := 128#32
  let v25 : BitVec 32 := Scalar.subi v9 c128_i32
  let c1792_i32 : BitVec 32 := 1792#32
  let v26 : BitVec 32 := Scalar.minsi v25 c1792_i32
  let v27 : BitVec 32 := v26
  let v46 : Index := Scalar.indexCast v27
  let c0_18 : Index := 0#32
  ![v46.toNat, 0]
def k0_off3 (i : grid0.Coords) : Fin 2 → Nat :=
  let arg1 : BitVec 32 := BitVec.ofNat 32 (i 1).val
  let c256_i32 : BitVec 32 := 256#32
  let v8 : BitVec 32 := Scalar.muli arg1 c256_i32
  let v9 : BitVec 32 := v8
  let c128_i32 : BitVec 32 := 128#32
  let v25 : BitVec 32 := Scalar.subi v9 c128_i32
  let c1792_i32 : BitVec 32 := 1792#32
  let v26 : BitVec 32 := Scalar.minsi v25 c1792_i32
  let v27 : BitVec 32 := v26
  let v62 : Index := Scalar.indexCast v27
  let c0_24 : Index := 0#32
  ![v62.toNat, 0]
def k0_off4 (i : grid0.Coords) : Fin 2 → Nat :=
  let arg1 : BitVec 32 := BitVec.ofNat 32 (i 1).val
  let c256_i32 : BitVec 32 := 256#32
  let v8 : BitVec 32 := Scalar.muli arg1 c256_i32
  let v9 : BitVec 32 := v8
  let c128_i32 : BitVec 32 := 128#32
  let v25 : BitVec 32 := Scalar.subi v9 c128_i32
  let c1792_i32 : BitVec 32 := 1792#32
  let v26 : BitVec 32 := Scalar.minsi v25 c1792_i32
  let v27 : BitVec 32 := v26
  let v580 : Index := Scalar.indexCast v27
  let c128_187 : Index := 128#32
  ![v580.toNat, 128]
def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2304x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2304x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x96x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S96x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SwaReferenceIdeal.lean ====
abbrev S9216x10752 : Shape := ⟨2, ![9216, 10752]⟩
abbrev S2x16 : Shape := ⟨2, ![2, 16]⟩
abbrev S2x3x1024x2048 : Shape := ⟨4, ![2, 3, 1024, 2048]⟩
abbrev S2x2048x2048 : Shape := ⟨3, ![2, 2048, 2048]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S4x2304x10752 : Shape := ⟨3, ![4, 2304, 10752]⟩
abbrev S4x2304x1024 : Shape := ⟨3, ![4, 2304, 1024]⟩
abbrev S4x2304x16x64 : Shape := ⟨4, ![4, 2304, 16, 64]⟩
abbrev S4x2304x256 : Shape := ⟨3, ![4, 2304, 256]⟩
abbrev S4x2304x4x64 : Shape := ⟨4, ![4, 2304, 4, 64]⟩
abbrev S4x256x16x64 : Shape := ⟨4, ![4, 256, 16, 64]⟩
abbrev S4x2048x16x64 : Shape := ⟨4, ![4, 2048, 16, 64]⟩
abbrev S4x2048x16x32 : Shape := ⟨4, ![4, 2048, 16, 32]⟩
abbrev S1x2048x1x16 : Shape := ⟨4, ![1, 2048, 1, 16]⟩
abbrev S4x2048x16x16 : Shape := ⟨4, ![4, 2048, 16, 16]⟩
abbrev S4x2304x4x4x64 : Shape := ⟨5, ![4, 2304, 4, 4, 64]⟩
abbrev S4x256x4x64 : Shape := ⟨4, ![4, 256, 4, 64]⟩
abbrev S4x2048x4x64 : Shape := ⟨4, ![4, 2048, 4, 64]⟩
abbrev S4x2048x4x32 : Shape := ⟨4, ![4, 2048, 4, 32]⟩
abbrev S4x2048x4x16 : Shape := ⟨4, ![4, 2048, 4, 16]⟩
abbrev S4x4x2304x2304x4 : Shape := ⟨5, ![4, 4, 2304, 2304, 4]⟩
abbrev S4x4x4x2304x2304 : Shape := ⟨5, ![4, 4, 4, 2304, 2304]⟩
abbrev S2304 : Shape := ⟨1, ![2304]⟩
abbrev S2304x1 : Shape := ⟨2, ![2304, 1]⟩
abbrev S1x2304 : Shape := ⟨2, ![1, 2304]⟩
abbrev S2304x2304 : Shape := ⟨2, ![2304, 2304]⟩
abbrev S4x4 : Shape := ⟨2, ![4, 4]⟩
abbrev S1x4x4x1x1 : Shape := ⟨5, ![1, 4, 4, 1, 1]⟩
abbrev S4x4x4x2304x1 : Shape := ⟨5, ![4, 4, 4, 2304, 1]⟩
abbrev S4x4x4x2304x2305 : Shape := ⟨5, ![4, 4, 4, 2304, 2305]⟩
abbrev S4x4x4x2304 : Shape := ⟨4, ![4, 4, 4, 2304]⟩
abbrev S4x4x64x4x2304 : Shape := ⟨5, ![4, 4, 64, 4, 2304]⟩
abbrev S9216x1024 : Shape := ⟨2, ![9216, 1024]⟩
abbrev S1x3x1024x2048 : Shape := ⟨4, ![1, 3, 1024, 2048]⟩
abbrev S3x1024x2048 : Shape := ⟨3, ![3, 1024, 2048]⟩
abbrev S3072x2048 : Shape := ⟨2, ![3072, 2048]⟩
abbrev S1x2048x2048 : Shape := ⟨3, ![1, 2048, 2048]⟩
abbrev S2048x2048 : Shape := ⟨2, ![2048, 2048]⟩

abbrev nBuf : Space → Nat
  | .hbm => 194
  | .vmem => 0
  | .smem => 0
  | _ => 0

abbrev hbmTy0_0 (i : Nat) : BufTy := match i % 128 with
  | 0 => ⟨S9216x10752, .bf16⟩
  | 1 => ⟨S2x16, .f32⟩
  | 2 => ⟨S2x3x1024x2048, .f32⟩
  | 3 => ⟨S2x2048x2048, .f32⟩
  | 4 => ⟨S32, .f32⟩
  | 5 => ⟨S32x64, .f32⟩
  | 6 => ⟨S2048, .f32⟩
  | 7 => ⟨S64, .f32⟩
  | 8 => ⟨S1x64, .f32⟩
  | 9 => ⟨S32x64, .f32⟩
  | 10 => ⟨S2048, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S2048x1, .f32⟩
  | 26 => ⟨S1x16, .f32⟩
  | 27 => ⟨S2048x16, .f32⟩
  | 28 => ⟨S2048x16, .f32⟩
  | 29 => ⟨S2048x16, .f32⟩
  | 30 => ⟨S2048x1, .f32⟩
  | 31 => ⟨S1x16, .f32⟩
  | 32 => ⟨S2048x16, .f32⟩
  | 33 => ⟨S2048x16, .f32⟩
  | 34 => ⟨S2048x16, .f32⟩
  | 35 => ⟨S_, .f32⟩
  | 36 => ⟨S_, .f32⟩
  | 37 => ⟨S9216x10752, .f32⟩
  | 38 => ⟨S4x2304x10752, .f32⟩
  | 39 => ⟨S4x2304x1024, .f32⟩
  | 40 => ⟨S4x2304x16x64, .f32⟩
  | 41 => ⟨S4x2304x256, .f32⟩
  | 42 => ⟨S4x2304x4x64, .f32⟩
  | 43 => ⟨S4x2304x256, .f32⟩
  | 44 => ⟨S4x2304x4x64, .f32⟩
  | 45 => ⟨S4x256x16x64, .f32⟩
  | 46 => ⟨S4x2048x16x64, .f32⟩
  | 47 => ⟨S4x2048x16x32, .f32⟩
  | 48 => ⟨S2048x16, .f32⟩
  | 49 => ⟨S1x2048x1x16, .f32⟩
  | 50 => ⟨S2048x16, .f32⟩
  | 51 => ⟨S1x2048x1x16, .f32⟩
  | 52 => ⟨S4x2048x16x16, .f32⟩
  | 53 => ⟨S4x2048x16x16, .f32⟩
  | 54 => ⟨S4x2048x16x16, .f32⟩
  | 55 => ⟨S4x2048x16x16, .f32⟩
  | 56 => ⟨S4x2048x16x16, .f32⟩
  | 57 => ⟨S4x2048x16x16, .f32⟩
  | 58 => ⟨S4x2048x16x16, .f32⟩
  | 59 => ⟨S4x2048x16x16, .f32⟩
  | 60 => ⟨S4x2048x16x16, .f32⟩
  | 61 => ⟨S4x2048x16x16, .f32⟩
  | 62 => ⟨S4x2048x16x16, .f32⟩
  | 63 => ⟨S4x2048x16x16, .f32⟩
  | 64 => ⟨S4x2048x16x32, .f32⟩
  | 65 => ⟨S4x2048x16x32, .f32⟩
  | 66 => ⟨S2048x16, .f32⟩
  | 67 => ⟨S1x2048x1x16, .f32⟩
  | 68 => ⟨S2048x16, .f32⟩
  | 69 => ⟨S1x2048x1x16, .f32⟩
  | 70 => ⟨S4x2048x16x16, .f32⟩
  | 71 => ⟨S4x2048x16x16, .f32⟩
  | 72 => ⟨S4x2048x16x16, .f32⟩
  | 73 => ⟨S4x2048x16x16, .f32⟩
  | 74 => ⟨S4x2048x16x16, .f32⟩
  | 75 => ⟨S4x2048x16x16, .f32⟩
  | 76 => ⟨S4x2048x16x16, .f32⟩
  | 77 => ⟨S4x2048x16x16, .f32⟩
  | 78 => ⟨S4x2048x16x16, .f32⟩
  | 79 => ⟨S4x2048x16x16, .f32⟩
  | 80 => ⟨S4x2048x16x16, .f32⟩
  | 81 => ⟨S4x2048x16x16, .f32⟩
  | 82 => ⟨S4x2048x16x32, .f32⟩
  | 83 => ⟨S4x2048x16x64, .f32⟩
  | 84 => ⟨S4x2304x16x64, .f32⟩
  | 85 => ⟨S4x2304x4x4x64, .f32⟩
  | 86 => ⟨S4x256x4x64, .f32⟩
  | 87 => ⟨S4x2048x4x64, .f32⟩
  | 88 => ⟨S4x2048x4x32, .f32⟩
  | 89 => ⟨S2048x16, .f32⟩
  | 90 => ⟨S1x2048x1x16, .f32⟩
  | 91 => ⟨S2048x16, .f32⟩
  | 92 => ⟨S1x2048x1x16, .f32⟩
  | 93 => ⟨S4x2048x4x16, .f32⟩
  | 94 => ⟨S4x2048x4x16, .f32⟩
  | 95 => ⟨S4x2048x4x16, .f32⟩
  | 96 => ⟨S4x2048x4x16, .f32⟩
  | 97 => ⟨S4x2048x4x16, .f32⟩
  | 98 => ⟨S4x2048x4x16, .f32⟩
  | 99 => ⟨S4x2048x4x16, .f32⟩
  | 100 => ⟨S4x2048x4x16, .f32⟩
  | 101 => ⟨S4x2048x4x16, .f32⟩
  | 102 => ⟨S4x2048x4x16, .f32⟩
  | 103 => ⟨S4x2048x4x16, .f32⟩
  | 104 => ⟨S4x2048x4x16, .f32⟩
  | 105 => ⟨S4x2048x4x32, .f32⟩
  | 106 => ⟨S4x2048x4x32, .f32⟩
  | 107 => ⟨S2048x16, .f32⟩
  | 108 => ⟨S1x2048x1x16, .f32⟩
  | 109 => ⟨S2048x16, .f32⟩
  | 110 => ⟨S1x2048x1x16, .f32⟩
  | 111 => ⟨S4x2048x4x16, .f32⟩
  | 112 => ⟨S4x2048x4x16, .f32⟩
  | 113 => ⟨S4x2048x4x16, .f32⟩
  | 114 => ⟨S4x2048x4x16, .f32⟩
  | 115 => ⟨S4x2048x4x16, .f32⟩
  | 116 => ⟨S4x2048x4x16, .f32⟩
  | 117 => ⟨S4x2048x4x16, .f32⟩
  | 118 => ⟨S4x2048x4x16, .f32⟩
  | 119 => ⟨S4x2048x4x16, .f32⟩
  | 120 => ⟨S4x2048x4x16, .f32⟩
  | 121 => ⟨S4x2048x4x16, .f32⟩
  | 122 => ⟨S4x2048x4x16, .f32⟩
  | 123 => ⟨S4x2048x4x32, .f32⟩
  | 124 => ⟨S4x2048x4x64, .f32⟩
  | 125 => ⟨S4x2304x4x64, .f32⟩
  | 126 => ⟨S4x4x2304x2304x4, .f32⟩
  | 127 => ⟨S4x4x4x2304x2304, .f32⟩
  | _ => ⟨S9216x10752, .bf16⟩

abbrev hbmTy0_1 (i : Nat) : BufTy := match i % 128 with
  | 0 => ⟨S_, .f32⟩
  | 1 => ⟨S4x4x4x2304x2304, .f32⟩
  | 2 => ⟨S4x4x4x2304x2304, .f32⟩
  | 3 => ⟨S2304, .i32⟩
  | 4 => ⟨S2304x1, .i32⟩
  | 5 => ⟨S2304, .i32⟩
  | 6 => ⟨S1x2304, .i32⟩
  | 7 => ⟨S_, .i32⟩
  | 8 => ⟨S1x2304, .i32⟩
  | 9 => ⟨S1x2304, .i1⟩
  | 10 => ⟨S_, .i32⟩
  | 11 => ⟨S2304x1, .i32⟩
  | 12 => ⟨S2304x1, .i1⟩
  | 13 => ⟨S2304x2304, .i32⟩
  | 14 => ⟨S2304x2304, .i32⟩
  | 15 => ⟨S2304x2304, .i32⟩
  | 16 => ⟨S2304x2304, .i32⟩
  | 17 => ⟨S_, .i32⟩
  | 18 => ⟨S2304x2304, .i32⟩
  | 19 => ⟨S2304x2304, .i1⟩
  | 20 => ⟨S2304x2304, .i1⟩
  | 21 => ⟨S2304x2304, .i1⟩
  | 22 => ⟨S2304x2304, .i1⟩
  | 23 => ⟨S2304x2304, .i1⟩
  | 24 => ⟨S_, .f32⟩
  | 25 => ⟨S_, .f32⟩
  | 26 => ⟨S4x4x4x2304x2304, .i1⟩
  | 27 => ⟨S4x4x4x2304x2304, .f32⟩
  | 28 => ⟨S4x4x4x2304x2304, .f32⟩
  | 29 => ⟨S1x16, .f32⟩
  | 30 => ⟨S16, .f32⟩
  | 31 => ⟨S_, .f32⟩
  | 32 => ⟨S16, .f32⟩
  | 33 => ⟨S16, .f32⟩
  | 34 => ⟨S4x4, .f32⟩
  | 35 => ⟨S1x4x4x1x1, .f32⟩
  | 36 => ⟨S4x4x4x2304x1, .f32⟩
  | 37 => ⟨S4x4x4x2304x2305, .f32⟩
  | 38 => ⟨S4x4x4x2304x2305, .f32⟩
  | 39 => ⟨S4x4x4x2304x2305, .f32⟩
  | 40 => ⟨S_, .f32⟩
  | 41 => ⟨S4x4x4x2304, .f32⟩
  | 42 => ⟨S_, .f32⟩
  | 43 => ⟨S4x4x4x2304, .f32⟩
  | 44 => ⟨S4x4x4x2304, .f32⟩
  | 45 => ⟨S4x4x4x2304x1, .f32⟩
  | 46 => ⟨S4x4x4x2304x2305, .f32⟩
  | 47 => ⟨S4x4x4x2304x2305, .f32⟩
  | 48 => ⟨S4x4x4x2304x2305, .f32⟩
  | 49 => ⟨S_, .f32⟩
  | 50 => ⟨S4x4x4x2304, .f32⟩
  | 51 => ⟨S4x4x4x2304x1, .f32⟩
  | 52 => ⟨S4x4x4x2304x2305, .f32⟩
  | 53 => ⟨S4x4x4x2304x2305, .f32⟩
  | 54 => ⟨S4x4x4x2304x2304, .f32⟩
  | 55 => ⟨S4x4x64x4x2304, .f32⟩
  | 56 => ⟨S4x2304x4x4x64, .f32⟩
  | 57 => ⟨S9216x1024, .f32⟩
  | 58 => ⟨S9216x1024, .bf16⟩
  | 59 => ⟨S1x3x1024x2048, .f32⟩
  | 60 => ⟨S3x1024x2048, .f32⟩
  | 61 => ⟨S3072x2048, .f32⟩
  | 62 => ⟨S3072x2048, .bf16⟩
  | 63 => ⟨S1x2048x2048, .f32⟩
  | 64 => ⟨S2048x2048, .f32⟩
  | 65 => ⟨S2048x2048, .bf16⟩
  | _ => ⟨S9216x10752, .bf16⟩

abbrev hbmTy (i : Nat) : BufTy := match i / 128 with
  | 0 => hbmTy0_0 i
  | 1 => hbmTy0_1 i
  | _ => ⟨S9216x10752, .bf16⟩

abbrev bufTy : (tb : Table) → Fin (tcTables nBuf tb) → BufTy
  | .hbm, ⟨i, _⟩ => hbmTy i
  | _, _ => ⟨S9216x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_cst_4 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_c : Ref sig .tc := ⟨.hbm, 135, rfl⟩
abbrev main_v125 : Ref sig .tc := ⟨.hbm, 136, rfl⟩
abbrev main_v126 : Ref sig .tc := ⟨.hbm, 137, rfl⟩
abbrev main_c_5 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_c_6 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_cst_7 : Ref sig .tc := ⟨.hbm, 152, rfl⟩
abbrev main_call0_v0 : Ref sig .tc := ⟨.hbm, 153, rfl⟩
abbrev main_call0_v1 : Ref sig .tc := ⟨.hbm, 154, rfl⟩
abbrev main_call0_v2 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_cst_8 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_cst_9 : Ref sig .tc := ⟨.hbm, 168, rfl⟩
abbrev main_v150 : Ref sig .tc := ⟨.hbm, 169, rfl⟩
abbrev main_cst_10 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_cst_11 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩

abbrev nD : Nat := 1
abbrev τ : Topo := Topo.v7x

variable {F : FTy → Type} [FloatOps F]
-- ==== Proof.Softmax.lean ====
module

public import Idealize.ShloMosaic.Lib.Pointwise

@[expose] public section

noncomputable section

open Idealize.ShloMosaic

namespace Cert.Softmax

/-- The maximum folded from `⊥` over finitely many values is the value at an index where it is attained. -/
theorem fold_max_eq {n : ℕ} (f : Fin n → EReal) (k₀ : Fin n) (h : ∀ k, f k ≤ f k₀) :
    Finset.univ.fold max ⊥ f = f k₀ := by
  refine le_antisymm ?_ ?_
  · rw [Finset.fold_max_le]
    exact ⟨bot_le, fun k _ => h k⟩
  · rw [Finset.le_fold_max]
    exact Or.inr ⟨k₀, Finset.mem_univ _, le_rfl⟩

/-- A finite sum of real numbers, taken among the extended reals, is the real sum. -/
theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- A non-negative real factor distributes over a finite sum of extended reals. -/
theorem sum_mul_coe {n : ℕ} (f : Fin n → EReal) (c : ℝ) (hc : 0 ≤ c) :
    (∑ k, f k) * (c : EReal) = ∑ k, f k * (c : EReal) := by
  induction n with
  | zero => simp
  | succ n ih =>
    rw [Fin.sum_univ_succ, Fin.sum_univ_succ, ← ih,
      EReal.right_distrib_of_nonneg_of_ne_top (EReal.coe_nonneg.mpr hc) (EReal.coe_ne_top c)]

/-- Two to the power `x` is `exp (x log 2)`. -/
theorem exp2_real (x : ℝ) : Real.rpow 2 x = Real.exp (x * Real.log 2) := by
  rw [mul_comm]
  exact Real.rpow_def_of_pos (by norm_num) x

/-- The attention of one query, from its scores `s` in base 2: the values weighted by `2 ^ (s k - max s)`, divided by the total weight. -/
def att {n : ℕ} (s v : Fin n → EReal) : EReal :=
  Ideal.div (∑ k, Ideal.exp2 (s k - Finset.univ.fold max ⊥ s) * v k)
    (∑ k, Ideal.exp2 (s k - Finset.univ.fold max ⊥ s))

/-- Equal scores and equal values give equal attention. -/
theorem att_congr {n : ℕ} {s s' v v' : Fin n → EReal} (hs : ∀ k, s k = s' k) (hv : ∀ k, v k = v' k) : att s v = att s' v' := by
  rw [funext hs, funext hv]

/-- THE ATTENTION OF ONE QUERY. For finite scores `s` the base-2 form — weights `2 ^ (s k - max s)`, their values summed and the
    sum divided by the total weight at the end — is the softmax form in natural units: the scores times `log 2`, `exp` of their
    distance to their maximum, each weight divided by the total before it meets its value. The values `v` are arbitrary. -/
theorem base_two {n : ℕ} (hn : 0 < n) (s v : Fin n → EReal) (hs : ∀ k, ∃ r : ℝ, s k = (r : EReal)) :
    att s v = ∑ k, v k * Ideal.div
          (Ideal.exp (s k * Ideal.log ((2 : ℝ) : EReal)
            - max ⊥ (Finset.univ.fold max ⊥ fun l => s l * Ideal.log ((2 : ℝ) : EReal))))
          (∑ j, Ideal.exp (s j * Ideal.log ((2 : ℝ) : EReal)
            - max ⊥ (Finset.univ.fold max ⊥ fun l => s l * Ideal.log ((2 : ℝ) : EReal)))) := by
  unfold att
  choose r hr using hs
  have hc : 0 < Real.log 2 := Real.log_pos (by norm_num)
  have hlog : Ideal.log ((2 : ℝ) : EReal) = ((Real.log 2 : ℝ) : EReal) := by
    rw [Ideal.log_coe, if_neg (by norm_num)]
  haveI : Nonempty (Fin n) := ⟨⟨0, hn⟩⟩
  obtain ⟨k₀, hk₀⟩ := Finite.exists_max r
  have hm : Finset.univ.fold max ⊥ s = ((r k₀ : ℝ) : EReal) := by
    rw [fold_max_eq s k₀ fun k => by rw [hr k, hr k₀]; exact EReal.coe_le_coe_iff.mpr (hk₀ k), hr k₀]
  have hM : (Finset.univ.fold max ⊥ fun l => s l * Ideal.log ((2 : ℝ) : EReal)) = ((r k₀ * Real.log 2 : ℝ) : EReal) := by
    have hl : (fun l => s l * Ideal.log ((2 : ℝ) : EReal)) = fun l => ((r l * Real.log 2 : ℝ) : EReal) := by
      funext l; rw [hlog, hr l, EReal.coe_mul]
    rw [hl, fold_max_eq _ k₀ fun k => EReal.coe_le_coe_iff.mpr (mul_le_mul_of_nonneg_right (hk₀ k) hc.le)]
  have hp : ∀ k, Ideal.exp2 (s k - Finset.univ.fold max ⊥ s) = ((Real.exp ((r k - r k₀) * Real.log 2) : ℝ) : EReal) := by
    intro k
    rw [hm, hr k, ← EReal.coe_sub, Ideal.exp2_coe, exp2_real]
  have hq : ∀ k, Ideal.exp (s k * Ideal.log ((2 : ℝ) : EReal)
      - max ⊥ (Finset.univ.fold max ⊥ fun l => s l * Ideal.log ((2 : ℝ) : EReal)))
      = ((Real.exp ((r k - r k₀) * Real.log 2) : ℝ) : EReal) := by
    intro k
    rw [hM, hlog, hr k, max_eq_right bot_le, ← EReal.coe_mul, ← EReal.coe_sub, Ideal.exp_coe, sub_mul]
  have hL : 0 < ∑ k, Real.exp ((r k - r k₀) * Real.log 2) :=
    Finset.sum_pos (fun k _ => Real.exp_pos _) Finset.univ_nonempty
  simp only [hp, hq, sum_coe, Ideal.div_coe hL.ne']
  rw [sum_mul_coe _ _ (by positivity)]
  exact Finset.sum_congr rfl fun k _ => by rw [mul_right_comm, mul_comm (v k)]

/-- A finite sum of products of real numbers is a real number. -/
theorem dot_real {n : ℕ} (a b : Fin n → EReal) (ha : ∀ k, ∃ r : ℝ, a k = (r : EReal)) (hb : ∀ k, ∃ r : ℝ, b k = (r : EReal)) :
    ∃ r : ℝ, ∑ k, a k * b k = (r : EReal) := by
  choose f hf using ha
  choose g hg using hb
  exact ⟨∑ k, f k * g k, by rw [← sum_coe]; exact Finset.sum_congr rfl fun k _ => by rw [hf, hg, EReal.coe_mul]⟩

end Cert.Softmax

end
-- ==== Proof.AttnPay.lean ====
module

public import proofs.«01_k».proof.Proof.Softmax
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen Cert.Softmax

/-! Each stored vector of the kernel is the attention of its queries over the keys and values it was computed from. -/

/-- The bit pattern of minus infinity. -/
theorem ofBits_bot : Ideal.ofBits .f32 0xFF800000#32 = ⊥ := by simp [Ideal.ofBits, Ideal.ieee]

/-- A stored vector of the context rows, here the first head's (the other heads' are the same term): 256 queries over 256 keys. -/
theorem pay1_at (q : FVec Ideal S256x256 .bf16) (k : FVec Ideal S256x256 .bf16) (v : FVec Ideal S256x128 .bf16) (a : Fin 256) (d : Fin 128) :
    k0_pay1 (F := Ideal) q k v (ix2 a d) = att (fun l : Fin 256 => ∑ e : Fin 256, q (ix2 a e) * k (ix2 l e)) (fun l => v (ix2 l d)) := by
  pointwise [k0_pay1]
  rw [ofBits_bot]
  rfl

/-- A stored vector of the rows below them in the first block: 128 queries over 2304 keys. -/
theorem pay9_at (q : FVec Ideal S128x256 .bf16) (k : FVec Ideal S2304x256 .bf16) (v : FVec Ideal S2304x128 .bf16) (a : Fin 128) (d : Fin 128) :
    k0_pay9 (F := Ideal) q k v (ix2 a d) = att (fun l : Fin 2304 => ∑ e : Fin 256, q (ix2 a e) * k (ix2 l e)) (fun l => v (ix2 l d)) := by
  pointwise [k0_pay9]
  rw [ofBits_bot]
  rfl

/-- A stored vector of a later block: 384 queries over 2304 keys. -/
theorem pay17_at (q : FVec Ideal S384x256 .bf16) (k : FVec Ideal S2304x256 .bf16) (v : FVec Ideal S2304x128 .bf16) (a : Fin 384) (d : Fin 128) :
    k0_pay17 (F := Ideal) q k v (ix2 a d) = att (fun l : Fin 2304 => ∑ e : Fin 256, q (ix2 a e) * k (ix2 l e)) (fun l => v (ix2 l d)) := by
  pointwise [k0_pay17]
  rw [ofBits_bot]
  rfl

end Cert.KernelIdeal.Attn

end
-- ==== Proof.AttnRef.lean ====
module

public import proofs.«01_k».proof.Proof.Softmax
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.Softmax

/-- The queries or keys, one axis for the batch rows, one for the tokens, one for the heads. -/
def heads (x : FVec Ideal S9216x2048 .bf16) : FVec Ideal S4x2304x8x256 .f32 :=
  shapeCast _ (extf .f32 x bitsLt_bf16_f32) shapeCasts_S9216x2048_S4x2304x8x256

/-- The values, likewise. -/
def headsV (x : FVec Ideal S9216x1024 .bf16) : FVec Ideal S4x2304x8x128 .f32 :=
  shapeCast _ (extf .f32 x bitsLt_bf16_f32) shapeCasts_S9216x1024_S4x2304x8x128

/-- The context part of the tokens, of queries or keys. -/
def ctxHeads (x : FVec Ideal S4x2304x8x256 .f32) : FVec Ideal S4x256x8x256 .f32 :=
  extractStridedSlice S4x256x8x256 ![0, 0, 0, 0] x slices_S4x2304x8x256_S4x256x8x256_0_0_0_0

/-- The latent part of the tokens, of queries. -/
def latHeads (x : FVec Ideal S4x2304x8x256 .f32) : FVec Ideal S4x2048x8x256 .f32 :=
  extractStridedSlice S4x2048x8x256 ![0, 256, 0, 0] x slices_S4x2304x8x256_S4x2048x8x256_0_256_0_0

/-- The context part of the tokens, of values. -/
def ctxHeadsV (x : FVec Ideal S4x2304x8x128 .f32) : FVec Ideal S4x256x8x128 .f32 :=
  extractStridedSlice S4x256x8x128 ![0, 0, 0, 0] x slices_S4x2304x8x128_S4x256x8x128_0_0_0_0

/-- An entry of the queries or keys by batch row, token and head. -/
theorem heads_at (x : FVec Ideal S9216x2048 .bf16) (b : Fin 4) (t : Fin 2304) (h : Fin 8) (e : Fin 256) :
    heads x (ix4 b t h e) = x (ix2 ⟨(b : ℕ) * 2304 + t, by omega⟩ ⟨(h : ℕ) * 256 + e, by omega⟩) := by
  pointwise [heads]

/-- An entry of the values by batch row, token and head. -/
theorem headsV_at (x : FVec Ideal S9216x1024 .bf16) (b : Fin 4) (t : Fin 2304) (h : Fin 8) (e : Fin 128) :
    headsV x (ix4 b t h e) = x (ix2 ⟨(b : ℕ) * 2304 + t, by omega⟩ ⟨(h : ℕ) * 128 + e, by omega⟩) := by
  pointwise [headsV]

/-- The context tokens come first. -/
theorem ctxHeads_at (x : FVec Ideal S4x2304x8x256 .f32) (b : Fin 4) (t : Fin 256) (h : Fin 8) (e : Fin 256) :
    ctxHeads x (ix4 b t h e) = x (ix4 b ⟨t, by omega⟩ h e) := by
  pointwise [ctxHeads]

/-- The context values come first. -/
theorem ctxHeadsV_at (x : FVec Ideal S4x2304x8x128 .f32) (b : Fin 4) (t : Fin 256) (h : Fin 8) (e : Fin 128) :
    ctxHeadsV x (ix4 b t h e) = x (ix4 b ⟨t, by omega⟩ h e) := by
  pointwise [ctxHeadsV]

/-- The latent tokens come after the 256 context tokens. -/
theorem latHeads_at (x : FVec Ideal S4x2304x8x256 .f32) (b : Fin 4) (t : Fin 2048) (h : Fin 8) (e : Fin 256) :
    latHeads x (ix4 b t h e) = x (ix4 b ⟨256 + (t : ℕ), by omega⟩ h e) := by
  pointwise [latHeads]

/-- The bit pattern of minus infinity. -/
theorem ofBits_bot : Ideal.ofBits .f32 0xFF800000#32 = ⊥ := by simp [Ideal.ofBits, Ideal.ieee]

/-- The bit pattern of two. -/
theorem ofBits_two : Ideal.ofBits .f32 0x40000000#32 = ((2 : ℝ) : EReal) := by
  simp [Ideal.ofBits, Ideal.ieee, -EReal.coe_mul]; norm_num

/-- The maximum over the last of four axes, at an entry. -/
theorem host_max_at {n0 n1 n2 n3 : ℕ} (hr : (⟨4, ![n0, n1, n2, n3]⟩ : Shape).ReducesTo [3] ⟨3, ![n0, n1, n2]⟩) (hu : 0 < S_.numel)
    (s : FVec Ideal ⟨4, ![n0, n1, n2, n3]⟩ .f32) (c : FVec Ideal S_ .f32) (a : Fin n0) (b : Fin n1) (t : Fin n2) :
    Host.reduce FloatOps.maximumf s c hr hu (ix3 a b t)
      = Finset.univ.fold max (c (Shape.Idx.first hu)) fun l : Fin n3 => s (ix4 a b t l) := by
  rw [Host.reduce_eq_fold, hr.fold_fiber_r4_a3]
  rfl

/-- The scores in natural units of ctx queries. -/
def scoreCtx (q : FVec Ideal S4x256x8x256 .f32) (k : FVec Ideal S4x256x8x256 .f32) : FVec Ideal S4x8x256x256 .f32 :=
  mulf (Host.dotGeneral dot_S4x256x8x256_S4x256x8x256_S4x8x256x256_3_3_1_1_02_02 none q k) (broadcastInDim S4x8x256x256 ![] bcast_S_S4x8x256x256 (Host.log (constant S_ .f32 0x40000000#32)))

/-- The largest score of each query. -/
def topCtx (s : FVec Ideal S4x8x256x256 .f32) : FVec Ideal S4x8x256 .f32 :=
  Host.reduce FloatOps.maximumf s (constant S_ .f32 0xFF800000#32) reducesTo_S4x8x256x256_S4x8x256_d3 h_S_

/-- The exponentials of the scores' distance to their maximum. -/
def weightCtx (s : FVec Ideal S4x8x256x256 .f32) (M : FVec Ideal S4x8x256 .f32) : FVec Ideal S4x8x256x256 .f32 :=
  Host.exp (subf s (broadcastInDim S4x8x256x256 ![0, 1, 2, 3] bcast_S4x8x256x1_S4x8x256x256_0_1_2_3 (broadcastInDim S4x8x256x1 ![0, 1, 2] bcast_S4x8x256_S4x8x256x1_0_1_2 (maximumf (broadcastInDim S4x8x256 ![] bcast_S_S4x8x256 (constant S_ .f32 0xFF800000#32)) M))))

/-- The weights divided by their total. -/
def probCtx (p : FVec Ideal S4x8x256x256 .f32) : FVec Ideal S4x8x256x256 .f32 :=
  Host.divf p (broadcastInDim S4x8x256x256 ![0, 1, 2, 3] bcast_S4x8x256x1_S4x8x256x256_0_1_2_3 (broadcastInDim S4x8x256x1 ![0, 1, 2] bcast_S4x8x256_S4x8x256x1_0_1_2 (Host.reduceAdd p (constant S_ .f32 0x00000000#32) reducesTo_S4x8x256x256_S4x8x256_d3 h_S_)))

/-- The values under the weights. -/
def outCtx (v : FVec Ideal S4x256x8x128 .f32) (p : FVec Ideal S4x8x256x256 .f32) : FVec Ideal S4x256x8x128 .f32 :=
  transpose S4x256x8x128 [0, 3, 1, 2] (Host.dotGeneral dot_S4x256x8x128_S4x8x256x256_S4x8x128x256_1_3_3_2_02_01 none v p) transposes_S4x8x128x256_S4x256x8x128_0_3_1_2

/-- The attention of the ctx queries. -/
def attendCtx (q : FVec Ideal S4x256x8x256 .f32) (k : FVec Ideal S4x256x8x256 .f32) (v : FVec Ideal S4x256x8x128 .f32) :
    FVec Ideal S4x256x8x128 .f32 :=
  outCtx v (probCtx (weightCtx (scoreCtx q k) (topCtx (scoreCtx q k))))

/-- A score, at an entry. -/
theorem scoreCtx_at (q : FVec Ideal S4x256x8x256 .f32) (k : FVec Ideal S4x256x8x256 .f32) (b : Fin 4) (h : Fin 8) (t : Fin 256) (l : Fin 256) :
    scoreCtx q k (ix4 b h t l) = (∑ e : Fin 256, q (ix4 b t h e) * k (ix4 b l h e)) * Ideal.log ((2 : ℝ) : EReal) := by
  pointwise [scoreCtx]
  rw [ofBits_two]

/-- A query's largest score. -/
theorem topCtx_at (s : FVec Ideal S4x8x256x256 .f32) (b : Fin 4) (h : Fin 8) (t : Fin 256) :
    topCtx s (ix3 b h t) = Finset.univ.fold max ⊥ fun l : Fin 256 => s (ix4 b h t l) := by
  unfold topCtx
  rw [host_max_at (n0 := 4) (n1 := 8) (n2 := 256) (n3 := 256), ← ofBits_bot]
  rfl

/-- A weight, at an entry. -/
theorem weightCtx_at (s : FVec Ideal S4x8x256x256 .f32) (M : FVec Ideal S4x8x256 .f32) (b : Fin 4) (h : Fin 8) (t : Fin 256) (l : Fin 256) :
    weightCtx s M (ix4 b h t l) = Ideal.exp (s (ix4 b h t l) - max ⊥ (M (ix3 b h t))) := by
  pointwise [weightCtx]
  rw [ofBits_bot]

/-- A probability, at an entry. -/
theorem probCtx_at (p : FVec Ideal S4x8x256x256 .f32) (b : Fin 4) (h : Fin 8) (t : Fin 256) (l : Fin 256) :
    probCtx p (ix4 b h t l) = Ideal.div (p (ix4 b h t l)) (∑ j : Fin 256, p (ix4 b h t j)) := by
  pointwise [probCtx]

/-- A result, at an entry. -/
theorem outCtx_at (v : FVec Ideal S4x256x8x128 .f32) (p : FVec Ideal S4x8x256x256 .f32) (b : Fin 4) (t : Fin 256) (h : Fin 8) (d : Fin 128) :
    outCtx v p (ix4 b t h d) = ∑ l : Fin 256, v (ix4 b l h d) * p (ix4 b h t l) := by
  pointwise [outCtx]

/-- An entry of the attention of the ctx queries: the attention of that query in base 2. -/
theorem attendCtx_at (q : FVec Ideal S4x256x8x256 .f32) (k : FVec Ideal S4x256x8x256 .f32) (v : FVec Ideal S4x256x8x128 .f32)
    (hq : ∀ i, ∃ r : ℝ, q i = (r : EReal)) (hk : ∀ i, ∃ r : ℝ, k i = (r : EReal)) (b : Fin 4) (t : Fin 256) (h : Fin 8) (d : Fin 128) :
    attendCtx q k v (ix4 b t h d)
      = att (fun l : Fin 256 => ∑ e : Fin 256, q (ix4 b t h e) * k (ix4 b l h e)) (fun l => v (ix4 b l h d)) := by
  rw [base_two (by norm_num) _ _ fun l => dot_real _ _ (fun e => hq _) (fun e => hk _)]
  unfold attendCtx
  simp only [outCtx_at, probCtx_at, weightCtx_at, topCtx_at, scoreCtx_at]

/-- The scores in natural units of lat queries. -/
def scoreLat (q : FVec Ideal S4x2048x8x256 .f32) (k : FVec Ideal S4x2304x8x256 .f32) : FVec Ideal S4x8x2048x2304 .f32 :=
  mulf (Host.dotGeneral dot_S4x2048x8x256_S4x2304x8x256_S4x8x2048x2304_3_3_1_1_02_02 none q k) (broadcastInDim S4x8x2048x2304 ![] bcast_S_S4x8x2048x2304 (Host.log (constant S_ .f32 0x40000000#32)))

/-- The largest score of each query. -/
def topLat (s : FVec Ideal S4x8x2048x2304 .f32) : FVec Ideal S4x8x2048 .f32 :=
  Host.reduce FloatOps.maximumf s (constant S_ .f32 0xFF800000#32) reducesTo_S4x8x2048x2304_S4x8x2048_d3 h_S_

/-- The exponentials of the scores' distance to their maximum. -/
def weightLat (s : FVec Ideal S4x8x2048x2304 .f32) (M : FVec Ideal S4x8x2048 .f32) : FVec Ideal S4x8x2048x2304 .f32 :=
  Host.exp (subf s (broadcastInDim S4x8x2048x2304 ![0, 1, 2, 3] bcast_S4x8x2048x1_S4x8x2048x2304_0_1_2_3 (broadcastInDim S4x8x2048x1 ![0, 1, 2] bcast_S4x8x2048_S4x8x2048x1_0_1_2 (maximumf (broadcastInDim S4x8x2048 ![] bcast_S_S4x8x2048 (constant S_ .f32 0xFF800000#32)) M))))

/-- The weights divided by their total. -/
def probLat (p : FVec Ideal S4x8x2048x2304 .f32) : FVec Ideal S4x8x2048x2304 .f32 :=
  Host.divf p (broadcastInDim S4x8x2048x2304 ![0, 1, 2, 3] bcast_S4x8x2048x1_S4x8x2048x2304_0_1_2_3 (broadcastInDim S4x8x2048x1 ![0, 1, 2] bcast_S4x8x2048_S4x8x2048x1_0_1_2 (Host.reduceAdd p (constant S_ .f32 0x00000000#32) reducesTo_S4x8x2048x2304_S4x8x2048_d3 h_S_)))

/-- The values under the weights. -/
def outLat (v : FVec Ideal S4x2304x8x128 .f32) (p : FVec Ideal S4x8x2048x2304 .f32) : FVec Ideal S4x2048x8x128 .f32 :=
  transpose S4x2048x8x128 [0, 3, 1, 2] (Host.dotGeneral dot_S4x2304x8x128_S4x8x2048x2304_S4x8x128x2048_1_3_3_2_02_01 none v p) transposes_S4x8x128x2048_S4x2048x8x128_0_3_1_2

/-- The attention of the lat queries. -/
def attendLat (q : FVec Ideal S4x2048x8x256 .f32) (k : FVec Ideal S4x2304x8x256 .f32) (v : FVec Ideal S4x2304x8x128 .f32) :
    FVec Ideal S4x2048x8x128 .f32 :=
  outLat v (probLat (weightLat (scoreLat q k) (topLat (scoreLat q k))))

/-- A score, at an entry. -/
theorem scoreLat_at (q : FVec Ideal S4x2048x8x256 .f32) (k : FVec Ideal S4x2304x8x256 .f32) (b : Fin 4) (h : Fin 8) (t : Fin 2048) (l : Fin 2304) :
    scoreLat q k (ix4 b h t l) = (∑ e : Fin 256, q (ix4 b t h e) * k (ix4 b l h e)) * Ideal.log ((2 : ℝ) : EReal) := by
  pointwise [scoreLat]
  rw [ofBits_two]

/-- A query's largest score. -/
theorem topLat_at (s : FVec Ideal S4x8x2048x2304 .f32) (b : Fin 4) (h : Fin 8) (t : Fin 2048) :
    topLat s (ix3 b h t) = Finset.univ.fold max ⊥ fun l : Fin 2304 => s (ix4 b h t l) := by
  unfold topLat
  rw [host_max_at (n0 := 4) (n1 := 8) (n2 := 2048) (n3 := 2304), ← ofBits_bot]
  rfl

/-- A weight, at an entry. -/
theorem weightLat_at (s : FVec Ideal S4x8x2048x2304 .f32) (M : FVec Ideal S4x8x2048 .f32) (b : Fin 4) (h : Fin 8) (t : Fin 2048) (l : Fin 2304) :
    weightLat s M (ix4 b h t l) = Ideal.exp (s (ix4 b h t l) - max ⊥ (M (ix3 b h t))) := by
  pointwise [weightLat]
  rw [ofBits_bot]

/-- A probability, at an entry. -/
theorem probLat_at (p : FVec Ideal S4x8x2048x2304 .f32) (b : Fin 4) (h : Fin 8) (t : Fin 2048) (l : Fin 2304) :
    probLat p (ix4 b h t l) = Ideal.div (p (ix4 b h t l)) (∑ j : Fin 2304, p (ix4 b h t j)) := by
  pointwise [probLat]

/-- A result, at an entry. -/
theorem outLat_at (v : FVec Ideal S4x2304x8x128 .f32) (p : FVec Ideal S4x8x2048x2304 .f32) (b : Fin 4) (t : Fin 2048) (h : Fin 8) (d : Fin 128) :
    outLat v p (ix4 b t h d) = ∑ l : Fin 2304, v (ix4 b l h d) * p (ix4 b h t l) := by
  pointwise [outLat]

/-- An entry of the attention of the lat queries: the attention of that query in base 2. -/
theorem attendLat_at (q : FVec Ideal S4x2048x8x256 .f32) (k : FVec Ideal S4x2304x8x256 .f32) (v : FVec Ideal S4x2304x8x128 .f32)
    (hq : ∀ i, ∃ r : ℝ, q i = (r : EReal)) (hk : ∀ i, ∃ r : ℝ, k i = (r : EReal)) (b : Fin 4) (t : Fin 2048) (h : Fin 8) (d : Fin 128) :
    attendLat q k v (ix4 b t h d)
      = att (fun l : Fin 2304 => ∑ e : Fin 256, q (ix4 b t h e) * k (ix4 b l h e)) (fun l => v (ix4 b l h d)) := by
  rw [base_two (by norm_num) _ _ fun l => dot_real _ _ (fun e => hq _) (fun e => hk _)]
  unfold attendLat
  simp only [outLat_at, probLat_at, weightLat_at, topLat_at, scoreLat_at]

/-- The reference's result over its arguments. -/
def REF (q k : FVec Ideal S9216x2048 .bf16) (v : FVec Ideal S9216x1024 .bf16) : FVec Ideal S9216x1024 .bf16 :=
  truncf .bf16 (shapeCast _ (concatenate S4x2304x8x128 1
    [⟨S4x256x8x128, attendCtx (ctxHeads (heads q)) (ctxHeads (heads k)) (ctxHeadsV (headsV v))⟩,
     ⟨S4x2048x8x128, attendLat (latHeads (heads q)) (heads k) (headsV v)⟩]
    concatenates_S4x256x8x128_S4x2048x8x128_S4x2304x8x128_d1) shapeCasts_S4x2304x8x128_S9216x1024) bitsLt_bf16_f32

/-- Each entry of the reference's result, for finite queries and keys: row `b * 2304 + r`, head `h`, column `d` of the head. A context
    row (`r < 256`) attends over the context's keys, a latent row over all of the batch row's keys. -/
theorem REF_at (q k : FVec Ideal S9216x2048 .bf16) (v : FVec Ideal S9216x1024 .bf16)
    (hq : ∀ i, ∃ r : ℝ, q i = (r : EReal)) (hk : ∀ i, ∃ r : ℝ, k i = (r : EReal)) (i : Fin 9216) (j : Fin 1024) :
    REF q k v (ix2 i j) =
      if (i : ℕ) % 2304 < 256 then
        att (fun l : Fin 256 => ∑ e : Fin 256, q (ix2 i ⟨(j : ℕ) / 128 * 256 + e, by omega⟩) * k (ix2 ⟨(i : ℕ) / 2304 * 2304 + l, by omega⟩ ⟨(j : ℕ) / 128 * 256 + e, by omega⟩))
          (fun l => v (ix2 ⟨(i : ℕ) / 2304 * 2304 + l, by omega⟩ j))
      else
        att (fun l : Fin 2304 => ∑ e : Fin 256, q (ix2 i ⟨(j : ℕ) / 128 * 256 + e, by omega⟩) * k (ix2 ⟨(i : ℕ) / 2304 * 2304 + l, by omega⟩ ⟨(j : ℕ) / 128 * 256 + e, by omega⟩))
          (fun l => v (ix2 ⟨(i : ℕ) / 2304 * 2304 + l, by omega⟩ j)) := by
  pointwise [REF]
  split
  · refine (attendCtx_at (ctxHeads (heads q)) (ctxHeads (heads k)) (ctxHeadsV (headsV v)) (fun _ => hq _) (fun _ => hk _) _ _ _ _).trans ?_
    refine att_congr (fun l => Finset.sum_congr rfl fun e _ => Ideal.mul_congr ?_ ?_) fun l => ?_
    · rw [ctxHeads_at, heads_at]
      exact congrArg q ((ix2_inj ..).2 ⟨Fin.ext (by dsimp only; omega), Fin.ext (by dsimp only)⟩)
    · rw [ctxHeads_at, heads_at]
    · rw [ctxHeadsV_at, headsV_at]
      exact congrArg v ((ix2_inj ..).2 ⟨rfl, Fin.ext (by dsimp only; omega)⟩)
  · refine (attendLat_at (latHeads (heads q)) (heads k) (headsV v) (fun _ => hq _) (fun _ => hk _) _ _ _ _).trans ?_
    refine att_congr (fun l => Finset.sum_congr rfl fun e _ => Ideal.mul_congr ?_ ?_) fun l => ?_
    · rw [latHeads_at, heads_at]
      exact congrArg q ((ix2_inj ..).2 ⟨Fin.ext (by dsimp only; omega), Fin.ext (by dsimp only)⟩)
    · rw [heads_at]
    · rw [headsV_at]
      exact congrArg v ((ix2_inj ..).2 ⟨rfl, Fin.ext (by dsimp only; omega)⟩)

/-- What the reference's run leaves is that term of its arguments. -/
theorem res_eq (m : (ℓ : Loc nD τ sig) → Buf (Elt Ideal) ℓ) (c : Dev nD) :
    Cert.ReferenceIdeal.Value.res_main_v45 m c = REF (m ((c.tc : Thread nD τ).loc main_arg0)) (m ((c.tc : Thread nD τ).loc main_arg1)) (m ((c.tc : Thread nD τ).loc main_arg2)) := rfl

end Cert.ReferenceIdeal.Attn

end
-- ==== Proof.AttnPoint.lean ====
module

public import proofs.«01_k».proof.Proof.AttnPay
public import proofs.«01_k».proof.Proof.AttnRef
public import proofs.«01_k».proof.Proof.Gen.KernelIdeal.Frame
public import Idealize.ShloMosaic.Lib.Pipeline.ValueKit

/-! The attention's final array, as one term of its three arguments. -/

@[expose] public section
set_option maxRecDepth 16384

noncomputable section
open Idealize.ShloMosaic Idealize.ShloMosaic.TcCoe Idealize.SL.Sem
open Cert.Softmax Idealize.ShloMosaic.Tactic

namespace Cert.KernelIdeal.Attn
open Cert.KernelIdeal.Gen

variable (m : (ℓ : Loc nD τ sig) → Buf (Elt Ideal) ℓ)

/-- Where each window sits at a point: queries and output move with the point, keys and values with the batch row. -/
theorem idx : ∀ t : Fin cfg0.N, win0_0.index t = ![t.val, 0] ∧ win0_1.index t = ![t.val / 6, 0]
    ∧ win0_2.index t = ![t.val / 6, 0] ∧ win0_3.index t = ![t.val, 0] :=
  (by decide +kernel : ∀ t : Fin grid0.N, _)

/-- A block's attention with `n` keys. -/
def blkAtt (n : ℕ) (hn : n ≤ 2304) (X : FVec Ideal S384x2048 .bf16) (K : FVec Ideal S2304x2048 .bf16) (V : FVec Ideal S2304x1024 .bf16)
    (a : Fin 384) (d : Fin 1024) : EReal :=
  att (fun l : Fin n => ∑ e : Fin 256, X (ix2 a ⟨(d : ℕ) / 128 * 256 + e, by omega⟩) * K (ix2 ⟨(l : ℕ), by omega⟩ ⟨(d : ℕ) / 128 * 256 + e, by omega⟩))
    (fun l => V (ix2 ⟨(l : ℕ), by omega⟩ d))

/-- What the first point of a batch row stores at an entry of its block: over the context keys alone for the context rows, over all keys for the others. -/
theorem pointA (c : Dev nD) (t : Fin cfg0.N) (h0 : t.val % 6 = 0) (h1 : ¬1 ≤ t.val % 6) (y : S384x1024.Idx)
    (a : Fin 384) (d : Fin 1024) (ha : (a : ℕ) = y 0) (hd : (d : ℕ) = y 1) :
    outsAt0 m c t.val t.isLt y = if (a : ℕ) < 256 then blkAtt 256 (by norm_num) (iblk m c 0 t) (iblk m c 1 t) (iblk m c 2 t) a d
      else blkAtt 2304 (by norm_num) (iblk m c 0 t) (iblk m c 1 t) (iblk m c 2 t) a d := by
  rw [outsAt0_A m c t h0 h1]; frame_out
  canon_tiles x h using View.cover_of_tiledBy _ ![128, 128] (by sl_kernel_rfl) y
  all_goals idx_vars x
  all_goals first
    | refine Eq.trans ?_ (if_neg (by omega)).symm; refine (pay9_at _ _ _ _ _).trans ?_
    | refine Eq.trans ?_ (if_pos (by omega)).symm; refine (pay1_at _ _ _ _ _).trans ?_
  all_goals
    refine att_congr (fun l => Finset.sum_congr rfl fun e _ => Ideal.mul_congr ?_ ?_) fun l => ?_ <;> (pointwise; blk_ext)

/-- What a later point of a batch row stores at an entry of its block: over all keys. -/
theorem pointB (c : Dev nD) (t : Fin cfg0.N) (h0 : ¬t.val % 6 = 0) (h1 : 1 ≤ t.val % 6) (y : S384x1024.Idx)
    (a : Fin 384) (d : Fin 1024) (ha : (a : ℕ) = y 0) (hd : (d : ℕ) = y 1) :
    outsAt0 m c t.val t.isLt y = blkAtt 2304 (by norm_num) (iblk m c 0 t) (iblk m c 1 t) (iblk m c 2 t) a d := by
  rw [outsAt0_B m c t h0 h1]; frame_out
  canon_tiles x h
  all_goals idx_vars x
  all_goals
    refine (pay17_at _ _ _ _ _).trans ?_
    refine att_congr (fun l => Finset.sum_congr rfl fun e _ => Ideal.mul_congr ?_ ?_) fun l => ?_ <;> (pointwise; blk_ext)

end Cert.KernelIdeal.Attn

end
-- ==== Proof.AttnFinal.lean ====
module

public import proofs.«01_k».proof.Proof.AttnPoint
public import proofs.«01_k».proof.Pre_finite_scores
public import proofs.«01_k».proof.Proof.Gen.Pre_finite_scores
public import Idealize.ShloMosaic.Lib.ReduceAll

/-! The kernel's final array is the reference's term, for finite queries and keys. -/

@[expose] public section
set_option maxRecDepth 16384

noncomputable section
open Idealize.ShloMosaic Idealize.ShloMosaic.TcCoe Idealize.SL.Sem
open Cert.Softmax Idealize.ShloMosaic.Tactic

namespace Cert.KernelIdeal.Attn
open Cert.KernelIdeal Cert.KernelIdeal.Gen

variable (m : (ℓ : Loc nD τ sig) → Buf (Elt Ideal) ℓ)

/-- The attention of row `i` over the first `n` tokens of its batch row, in the head column `d` belongs to. -/
def rowAtt (n : ℕ) (hn : n ≤ 2304) (Q K : FVec Ideal S9216x2048 .bf16) (V : FVec Ideal S9216x1024 .bf16) (i : Fin 9216) (d : Fin 1024) : EReal :=
  att (fun l : Fin n => ∑ e : Fin 256, Q (ix2 i ⟨(d : ℕ) / 128 * 256 + e, by omega⟩)
      * K (ix2 ⟨(i : ℕ) / 2304 * 2304 + l, by omega⟩ ⟨(d : ℕ) / 128 * 256 + e, by omega⟩))
    (fun l => V (ix2 ⟨(i : ℕ) / 2304 * 2304 + l, by omega⟩ d))

/-- The reference's entry. -/
theorem ref_row (Q K : FVec Ideal S9216x2048 .bf16) (V : FVec Ideal S9216x1024 .bf16)
    (hq : ∀ i, ∃ r : ℝ, Q i = (r : EReal)) (hk : ∀ i, ∃ r : ℝ, K i = (r : EReal)) (i : Fin 9216) (d : Fin 1024) :
    Cert.ReferenceIdeal.Attn.REF Q K V (ix2 i d)
      = if (i : ℕ) % 2304 < 256 then rowAtt 256 (by norm_num) Q K V i d else rowAtt 2304 (by norm_num) Q K V i d :=
  Cert.ReferenceIdeal.Attn.REF_at Q K V hq hk i d

/-- A block's attention is that of the row it lies in. -/
theorem blkAtt_eq (n : ℕ) (hn : n ≤ 2304) (c : Dev nD) (t : Fin cfg0.N) (a : Fin 384) (d : Fin 1024) (i : Fin 9216)
    (hi : (i : ℕ) = t.val * 384 + a) :
    blkAtt n hn (iblk m c 0 t) (iblk m c 1 t) (iblk m c 2 t) a d
      = rowAtt n hn (m ((c : Thread nD τ).loc main_arg0)) (m ((c : Thread nD τ).loc main_arg1)) (m ((c : Thread nD τ).loc main_arg2)) i d := by
  unfold blkAtt rowAtt
  refine att_congr (fun l => Finset.sum_congr rfl fun e _ => Ideal.mul_congr ?_ ?_) fun l => ?_ <;> blk_ext [iblk, V, idx t]

/-- The kernel's final array is the reference's term of the three arguments, if queries and keys are finite. -/
theorem final (c : Dev nD) (hq : ∀ i, ∃ r : ℝ, m ((c : Thread nD τ).loc main_arg0) i = (r : EReal))
    (hk : ∀ i, ∃ r : ℝ, m ((c : Thread nD τ).loc main_arg1) i = (r : EReal)) :
    (dats m 0 c).arrAt 3 cfg0.N
      = Cert.ReferenceIdeal.Attn.REF (m ((c : Thread nD τ).loc main_arg0)) (m ((c : Thread nD τ).loc main_arg1)) (m ((c : Thread nD τ).loc main_arg2)) := by
  refine (dats m 0 c).arrAt_eq_of_covers 3 _ (by decide +kernel) fun t hf y => ?_
  idx_vars y
  blk_simp [idx t]
  rw [after0_3]
  have ht : t.val < 24 := lt_of_lt_of_eq t.isLt (by decide)
  have he : (win0_3.blk t).view.emb (ix2 y0 y1) = ix2 (⟨t.val * 384 + y0, by omega⟩ : Fin 9216) y1 := by blk_ext [idx t]
  refine Eq.trans ?_ (congrArg _ he).symm
  refine Eq.trans ?_ (ref_row _ _ _ hq hk _ _).symm
  dsimp only
  by_cases h0 : t.val % 6 = 0
  · rw [pointA m c t h0 (by omega) (ix2 y0 y1) y0 y1 rfl rfl, blkAtt_eq m _ _ c t y0 y1 ⟨t.val * 384 + y0, by omega⟩ rfl,
      blkAtt_eq m _ _ c t y0 y1 ⟨t.val * 384 + y0, by omega⟩ rfl]
    have e : (t.val * 384 + (y0 : ℕ)) % 2304 = y0 := by omega
    rw [e]
  · rw [pointB m c t h0 (by omega) (ix2 y0 y1) y0 y1 rfl rfl, blkAtt_eq m _ _ c t y0 y1 ⟨t.val * 384 + y0, by omega⟩ rfl,
      if_neg (by omega)]

/-- An absolute value under infinity is that of a real number. -/
theorem real_of_abs {x : EReal} (h : max x (-x) < ⊤) : ∃ r : ℝ, x = (r : EReal) := by
  induction x with
  | bot => simp at h
  | top => simp at h
  | coe r => exact ⟨r, rfl⟩

/-- The bit pattern of infinity. -/
theorem ofBits_top : Ideal.ofBits .f32 0x7F800000#32 = ⊤ := by simp [Ideal.ofBits, Ideal.ieee]

/-- The comparison that the precondition makes at an entry says that the entry is a real number. -/
theorem real_of_cmp {x : EReal} (h : BitVec.ofBool (decide (max x (-x) < Ideal.ofBits .f32 0x7F800000#32)) = 1#1) :
    ∃ r : ℝ, x = (r : EReal) := by
  rw [ofBits_top] at h
  by_cases hx : max x (-x) < ⊤
  · exact real_of_abs hx
  · simp [hx] at h

/-- From the precondition: every query and every key is a real number. -/
theorem finite_of_pre (Q K : FVec Ideal S9216x2048 .bf16) (V : FVec Ideal S9216x1024 .bf16)
    (h : Cert.Pre_finite_scores.fn (F := Ideal) Q K V = fun _ => 1#1) :
    (∀ i, ∃ r : ℝ, Q i = (r : EReal)) ∧ (∀ i, ∃ r : ℝ, K i = (r : EReal)) := by
  have e := congrFun h ix0
  unfold Cert.Pre_finite_scores.fn at e
  obtain ⟨e0, e1⟩ := IntOp.andi_eq_one.1 e
  exact ⟨fun i => real_of_cmp (Host.reduce_andi_all _ _ _ _ _ e0 i), fun i => real_of_cmp (Host.reduce_andi_all _ _ _ _ _ e1 i)⟩

end Cert.KernelIdeal.Attn

end
-- ==== Proof.Rows.lean ====
module

public import Idealize.ShloMosaic.Lib.Pipeline.ValueKit

/-! What the calls share: the modulation of a row, the gate of a row, the layer norm of a row, and the kernels' row mask. -/

@[expose] public section
set_option maxRecDepth 16384

noncomputable section
open Idealize.ShloMosaic Idealize.ShloMosaic.TcCoe Idealize.SL.Sem

namespace Cert

/-- Vector `s` of row `r`: the context's for the first 256 rows of a batch row, the batch row's own for the others. -/
def gateRow (s : ℕ) (hs : s < 6) (ada : FVec Ideal ⟨5, ![2, 6, 8, 1, 2048]⟩ .f32) (r : Fin 9216) (k : Fin 2048) : EReal :=
  if (r : ℕ) % 2304 < 256 then ada (ix5 0 ⟨s, hs⟩ 4 0 k) else ada (ix5 0 ⟨s, hs⟩ ⟨(r : ℕ) / 2304, by omega⟩ 0 k)

/-- Row `r` of the input, scaled by vector `s` and shifted by vector `h`. -/
def modRow (s h : ℕ) (hs : s < 6) (hh : h < 6) (x : FVec Ideal ⟨2, ![9216, 2048]⟩ .f32) (ada : FVec Ideal ⟨5, ![2, 6, 8, 1, 2048]⟩ .f32)
    (r : Fin 9216) (k : Fin 2048) : EReal :=
  if (r : ℕ) % 2304 < 256 then x (ix2 r k) * ada (ix5 0 ⟨s, hs⟩ 4 0 k) + ada (ix5 0 ⟨h, hh⟩ 4 0 k)
  else x (ix2 r k) * ada (ix5 0 ⟨s, hs⟩ ⟨(r : ℕ) / 2304, by omega⟩ 0 k) + ada (ix5 0 ⟨h, hh⟩ ⟨(r : ℕ) / 2304, by omega⟩ 0 k)

/-- The mean of a row. -/
def meanRow (z : Fin 2048 → EReal) : EReal := Ideal.div (∑ e, z e) (Ideal.ofBits .f32 0x45000000#32)

/-- An entry of the layer norm of a row, with its gain and bias. -/
def lnRow (z : Fin 2048 → EReal) (g b : EReal) (d : Fin 2048) : EReal :=
  (z d - meanRow z) * Ideal.rsqrt (meanRow (fun e => (z e - meanRow z) * (z e - meanRow z)) + Ideal.ofBits .f32 0x3727C5AC#32) * g + b

/-- An entry of the layer norm of the residual sum: `y` gated by vector `s`, with the row of `x` scaled. -/
def outRow (s : ℕ) (hs : s < 6) (x : FVec Ideal ⟨2, ![9216, 2048]⟩ .f32) (ada : FVec Ideal ⟨5, ![2, 6, 8, 1, 2048]⟩ .f32)
    (lg lb : FVec Ideal ⟨2, ![2, 2048]⟩ .f32) (y : Fin 9216 → Fin 2048 → EReal) (r : Fin 9216) (d : Fin 2048) : EReal :=
  lnRow (fun e => Ideal.ofBits .f32 0x3FB504F3#32 * x (ix2 r e) + gateRow s hs ada r e * y r e) (lg (ix2 0 d)) (lb (ix2 0 d)) d

/-- How many rows of tile `n` are context rows, when `p` tiles make a batch row. -/
def nctx (p n : BitVec 32) : BitVec 32 :=
  Scalar.select (Scalar.cmpi .eq (Scalar.select
    (Scalar.andi (Scalar.xori (Scalar.cmpi .slt (Scalar.remsi n (Scalar.select (Scalar.cmpi .eq p 0#32) 1#32 p)) 0#32)
        (Scalar.cmpi .slt (Scalar.select (Scalar.cmpi .eq p 0#32) 1#32 p) 0#32))
      (Scalar.cmpi .ne (Scalar.remsi n (Scalar.select (Scalar.cmpi .eq p 0#32) 1#32 p)) 0#32))
    (Scalar.addi (Scalar.remsi n (Scalar.select (Scalar.cmpi .eq p 0#32) 1#32 p)) (Scalar.select (Scalar.cmpi .eq p 0#32) 1#32 p))
    (Scalar.remsi n (Scalar.select (Scalar.cmpi .eq p 0#32) 1#32 p))) 0#32) 256#32 0#32

/-- That number is 256 for the first tile of a batch row and none for the others: two, three or four tiles to a batch row. -/
theorem nctx_eq : ∀ p : Fin 5, 2 ≤ (p : ℕ) → ∀ q : Fin 16, nctx (BitVec.ofNat 32 p) (BitVec.ofNat 32 q) = if (q : ℕ) % p = 0 then 256#32 else 0#32 := by
  decide +kernel

/-- A row number compared with 256. -/
theorem slt_256 : ∀ r : Fin 1152, IntOp.cmpi .slt (BitVec.ofNat 32 r) 256#32 = BitVec.ofBool (decide ((r : ℕ) < 256)) := by decide +kernel

/-- A row number compared with none. -/
theorem slt_0 : ∀ r : Fin 1152, IntOp.cmpi .slt (BitVec.ofNat 32 r) 0#32 = 0#1 := by decide +kernel

/-- The choice by the row mask of tile `q`, when `p` tiles make a batch row. -/
theorem sel_mask (p q r : ℕ) (hp : 2 ≤ p) (hp' : p < 5) (hq : q < 16) (hr : r < 1152) (u v : EReal) :
    Scalar.select (IntOp.cmpi .slt (BitVec.ofNat 32 r) (nctx (BitVec.ofNat 32 p) (BitVec.ofNat 32 q))) u v = if q % p = 0 ∧ r < 256 then u else v := by
  rw [nctx_eq ⟨p, hp'⟩ hp ⟨q, hq⟩]
  by_cases hq : q % p = 0
  · rw [if_pos hq, slt_256 ⟨r, hr⟩]
    by_cases hr : r < 256 <;> simp [hq, hr, Scalar.select]
  · rw [if_neg hq, slt_0 ⟨r, hr⟩]
    simp [hq, Scalar.select]

end Cert

end
-- ==== Proof.MixinRef.lean ====
module

public import proofs.«01_k».proof.Proof.Rows
public import proofs.«01_k».proof.Proof.Gen.MixinReferenceIdeal.Run
public import Idealize.ShloMosaic.Lib.Pointwise
public import Idealize.ShloMosaic.Lib.Pipeline.ValueKit

/-! The input projection's reference: its modulated rows, and each result as one entry of a product. -/

@[expose] public section
set_option maxRecDepth 16384

noncomputable section
open Idealize.ShloMosaic Idealize.ShloMosaic.TcCoe Idealize.SL.Sem

namespace Cert.MixinReferenceIdeal.Mix
open Cert.MixinReferenceIdeal Cert.MixinReferenceIdeal.Gen

/-- The modulated rows. -/
def modulated (x : FVec Ideal S9216x2048 .f32) (ada : FVec Ideal S2x6x8x1x2048 .f32) : FVec Ideal S9216x2048 .f32 :=
  shapeCast _ (concatenate S4x2304x2048 1 [⟨S4x256x2048, (addf (mulf (extractStridedSlice S4x256x2048 ![0, 0, 0] (shapeCast _ x shapeCasts_S9216x2048_S4x2304x2048) slices_S4x2304x2048_S4x256x2048_0_0_0) (broadcastInDim S4x256x2048 ![0, 1, 2] bcast_S1x1x2048_S4x256x2048_0_1_2 (broadcastInDim S1x1x2048 ![2] bcast_S2048_S1x1x2048_2 (shapeCast _ (extractStridedSlice S1x1x1x1x2048 ![0, 1, 4, 0, 0] ada slices_S2x6x8x1x2048_S1x1x1x1x2048_0_1_4_0_0) shapeCasts_S1x1x1x1x2048_S2048)))) (broadcastInDim S4x256x2048 ![0, 1, 2] bcast_S1x1x2048_S4x256x2048_0_1_2 (broadcastInDim S1x1x2048 ![2] bcast_S2048_S1x1x2048_2 (shapeCast _ (extractStridedSlice S1x1x1x1x2048 ![0, 0, 4, 0, 0] ada slices_S2x6x8x1x2048_S1x1x1x1x2048_0_0_4_0_0) shapeCasts_S1x1x1x1x2048_S2048))))⟩, ⟨S4x2048x2048, (addf (mulf (extractStridedSlice S4x2048x2048 ![0, 256, 0] (shapeCast _ x shapeCasts_S9216x2048_S4x2304x2048) slices_S4x2304x2048_S4x2048x2048_0_256_0) (broadcastInDim S4x2048x2048 ![0, 1, 2] bcast_S4x1x2048_S4x2048x2048_0_1_2 (shapeCast _ (extractStridedSlice S1x1x4x1x2048 ![0, 1, 0, 0, 0] ada slices_S2x6x8x1x2048_S1x1x4x1x2048_0_1_0_0_0) shapeCasts_S1x1x4x1x2048_S4x1x2048))) (broadcastInDim S4x2048x2048 ![0, 1, 2] bcast_S4x1x2048_S4x2048x2048_0_1_2 (shapeCast _ (extractStridedSlice S1x1x4x1x2048 ![0, 0, 0, 0, 0] ada slices_S2x6x8x1x2048_S1x1x4x1x2048_0_0_0_0_0) shapeCasts_S1x1x4x1x2048_S4x1x2048)))⟩] concatenates_S4x256x2048_S4x2048x2048_S4x2304x2048_d1) shapeCasts_S4x2304x2048_S9216x2048

/-- An entry of the modulated rows. -/
theorem modulated_at (x : FVec Ideal S9216x2048 .f32) (ada : FVec Ideal S2x6x8x1x2048 .f32) (r : Fin 9216) (k : Fin 2048) :
    modulated x ada (ix2 r k) = Cert.modRow 1 0 (by norm_num) (by norm_num) x ada r k := by
  unfold Cert.modRow
  pointwise [modulated]
  by_cases hr : (r : ℕ) % 2304 < 256
  · rw [dif_pos hr, if_pos hr]
  · rw [dif_neg hr, if_neg hr]
    refine congrArg₂ (· + ·) (Ideal.mul_congr (congrArg x ?_) rfl) rfl
    exact (ix2_inj ..).2 ⟨Fin.ext (by dsimp only; omega), rfl⟩

/-- The product with the weights' rows. -/
def proj (x : FVec Ideal S9216x2048 .f32) (ada : FVec Ideal S2x6x8x1x2048 .f32) (w : FVec Ideal S10560x2048 .bf16) : FVec Ideal S9216x10560 .f32 :=
  Host.dotGeneral dot_S9216x2048_S2048x10560_S9216x10560_1_0_0_1_n_n none (modulated x ada)
    (transpose S2048x10560 [1, 0] (extf .f32 w bitsLt_bf16_f32) transposes_S10560x2048_S2048x10560_1_0)

/-- An entry of the product. -/
theorem proj_at (x : FVec Ideal S9216x2048 .f32) (ada : FVec Ideal S2x6x8x1x2048 .f32) (w : FVec Ideal S10560x2048 .bf16) (r : Fin 9216) (n : Fin 10560) :
    proj x ada w (ix2 r n) = ∑ k : Fin 2048, Cert.modRow 1 0 (by norm_num) (by norm_num) x ada r k * w (ix2 n k) := by
  have e : ∀ u : FVec Ideal S9216x2048 .f32, (Host.dotGeneral dot_S9216x2048_S2048x10560_S9216x10560_1_0_0_1_n_n none u
      (transpose S2048x10560 [1, 0] (extf .f32 w bitsLt_bf16_f32) transposes_S10560x2048_S2048x10560_1_0) : FVec Ideal S9216x10560 .f32) (ix2 r n)
      = ∑ k : Fin 2048, u (ix2 r k) * w (ix2 n k) := fun u => by pointwise
  exact (e _).trans (Finset.sum_congr rfl fun k _ => Ideal.mul_congr (modulated_at x ada r k) rfl)

/-- The reference's first result: the product's columns, the gap filled with the columns that follow it. -/
def REF (x : FVec Ideal S9216x2048 .f32) (ada : FVec Ideal S2x6x8x1x2048 .f32) (w : FVec Ideal S10560x2048 .bf16) : FVec Ideal S9216x10752 .bf16 :=
  truncf .bf16 (concatenate S9216x10752 1 [⟨S9216x3072, (extractStridedSlice S9216x3072 ![0, 0] (proj x ada w) slices_S9216x10560_S9216x3072_0_0)⟩,
    ⟨S9216x7680, (extractStridedSlice S9216x7680 ![0, 2880] (proj x ada w) slices_S9216x10560_S9216x7680_0_2880)⟩]
    concatenates_S9216x3072_S9216x7680_S9216x10752_d1) bitsLt_bf16_f32

/-- An entry of the first result. -/
theorem REF_at (x : FVec Ideal S9216x2048 .f32) (ada : FVec Ideal S2x6x8x1x2048 .f32) (w : FVec Ideal S10560x2048 .bf16) (r : Fin 9216) (n : Fin 10752)
    (n' : Fin 10560) (hn : (n' : ℕ) = if (n : ℕ) < 3072 then (n : ℕ) else n - 192) :
    REF x ada w (ix2 r n) = ∑ k : Fin 2048, Cert.modRow 1 0 (by norm_num) (by norm_num) x ada r k * w (ix2 n' k) := by
  refine Eq.trans ?_ (proj_at x ada w r n')
  pointwise [REF]
  split at hn
  · rename_i h
    rw [dif_pos h]
    exact congrArg (proj x ada w) ((ix2_inj ..).2 ⟨rfl, Fin.ext hn.symm⟩)
  · rename_i h
    rw [dif_neg h]
    exact congrArg (proj x ada w) ((ix2_inj ..).2 ⟨rfl, Fin.ext (by dsimp only; omega)⟩)

/-- The reference's second result: the first layer of the other weights. -/
def CAST (w : FVec Ideal S2x5632x2048 .f32) : FVec Ideal S5632x2048 .bf16 :=
  truncf .bf16 (shapeCast S5632x2048 (extractStridedSlice S1x5632x2048 ![0, 0, 0] w slices_S2x5632x2048_S1x5632x2048_0_0_0) shapeCasts_S1x5632x2048_S5632x2048) bitsLt_bf16_f32

/-- What the run leaves first is that term. -/
theorem res_eq (m : (ℓ : Loc nD τ sig) → Buf (Elt Ideal) ℓ) (c : Dev nD) :
    Cert.MixinReferenceIdeal.Value.res_main_v29 m c = REF (m ((c.tc : Thread nD τ).loc main_arg0)) (m ((c.tc : Thread nD τ).loc main_arg1)) (m ((c.tc : Thread nD τ).loc main_arg2)) := rfl

end Cert.MixinReferenceIdeal.Mix

end
-- ==== Proof.MixinPoint.lean ====
module

public import proofs.«01_k».proof.Proof.MixinRef
public import proofs.«01_k».proof.Proof.Gen.MixinIdeal.Frame
public import Idealize.ShloMosaic.Lib.Pipeline.ValueKit

/-! The input projection's arrays. -/

@[expose] public section
set_option maxRecDepth 16384

noncomputable section
open Idealize.ShloMosaic Idealize.ShloMosaic.TcCoe Idealize.SL.Sem
open Idealize.ShloMosaic.Tactic

namespace Cert.MixinIdeal.Mix
open Cert.MixinIdeal Cert.MixinIdeal.Gen

variable (m : (ℓ : Loc nD τ sig) → Buf (Elt Ideal) ℓ)

/-- Where each window sits at a point. -/
theorem idx : ∀ t : Fin cfg0.N, win0_0.index t = ![t.val / 7, 0] ∧ win0_1.index t = ![0, 1, t.val / 14, 0, 0]
    ∧ win0_2.index t = ![0, 1, 4, 0, 0] ∧ win0_3.index t = ![0, 0, t.val / 14, 0, 0] ∧ win0_4.index t = ![0, 0, 4, 0, 0]
    ∧ win0_6.index t = ![0, min t.val 43, 0] ∧ win0_7.index t = ![t.val / 7, t.val % 7] ∧ win0_8.index t = ![min t.val 43, 0] :=
  (by decide +kernel : ∀ t : Fin grid0.N, _)

/-- Where the weights' window begins: its rows skip back over the gap. -/
theorem idx5 : ∀ t : Fin cfg0.N, win0_5.index t = ![if t.val % 7 < 2 then t.val % 7 * 1536 else t.val % 7 * 1536 - 192, 0] :=
  (by decide +kernel : ∀ t : Fin grid0.N, _)

/-- The modulated tile, entry by entry. -/
theorem pay2_at (i : grid0.Coords) (a b a' b' : FVec Ideal S1x1x1x1x2048 .f32) (x : FVec Ideal S1152x2048 .f32) (r : Fin 1152) (k : Fin 2048) :
    k0_pay2 (F := Ideal) i (k0_pay4 (BitVec.ofNat 32 (i 0).val) a b) (k0_pay5 a') (k0_pay6 b') (iota .tc S1152x1 32 [0] iota_S1152x1_d0_w32) x (ix2 r k)
      = if (i 0 : ℕ) % 2 = 0 ∧ (r : ℕ) < 256 then x (ix2 r k) * a (ix5 0 0 0 0 k) + a' (ix5 0 0 0 0 k)
        else x (ix2 r k) * b (ix5 0 0 0 0 k) + b' (ix5 0 0 0 0 k) := by
  pointwise [k0_pay2, k0_pay4, k0_pay5, k0_pay6]
  refine (congrArg₂ (· + ·) (Ideal.mul_congr rfl (sel_mask 2 (i 0) r (by norm_num) (by norm_num) ((i 0).isLt.trans (by decide)) r.isLt _ _)) (sel_mask 2 (i 0) r (by norm_num) (by norm_num) ((i 0).isLt.trans (by decide)) r.isLt _ _)).trans ?_
  split <;> rfl

/-- The first grid coordinate of a point. -/
theorem coord0 : ∀ t : Fin cfg0.N, ((grid0.coords t 0 : Fin _) : ℕ) = t.val / 7 := (by decide +kernel : ∀ t : Fin grid0.N, _)

/-- The tile's modulated rows are the array's. -/
theorem mod_eq (c : Dev nD) (t : Fin cfg0.N) (r : Fin 1152) (k : Fin 2048) (g : Fin 9216) (hg : (g : ℕ) = t.val / 7 * 1152 + r) :
    k0_pay2 (F := Ideal) (grid0.coords t) (k0_pay4 (BitVec.ofNat 32 (grid0.coords t 0).val) (iblk m c 2 t) (iblk m c 1 t))
        (k0_pay5 (iblk m c 4 t)) (k0_pay6 (iblk m c 3 t)) (iota .tc S1152x1 32 [0] iota_S1152x1_d0_w32) (iblk m c 0 t) (ix2 r k)
      = Cert.modRow 1 0 (by norm_num) (by norm_num) (m ((c : Thread nD τ).loc main_arg0)) (m ((c : Thread nD τ).loc main_arg1)) g k := by
  have ht : t.val < 56 := lt_of_lt_of_eq t.isLt (by decide)
  refine (pay2_at _ _ _ _ _ _ r k).trans ?_
  unfold Cert.modRow
  rw [coord0 t]
  by_cases h : t.val / 7 % 2 = 0 ∧ (r : ℕ) < 256
  · rw [if_pos h, if_pos (by omega)]
    refine congrArg₂ (· + ·) (Ideal.mul_congr ?_ ?_) ?_ <;> blk_ext [iblk, V, idx t]
  · rw [if_neg h, if_neg (by omega)]
    refine congrArg₂ (· + ·) (Ideal.mul_congr ?_ ?_) ?_ <;> blk_ext [iblk, V, idx t]

/-- The scratch holds the modulated rows of the point's row block. -/
theorem scr (c : Dev nD) (n : ℕ) : ∀ (hn : n < cfg0.N) (r : Fin 1152) (k : Fin 2048) (g : Fin 9216), (g : ℕ) = n / 7 * 1152 + r →
    (outsAt0 m c n hn).2.2 (ix2 r k)
      = Cert.modRow 1 0 (by norm_num) (by norm_num) (m ((c : Thread nD τ).loc main_arg0)) (m ((c : Thread nD τ).loc main_arg1)) g k := by
  induction n using Nat.strong_induction_on with
  | _ n ih =>
    intro hn r k g hg
    by_cases h0 : n % 7 = 0
    · rw [outsAt0_A m c ⟨n, hn⟩ h0]
      frame_out
      exact mod_eq m c ⟨n, hn⟩ r k g hg
    · rw [outsAt0_B m c ⟨n, hn⟩ h0]
      unfold sout0_B_0
      dsimp only
      exact ih (n - 1) (by omega) _ r k g (by omega)

/-- The first output's block is the product of the scratch with the weights' block. -/
theorem out_scr (c : Dev nD) (t : Fin cfg0.N) :
    (outsAt0 m c t.val t.isLt).1 = k0_pay3 (outsAt0 m c t.val t.isLt).2.2 (iblk m c 5 t) := by
  by_cases h0 : t.val % 7 = 0
  · rw [outsAt0_A m c t h0]
    frame_out
  · rw [outsAt0_B m c t h0]
    unfold sout0_B_0
    frame_out
    exact congrArg (fun u => k0_pay3 u (iblk m c 5 t)) (Memref.IsWhole.read_unread ..)

/-- The second output's block is the layer's block. -/
theorem out_cast (c : Dev nD) (t : Fin cfg0.N) :
    (outsAt0 m c t.val t.isLt).2.1 = k0_pay1 (iblk m c 6 t) := by
  by_cases h0 : t.val % 7 = 0
  · rw [outsAt0_A m c t h0]
    frame_out
  · rw [outsAt0_B m c t h0]
    frame_out

/-- An entry of the product. -/
theorem pay3_at (u : FVec Ideal S1152x2048 .bf16) (w : FVec Ideal S1536x2048 .bf16) (r : Fin 1152) (n : Fin 1536) :
    k0_pay3 (F := Ideal) u w (ix2 r n) = ∑ k : Fin 2048, u (ix2 r k) * w (ix2 n k) := by
  pointwise [k0_pay3]

/-- An entry of the cast. -/
theorem pay1_at (x : FVec Ideal S1x128x2048 .f32) (r : Fin 128) (k : Fin 2048) :
    k0_pay1 (F := Ideal) x (ix2 r k) = x (ix3 0 r k) := by
  pointwise [k0_pay1]

/-- The kernel's first array is the reference's term. -/
theorem final7 (c : Dev nD) :
    (dats m 0 c).arrAt 7 cfg0.N
      = Cert.MixinReferenceIdeal.Mix.REF (m ((c : Thread nD τ).loc main_arg0)) (m ((c : Thread nD τ).loc main_arg1)) (m ((c : Thread nD τ).loc main_arg2)) := by
  refine (dats m 0 c).arrAt_eq_of_covers 7 _ (by decide +kernel) fun t hf y => ?_
  idx_vars y
  blk_simp [idx t]
  rw [after0_7, out_scr m c t]
  have ht : t.val < 56 := lt_of_lt_of_eq t.isLt (by decide)
  have he : (win0_7.blk t).view.emb (ix2 y0 y1) = ix2 (⟨t.val / 7 * 1152 + y0, by omega⟩ : Fin 9216) (⟨t.val % 7 * 1536 + y1, by omega⟩ : Fin 10752) := by blk_ext [idx t]
  refine Eq.trans ?_ (congrArg _ he).symm
  refine Eq.trans ?_ (Cert.MixinReferenceIdeal.Mix.REF_at _ _ _ _ _ ⟨(if t.val % 7 < 2 then t.val % 7 * 1536 else t.val % 7 * 1536 - 192) + y1, by split <;> omega⟩
    (by dsimp only; split <;> split <;> omega)).symm
  refine (pay3_at _ _ y0 y1).trans (Finset.sum_congr rfl fun k _ => Ideal.mul_congr (scr m c t.val t.isLt y0 k _ rfl) ?_)
  refine congrArg (m ((c : Thread nD τ).loc main_arg2)) (funext fun a => Fin.ext ?_)
  fin_cases a
  · exact (Pipeline.Window.rect_emb_val_off win0_5 t (ix2 y1 k) 0).trans (by rw [idx5 t]; rfl)
  · exact (Pipeline.Window.rect_emb_val_off win0_5 t (ix2 y1 k) 1).trans (by rw [idx5 t]; exact Nat.zero_add _)

/-- The kernel's second array is the reference's. -/
theorem final8 (c : Dev nD) :
    (dats m 0 c).arrAt 8 cfg0.N = Cert.MixinReferenceIdeal.Mix.CAST (m ((c : Thread nD τ).loc main_arg3)) := by
  refine (dats m 0 c).arrAt_eq_of_covers 8 _ (by decide +kernel) fun t hf y => ?_
  idx_vars y
  blk_simp [idx t]
  rw [after0_8, out_cast m c t]
  have ht : t.val < 56 := lt_of_lt_of_eq t.isLt (by decide)
  have he : (win0_8.blk t).view.emb (ix2 y0 y1) = ix2 (⟨min t.val 43 * 128 + y0, by omega⟩ : Fin 5632) y1 := by blk_ext [idx t]
  refine Eq.trans ?_ (congrArg _ he).symm
  refine (pay1_at _ y0 y1).trans ?_
  pointwise [Cert.MixinReferenceIdeal.Mix.CAST]
  blk_ext [iblk, V, idx t]

end Cert.MixinIdeal.Mix

end
-- ==== Proof.Norm.lean ====
module

public import proofs.«01_k».proof.Proof.Rows
public import proofs.«01_k».proof.Proof.Gen.FfnReferenceIdeal.Run

/-! The references' layer norms, and the layer norm of the residual sum, entry by entry. -/

@[expose] public section
set_option maxRecDepth 16384

noncomputable section
open Idealize.ShloMosaic Idealize.ShloMosaic.TcCoe Idealize.SL.Sem

namespace Cert.Norm
open Cert.FfnReferenceIdeal Cert.FfnReferenceIdeal.Gen

/-- The layer norm of the context rows. -/
def lnCtx (z : FVec Ideal S4x256x2048 .f32) (g b : FVec Ideal S2x2048 .f32) : FVec Ideal S4x256x2048 .f32 :=
  let mu := broadcastInDim S4x256x2048 ![0, 1, 2] bcast_S4x256x1_S4x256x2048_0_1_2 (Host.divf (broadcastInDim S4x256x1 ![0, 1] bcast_S4x256_S4x256x1_0_1 (Host.reduceAdd z (constant S_ .f32 0x00000000#32) reducesTo_S4x256x2048_S4x256_d2 h_S_)) (broadcastInDim S4x256x1 ![] bcast_S_S4x256x1 (constant S_ .f32 0x45000000#32)))
  addf (mulf (mulf (subf z mu) (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf (subf z mu) (subf z mu)) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x3727C5AC#32))))))
      (broadcastInDim S4x256x2048 ![0, 1, 2] bcast_S1x1x2048_S4x256x2048_0_1_2 (broadcastInDim S1x1x2048 ![2] bcast_S2048_S1x1x2048_2 (shapeCast _ (extractStridedSlice S1x2048 ![0, 0] g slices_S2x2048_S1x2048_0_0) shapeCasts_S1x2048_S2048))))
    (broadcastInDim S4x256x2048 ![0, 1, 2] bcast_S1x1x2048_S4x256x2048_0_1_2 (broadcastInDim S1x1x2048 ![2] bcast_S2048_S1x1x2048_2 (shapeCast _ (extractStridedSlice S1x2048 ![0, 0] b slices_S2x2048_S1x2048_0_0) shapeCasts_S1x2048_S2048)))

/-- The layer norm of the other rows. -/
def lnLat (z : FVec Ideal S4x2048x2048 .f32) (g b : FVec Ideal S2x2048 .f32) : FVec Ideal S4x2048x2048 .f32 :=
  let mu := broadcastInDim S4x2048x2048 ![0, 1, 2] bcast_S4x2048x1_S4x2048x2048_0_1_2 (Host.divf (broadcastInDim S4x2048x1 ![0, 1] bcast_S4x2048_S4x2048x1_0_1 (Host.reduceAdd z (constant S_ .f32 0x00000000#32) reducesTo_S4x2048x2048_S4x2048_d2 h_S_)) (broadcastInDim S4x2048x1 ![] bcast_S_S4x2048x1 (constant S_ .f32 0x45000000#32)))
  addf (mulf (mulf (subf z mu) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (subf z mu) (subf z mu)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x3727C5AC#32))))))
      (broadcastInDim S4x2048x2048 ![0, 1, 2] bcast_S1x1x2048_S4x2048x2048_0_1_2 (broadcastInDim S1x1x2048 ![2] bcast_S2048_S1x1x2048_2 (shapeCast _ (extractStridedSlice S1x2048 ![0, 0] g slices_S2x2048_S1x2048_0_0) shapeCasts_S1x2048_S2048))))
    (broadcastInDim S4x2048x2048 ![0, 1, 2] bcast_S1x1x2048_S4x2048x2048_0_1_2 (broadcastInDim S1x1x2048 ![2] bcast_S2048_S1x1x2048_2 (shapeCast _ (extractStridedSlice S1x2048 ![0, 0] b slices_S2x2048_S1x2048_0_0) shapeCasts_S1x2048_S2048)))

/-- An entry of the context rows' layer norm. -/
theorem lnCtx_at (z : FVec Ideal S4x256x2048 .f32) (g b : FVec Ideal S2x2048 .f32) (i : Fin 4) (r : Fin 256) (d : Fin 2048) :
    lnCtx z g b (ix3 i r d) = Cert.lnRow (fun e => z (ix3 i r e)) (g (ix2 0 d)) (b (ix2 0 d)) d := by
  unfold Cert.lnRow Cert.meanRow
  pointwise [lnCtx]

/-- An entry of the other rows' layer norm. -/
theorem lnLat_at (z : FVec Ideal S4x2048x2048 .f32) (g b : FVec Ideal S2x2048 .f32) (i : Fin 4) (r : Fin 2048) (d : Fin 2048) :
    lnLat z g b (ix3 i r d) = Cert.lnRow (fun e => z (ix3 i r e)) (g (ix2 0 d)) (b (ix2 0 d)) d := by
  unfold Cert.lnRow Cert.meanRow
  pointwise [lnLat]

/-- The context rows' residual sum: the input scaled, and `y` gated by the context's vector. -/
def zCtx (x : FVec Ideal S9216x2048 .f32) (gv : FVec Ideal S1x1x1x1x2048 .f32) (y : FVec Ideal S4x256x2048 .f32) : FVec Ideal S4x256x2048 .f32 :=
  addf (mulf (broadcastInDim S4x256x2048 ![] bcast_S_S4x256x2048 (constant S_ .f32 0x3FB504F3#32)) (extractStridedSlice S4x256x2048 ![0, 0, 0] (shapeCast _ x shapeCasts_S9216x2048_S4x2304x2048) slices_S4x2304x2048_S4x256x2048_0_0_0))
    (mulf (broadcastInDim S4x256x2048 ![0, 1, 2] bcast_S1x1x2048_S4x256x2048_0_1_2 (broadcastInDim S1x1x2048 ![2] bcast_S2048_S1x1x2048_2 (shapeCast _ gv shapeCasts_S1x1x1x1x2048_S2048))) y)

/-- The other rows' residual sum: the input scaled, and `y` gated by the batch row's vector. -/
def zLat (x : FVec Ideal S9216x2048 .f32) (gv : FVec Ideal S1x1x4x1x2048 .f32) (y : FVec Ideal S4x2048x2048 .f32) : FVec Ideal S4x2048x2048 .f32 :=
  addf (mulf (broadcastInDim S4x2048x2048 ![] bcast_S_S4x2048x2048 (constant S_ .f32 0x3FB504F3#32)) (extractStridedSlice S4x2048x2048 ![0, 256, 0] (shapeCast _ x shapeCasts_S9216x2048_S4x2304x2048) slices_S4x2304x2048_S4x2048x2048_0_256_0))
    (mulf (broadcastInDim S4x2048x2048 ![0, 1, 2] bcast_S4x1x2048_S4x2048x2048_0_1_2 (shapeCast _ gv shapeCasts_S1x1x4x1x2048_S4x1x2048)) y)

/-- The layer norm of the residual sum, context rows and other rows put together. -/
def outAll (x : FVec Ideal S9216x2048 .f32) (gc : FVec Ideal S1x1x1x1x2048 .f32) (gl : FVec Ideal S1x1x4x1x2048 .f32)
    (yc : FVec Ideal S4x256x2048 .f32) (yl : FVec Ideal S4x2048x2048 .f32) (g b : FVec Ideal S2x2048 .f32) : FVec Ideal S9216x2048 .f32 :=
  shapeCast _ (concatenate S4x2304x2048 1 [⟨S4x256x2048, lnCtx (zCtx x gc yc) g b⟩, ⟨S4x2048x2048, lnLat (zLat x gl yl) g b⟩]
    concatenates_S4x256x2048_S4x2048x2048_S4x2304x2048_d1) shapeCasts_S4x2304x2048_S9216x2048

/-- An entry of the context rows' residual sum. -/
theorem zCtx_at (x : FVec Ideal S9216x2048 .f32) (gv : FVec Ideal S1x1x1x1x2048 .f32) (y : FVec Ideal S4x256x2048 .f32)
    (i : Fin 4) (r : Fin 256) (d : Fin 2048) (n : Fin 9216) (hn : (n : ℕ) = (i : ℕ) * 2304 + r) :
    zCtx x gv y (ix3 i r d) = Ideal.ofBits .f32 0x3FB504F3#32 * x (ix2 n d) + gv (ix5 0 0 0 0 d) * y (ix3 i r d) := by
  pointwise [zCtx]
  exact congrArg₂ (· + ·) (Ideal.mul_congr rfl (congrArg x ((ix2_inj ..).2 ⟨Fin.ext hn.symm, rfl⟩))) rfl

/-- An entry of the other rows' residual sum. -/
theorem zLat_at (x : FVec Ideal S9216x2048 .f32) (gv : FVec Ideal S1x1x4x1x2048 .f32) (y : FVec Ideal S4x2048x2048 .f32)
    (i : Fin 4) (r : Fin 2048) (d : Fin 2048) (n : Fin 9216) (hn : (n : ℕ) = (i : ℕ) * 2304 + (256 + r)) :
    zLat x gv y (ix3 i r d) = Ideal.ofBits .f32 0x3FB504F3#32 * x (ix2 n d) + gv (ix5 0 0 i 0 d) * y (ix3 i r d) := by
  pointwise [zLat]
  exact congrArg₂ (· + ·) (Ideal.mul_congr rfl (congrArg x ((ix2_inj ..).2 ⟨Fin.ext hn.symm, rfl⟩))) rfl

/-- An entry of the whole: the row's layer norm of its residual sum, when the gates are vector `s` and `y` is given row by row. -/
theorem outAll_at (s : ℕ) (hs : s < 6) (x : FVec Ideal S9216x2048 .f32) (ada : FVec Ideal S2x6x8x1x2048 .f32) (gc : FVec Ideal S1x1x1x1x2048 .f32) (gl : FVec Ideal S1x1x4x1x2048 .f32)
    (yc : FVec Ideal S4x256x2048 .f32) (yl : FVec Ideal S4x2048x2048 .f32) (g b : FVec Ideal S2x2048 .f32) (Y : Fin 9216 → Fin 2048 → EReal)
    (hgc : ∀ e : Fin 2048, gc (ix5 0 0 0 0 e) = ada (ix5 0 ⟨s, hs⟩ 4 0 e))
    (hgl : ∀ (i : Fin 4) (e : Fin 2048), gl (ix5 0 0 i 0 e) = ada (ix5 0 ⟨s, hs⟩ ⟨(i : ℕ), by omega⟩ 0 e))
    (hyc : ∀ (i : Fin 4) (r : Fin 256) (e : Fin 2048) (n : Fin 9216), (n : ℕ) = (i : ℕ) * 2304 + r → yc (ix3 i r e) = Y n e)
    (hyl : ∀ (i : Fin 4) (r : Fin 2048) (e : Fin 2048) (n : Fin 9216), (n : ℕ) = (i : ℕ) * 2304 + (256 + r) → yl (ix3 i r e) = Y n e)
    (r : Fin 9216) (d : Fin 2048) :
    outAll x gc gl yc yl g b (ix2 r d) = Cert.outRow s hs x ada g b Y r d := by
  pointwise [outAll]
  unfold Cert.outRow
  by_cases h : (r : ℕ) % 2304 < 256
  · rw [dif_pos h]
    refine (lnCtx_at _ g b _ _ d).trans (congrArg (fun z => Cert.lnRow z (g (ix2 0 d)) (b (ix2 0 d)) d) (funext fun e => ?_))
    refine (zCtx_at x gc yc _ _ e r (by dsimp only; omega)).trans (congrArg₂ (· + ·) rfl (Ideal.mul_congr ?_ (hyc _ _ e r (by dsimp only; omega))))
    unfold Cert.gateRow
    rw [if_pos h]
    exact hgc e
  · rw [dif_neg h]
    refine (lnLat_at _ g b _ _ d).trans (congrArg (fun z => Cert.lnRow z (g (ix2 0 d)) (b (ix2 0 d)) d) (funext fun e => ?_))
    refine (zLat_at x gl yl _ _ e r (by dsimp only; omega)).trans (congrArg₂ (· + ·) rfl (Ideal.mul_congr ?_ (hyl _ _ e r (by dsimp only; omega))))
    unfold Cert.gateRow
    rw [if_neg h]
    exact hgl _ e

end Cert.Norm

end
-- ==== Proof.FfnRef.lean ====
module

public import proofs.«01_k».proof.Proof.Norm

/-! The feed-forward part's reference: each result as one entry. -/

@[expose] public section
set_option maxRecDepth 16384

noncomputable section
open Idealize.ShloMosaic Idealize.ShloMosaic.TcCoe Idealize.SL.Sem

namespace Cert.Ffn

/-- A hidden entry: the gate column times its logistic times the up column, of a row `u`. -/
def hid (u : Fin 2048 → EReal) (w : FVec Ideal ⟨2, ![2048, 11264]⟩ .bf16) (e : Fin 5632) : EReal :=
  (∑ k : Fin 2048, u k * w (ix2 k ⟨(e : ℕ), by omega⟩)) * Ideal.logistic (∑ k : Fin 2048, u k * w (ix2 k ⟨(e : ℕ), by omega⟩))
    * ∑ k : Fin 2048, u k * w (ix2 k ⟨5632 + (e : ℕ), by omega⟩)

/-- An entry of the feed-forward part before the residual sum. -/
def swi (u : Fin 2048 → EReal) (w : FVec Ideal ⟨2, ![2048, 11264]⟩ .bf16) (wo : FVec Ideal ⟨2, ![5632, 2048]⟩ .bf16) (d : Fin 2048) : EReal :=
  ∑ e : Fin 5632, hid u w e * wo (ix2 e d)

end Cert.Ffn

namespace Cert.FfnReferenceIdeal.F
open Cert.FfnReferenceIdeal Cert.FfnReferenceIdeal.Gen Cert.Ffn Cert.Norm

/-- The context rows' modulated input. -/
def uCtx (x : FVec Ideal S9216x2048 .f32) (ada : FVec Ideal S2x6x8x1x2048 .f32) : FVec Ideal S4x256x2048 .f32 :=
  addf (mulf (extractStridedSlice S4x256x2048 ![0, 0, 0] (shapeCast _ x shapeCasts_S9216x2048_S4x2304x2048) slices_S4x2304x2048_S4x256x2048_0_0_0)
      (broadcastInDim S4x256x2048 ![0, 1, 2] bcast_S1x1x2048_S4x256x2048_0_1_2 (broadcastInDim S1x1x2048 ![2] bcast_S2048_S1x1x2048_2 (shapeCast _ (extractStridedSlice S1x1x1x1x2048 ![0, 4, 4, 0, 0] ada slices_S2x6x8x1x2048_S1x1x1x1x2048_0_4_4_0_0) shapeCasts_S1x1x1x1x2048_S2048))))
    (broadcastInDim S4x256x2048 ![0, 1, 2] bcast_S1x1x2048_S4x256x2048_0_1_2 (broadcastInDim S1x1x2048 ![2] bcast_S2048_S1x1x2048_2 (shapeCast _ (extractStridedSlice S1x1x1x1x2048 ![0, 3, 4, 0, 0] ada slices_S2x6x8x1x2048_S1x1x1x1x2048_0_3_4_0_0) shapeCasts_S1x1x1x1x2048_S2048)))

/-- The other rows' modulated input. -/
def uLat (x : FVec Ideal S9216x2048 .f32) (ada : FVec Ideal S2x6x8x1x2048 .f32) : FVec Ideal S4x2048x2048 .f32 :=
  addf (mulf (extractStridedSlice S4x2048x2048 ![0, 256, 0] (shapeCast _ x shapeCasts_S9216x2048_S4x2304x2048) slices_S4x2304x2048_S4x2048x2048_0_256_0)
      (broadcastInDim S4x2048x2048 ![0, 1, 2] bcast_S4x1x2048_S4x2048x2048_0_1_2 (shapeCast _ (extractStridedSlice S1x1x4x1x2048 ![0, 4, 0, 0, 0] ada slices_S2x6x8x1x2048_S1x1x4x1x2048_0_4_0_0_0) shapeCasts_S1x1x4x1x2048_S4x1x2048)))
    (broadcastInDim S4x2048x2048 ![0, 1, 2] bcast_S4x1x2048_S4x2048x2048_0_1_2 (shapeCast _ (extractStridedSlice S1x1x4x1x2048 ![0, 3, 0, 0, 0] ada slices_S2x6x8x1x2048_S1x1x4x1x2048_0_3_0_0_0) shapeCasts_S1x1x4x1x2048_S4x1x2048))

/-- An entry of the context rows' modulated input. -/
theorem uCtx_at (x : FVec Ideal S9216x2048 .f32) (ada : FVec Ideal S2x6x8x1x2048 .f32) (i : Fin 4) (r : Fin 256) (d : Fin 2048) (n : Fin 9216)
    (hn : (n : ℕ) = (i : ℕ) * 2304 + r) : uCtx x ada (ix3 i r d) = Cert.modRow 4 3 (by norm_num) (by norm_num) x ada n d := by
  unfold Cert.modRow
  rw [if_pos (by omega)]
  pointwise [uCtx]
  exact congrArg₂ (· + ·) (Ideal.mul_congr (congrArg x ((ix2_inj ..).2 ⟨Fin.ext hn.symm, rfl⟩)) rfl) rfl

/-- An entry of the other rows' modulated input. -/
theorem uLat_at (x : FVec Ideal S9216x2048 .f32) (ada : FVec Ideal S2x6x8x1x2048 .f32) (i : Fin 4) (r : Fin 2048) (d : Fin 2048) (n : Fin 9216)
    (hn : (n : ℕ) = (i : ℕ) * 2304 + (256 + r)) : uLat x ada (ix3 i r d) = Cert.modRow 4 3 (by norm_num) (by norm_num) x ada n d := by
  unfold Cert.modRow
  rw [if_neg (by omega)]
  have e : (⟨(n : ℕ) / 2304, by omega⟩ : Fin 8) = ⟨(i : ℕ), by omega⟩ := Fin.ext (by dsimp only; omega)
  rw [e]
  pointwise [uLat]
  exact congrArg₂ (· + ·) (Ideal.mul_congr (congrArg x ((ix2_inj ..).2 ⟨Fin.ext hn.symm, rfl⟩)) rfl) rfl

/-- The context rows' two projections, side by side. -/
def hCtx (u : FVec Ideal S4x256x2048 .f32) (w : FVec Ideal S2048x11264 .bf16) : FVec Ideal S4x256x11264 .f32 :=
  Host.dotGeneral dot_S4x256x2048_S2048x11264_S4x256x11264_2_0_01_1_n_n none u (extf .f32 w bitsLt_bf16_f32)

/-- The other rows' two projections, side by side. -/
def hLat (u : FVec Ideal S4x2048x2048 .f32) (w : FVec Ideal S2048x11264 .bf16) : FVec Ideal S4x2048x11264 .f32 :=
  Host.dotGeneral dot_S4x2048x2048_S2048x11264_S4x2048x11264_2_0_01_1_n_n none u (extf .f32 w bitsLt_bf16_f32)

/-- The context rows' feed-forward part, from the two projections. -/
def swCtx (h : FVec Ideal S4x256x11264 .f32) (w : FVec Ideal S5632x2048 .bf16) : FVec Ideal S4x256x2048 .f32 :=
  let gt := extractStridedSlice S4x256x5632 ![0, 0, 0] h slices_S4x256x11264_S4x256x5632_0_0_0
  let up := extractStridedSlice S4x256x5632 ![0, 0, 5632] h slices_S4x256x11264_S4x256x5632_0_0_5632
  let one := broadcastInDim S4x256x5632 ![] bcast_S_S4x256x5632 (constant S_ .f32 0x3F800000#32)
  Host.dotGeneral dot_S4x256x5632_S5632x2048_S4x256x2048_2_0_01_1_n_n none
    (mulf (mulf gt (Host.divf one (addf one (Host.exp (Host.negf gt))))) up) (extf .f32 w bitsLt_bf16_f32)

/-- The other rows' feed-forward part, from the two projections. -/
def swLat (h : FVec Ideal S4x2048x11264 .f32) (w : FVec Ideal S5632x2048 .bf16) : FVec Ideal S4x2048x2048 .f32 :=
  let gt := extractStridedSlice S4x2048x5632 ![0, 0, 0] h slices_S4x2048x11264_S4x2048x5632_0_0_0
  let up := extractStridedSlice S4x2048x5632 ![0, 0, 5632] h slices_S4x2048x11264_S4x2048x5632_0_0_5632
  let one := broadcastInDim S4x2048x5632 ![] bcast_S_S4x2048x5632 (constant S_ .f32 0x3F800000#32)
  Host.dotGeneral dot_S4x2048x5632_S5632x2048_S4x2048x2048_2_0_01_1_n_n none
    (mulf (mulf gt (Host.divf one (addf one (Host.exp (Host.negf gt))))) up) (extf .f32 w bitsLt_bf16_f32)

/-- An entry of the context rows' projections. -/
theorem hCtx_at (u : FVec Ideal S4x256x2048 .f32) (w : FVec Ideal S2048x11264 .bf16) (i : Fin 4) (r : Fin 256) (d : Fin 11264) :
    hCtx u w (ix3 i r d) = ∑ k : Fin 2048, u (ix3 i r k) * w (ix2 k d) := by
  pointwise [hCtx]

/-- An entry of the other rows' projections. -/
theorem hLat_at (u : FVec Ideal S4x2048x2048 .f32) (w : FVec Ideal S2048x11264 .bf16) (i : Fin 4) (r : Fin 2048) (d : Fin 11264) :
    hLat u w (ix3 i r d) = ∑ k : Fin 2048, u (ix3 i r k) * w (ix2 k d) := by
  pointwise [hLat]

/-- The feed-forward part of a row from entries that are the two projections of a row. -/
theorem swi_of (u : Fin 2048 → EReal) (w : FVec Ideal S2048x11264 .bf16) (wo : FVec Ideal S5632x2048 .bf16) (d : Fin 2048) (h : Fin 11264 → EReal)
    (hh : ∀ e, h e = ∑ k : Fin 2048, u k * w (ix2 k e)) :
    ∑ e : Fin 5632, h ⟨(e : ℕ), by omega⟩ * Ideal.div 1 (1 + Ideal.exp (-h ⟨(e : ℕ), by omega⟩)) * h ⟨5632 + (e : ℕ), by omega⟩ * wo (ix2 e d)
      = swi u w wo d := by
  unfold swi hid Ideal.logistic
  simp only [hh]

/-- An entry of the context rows' feed-forward part. -/
theorem swCtx_at (u : FVec Ideal S4x256x2048 .f32) (w : FVec Ideal S2048x11264 .bf16) (wo : FVec Ideal S5632x2048 .bf16) (i : Fin 4) (r : Fin 256) (d : Fin 2048) :
    swCtx (hCtx u w) wo (ix3 i r d) = swi (fun k => u (ix3 i r k)) w wo d := by
  refine Eq.trans ?_ (swi_of _ w wo d (fun e => hCtx u w (ix3 i r e)) (hCtx_at u w i r))
  pointwise [swCtx]

/-- An entry of the other rows' feed-forward part. -/
theorem swLat_at (u : FVec Ideal S4x2048x2048 .f32) (w : FVec Ideal S2048x11264 .bf16) (wo : FVec Ideal S5632x2048 .bf16) (i : Fin 4) (r : Fin 2048) (d : Fin 2048) :
    swLat (hLat u w) wo (ix3 i r d) = swi (fun k => u (ix3 i r k)) w wo d := by
  refine Eq.trans ?_ (swi_of _ w wo d (fun e => hLat u w (ix3 i r e)) (hLat_at u w i r))
  pointwise [swLat]

/-- The reference's first result. -/
def REF (x : FVec Ideal S9216x2048 .f32) (ada : FVec Ideal S2x6x8x1x2048 .f32) (w : FVec Ideal S2048x11264 .bf16) (wo : FVec Ideal S5632x2048 .bf16)
    (g b : FVec Ideal S2x2048 .f32) : FVec Ideal S9216x2048 .f32 :=
  outAll x (extractStridedSlice S1x1x1x1x2048 ![0, 5, 4, 0, 0] ada slices_S2x6x8x1x2048_S1x1x1x1x2048_0_5_4_0_0)
    (extractStridedSlice S1x1x4x1x2048 ![0, 5, 0, 0, 0] ada slices_S2x6x8x1x2048_S1x1x4x1x2048_0_5_0_0_0)
    (swCtx (hCtx (uCtx x ada) w) wo) (swLat (hLat (uLat x ada) w) wo) g b

/-- An entry of the first result: the row's layer norm of its residual sum. -/
theorem REF_at (x : FVec Ideal S9216x2048 .f32) (ada : FVec Ideal S2x6x8x1x2048 .f32) (w : FVec Ideal S2048x11264 .bf16) (wo : FVec Ideal S5632x2048 .bf16)
    (g b : FVec Ideal S2x2048 .f32) (r : Fin 9216) (d : Fin 2048) :
    REF x ada w wo g b (ix2 r d)
      = Cert.outRow 5 (by norm_num) x ada g b (fun n e => swi (Cert.modRow 4 3 (by norm_num) (by norm_num) x ada n) w wo e) r d := by
  refine outAll_at 5 (by norm_num) x ada _ _ _ _ g b _ (fun e => by pointwise) (fun i e => by pointwise) (fun i r e n hn => ?_) (fun i r e n hn => ?_) r d
  · exact (swCtx_at _ w wo i r e).trans (congrArg (fun u => swi u w wo e) (funext fun k => uCtx_at x ada i r k n hn))
  · exact (swLat_at _ w wo i r e).trans (congrArg (fun u => swi u w wo e) (funext fun k => uLat_at x ada i r k n hn))

/-- The reference's second result: the second layer of the other weights. -/
def CAST (w : FVec Ideal S2x10560x2048 .f32) : FVec Ideal S10560x2048 .bf16 :=
  truncf .bf16 (shapeCast S10560x2048 (extractStridedSlice S1x10560x2048 ![1, 0, 0] w slices_S2x10560x2048_S1x10560x2048_1_0_0) shapeCasts_S1x10560x2048_S10560x2048) bitsLt_bf16_f32

/-- What the run leaves first is that term. -/
theorem res_eq (m : (ℓ : Loc nD τ sig) → Buf (Elt Ideal) ℓ) (c : Dev nD) :
    Cert.FfnReferenceIdeal.Value.res_main_v107 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.FfnReferenceIdeal.F

end
-- ==== Proof.FfnPoint.lean ====
module

public import proofs.«01_k».proof.Proof.FfnRef
public import proofs.«01_k».proof.Proof.Gen.FfnIdeal.Frame
public import Idealize.ShloMosaic.Lib.Pipeline.ReadBack

/-! The feed-forward part's arrays. -/

@[expose] public section
set_option maxRecDepth 16384

noncomputable section
open Idealize.ShloMosaic Idealize.ShloMosaic.TcCoe Idealize.SL.Sem
open Idealize.ShloMosaic.Tactic

namespace Cert.FfnIdeal.F
open Cert.FfnIdeal Cert.FfnIdeal.Gen Cert.Ffn

variable (m : (ℓ : Loc nD τ sig) → Buf (Elt Ideal) ℓ)

/-- Where each window sits at a point. -/
theorem idx : ∀ t : Fin cfg0.N, win0_0.index t = ![t.val / 11, 0] ∧ win0_1.index t = ![0, 4, t.val / 33, 0, 0]
    ∧ win0_2.index t = ![0, 4, 4, 0, 0] ∧ win0_3.index t = ![0, 3, t.val / 33, 0, 0] ∧ win0_4.index t = ![0, 3, 4, 0, 0]
    ∧ win0_5.index t = ![0, 5, t.val / 33, 0, 0] ∧ win0_6.index t = ![0, 5, 4, 0, 0]
    ∧ win0_7.index t = ![0, t.val % 11] ∧ win0_8.index t = ![0, 11 + t.val % 11] ∧ win0_9.index t = ![t.val % 11, 0]
    ∧ win0_10.index t = ![0, 0, 0] ∧ win0_11.index t = ![0, 0, 0] ∧ win0_12.index t = ![1, t.val, 0]
    ∧ win0_13.index t = ![t.val / 11, 0] ∧ win0_14.index t = ![t.val, 0] :=
  (by decide +kernel : ∀ t : Fin grid0.N, _)

/-- The first grid coordinate of a point. -/
theorem coord0 : ∀ t : Fin cfg0.N, ((grid0.coords t 0 : Fin _) : ℕ) = t.val / 11 := (by decide +kernel : ∀ t : Fin grid0.N, _)

/-- The modulated tile, entry by entry. -/
theorem pay2_at (i : grid0.Coords) (a b a' b' : FVec Ideal S1x1x1x1x2048 .f32) (x : FVec Ideal S768x2048 .f32) (r : Fin 768) (k : Fin 2048) :
    k0_pay2 (F := Ideal) i (k0_pay6 (BitVec.ofNat 32 (i 0).val) a b) (k0_pay7 a') (k0_pay8 b') (iota .tc S768x1 32 [0] iota_S768x1_d0_w32) x (ix2 r k)
      = if (i 0 : ℕ) % 3 = 0 ∧ (r : ℕ) < 256 then x (ix2 r k) * a (ix5 0 0 0 0 k) + a' (ix5 0 0 0 0 k)
        else x (ix2 r k) * b (ix5 0 0 0 0 k) + b' (ix5 0 0 0 0 k) := by
  have h0 : (i 0 : ℕ) < 16 := (i 0).isLt.trans (by decide)
  have hr : (r : ℕ) < 1152 := by omega
  pointwise [k0_pay2, k0_pay6, k0_pay7, k0_pay8]
  refine (congrArg₂ (· + ·) (Ideal.mul_congr rfl (sel_mask 3 (i 0) r (by norm_num) (by norm_num) h0 hr _ _)) (sel_mask 3 (i 0) r (by norm_num) (by norm_num) h0 hr _ _)).trans ?_
  split <;> rfl

/-- The residual sum of a tile, entry by entry. -/
theorem pay9_at (q : ℕ) (hq : q < 16) (a b : FVec Ideal S1x1x1x1x2048 .f32) (x y : FVec Ideal S768x2048 .f32) (r : Fin 768) (d : Fin 2048) :
    k0_pay9 (F := Ideal) (BitVec.ofNat 32 q) a b x y (ix2 r d)
      = Ideal.ofBits .f32 0x3FB504F3#32 * x (ix2 r d) + (if q % 3 = 0 ∧ (r : ℕ) < 256 then a (ix5 0 0 0 0 d) else b (ix5 0 0 0 0 d)) * y (ix2 r d) := by
  pointwise [k0_pay9]
  exact congrArg₂ (· + ·) rfl (Ideal.mul_congr (sel_mask 3 q r (by norm_num) (by norm_num) hq (by omega) _ _) rfl)

/-- The layer norm of a tile, entry by entry. -/
theorem pay5_at (z : FVec Ideal S768x2048 .f32) (g b : FVec Ideal S1x1x2048 .f32) (r : Fin 768) (d : Fin 2048) :
    k0_pay5 (F := Ideal) z g b (ix2 r d) = Cert.lnRow (fun e => z (ix2 r e)) (g (ix3 0 0 d)) (b (ix3 0 0 d)) d := by
  unfold Cert.lnRow Cert.meanRow
  pointwise [k0_pay5]

/-- One block's contribution to a tile, from the two blocks of the projections' weights and the block of the output's. -/
def term (u : FVec Ideal S768x2048 .bf16) (wg wu : FVec Ideal S2048x512 .bf16) (wo : FVec Ideal S512x2048 .bf16) (r : Fin 768) (d : Fin 2048) : EReal :=
  ∑ l : Fin 512, ((∑ k : Fin 2048, u (ix2 r k) * wg (ix2 k l)) * Ideal.logistic (∑ k : Fin 2048, u (ix2 r k) * wg (ix2 k l))
    * ∑ k : Fin 2048, u (ix2 r k) * wu (ix2 k l)) * wo (ix2 l d)

/-- The accumulation of a block's contribution, entry by entry. -/
theorem pay4_at (u : FVec Ideal S768x2048 .bf16) (wg wu : FVec Ideal S2048x512 .bf16) (o : FVec Ideal S768x2048 .f32) (wo : FVec Ideal S512x2048 .bf16) (r : Fin 768) (d : Fin 2048) :
    k0_pay4 (F := Ideal) u wg wu o wo (ix2 r d) = o (ix2 r d) + term u wg wu wo r d := by
  unfold term
  pointwise [k0_pay4]

/-- The accumulation starts at zero. -/
theorem pay3_at (r : Fin 768) (d : Fin 2048) : k0_pay3 (F := Ideal) (ix2 r d) = 0 := by
  pointwise [k0_pay3]

/-- An entry of the cast. -/
theorem pay1_at (x : FVec Ideal S1x80x2048 .f32) (r : Fin 80) (k : Fin 2048) :
    k0_pay1 (F := Ideal) x (ix2 r k) = x (ix3 0 r k) := by
  pointwise [k0_pay1]

/-- The tile's modulated rows are the array's. -/
theorem mod_eq (c : Dev nD) (t : Fin cfg0.N) (r : Fin 768) (k : Fin 2048) (g : Fin 9216) (hg : (g : ℕ) = t.val / 11 * 768 + r) :
    k0_pay2 (F := Ideal) (grid0.coords t) (k0_pay6 (BitVec.ofNat 32 (grid0.coords t 0).val) (iblk m c 2 t) (iblk m c 1 t))
        (k0_pay7 (iblk m c 4 t)) (k0_pay8 (iblk m c 3 t)) (iota .tc S768x1 32 [0] iota_S768x1_d0_w32) (iblk m c 0 t) (ix2 r k)
      = Cert.modRow 4 3 (by norm_num) (by norm_num) (m ((c : Thread nD τ).loc main_arg0)) (m ((c : Thread nD τ).loc main_arg1)) g k := by
  have ht : t.val < 132 := lt_of_lt_of_eq t.isLt (by decide)
  refine (pay2_at _ _ _ _ _ _ r k).trans ?_
  unfold Cert.modRow
  rw [coord0 t]
  by_cases h : t.val / 11 % 3 = 0 ∧ (r : ℕ) < 256
  · rw [if_pos h, if_pos (by omega)]
    refine congrArg₂ (· + ·) (Ideal.mul_congr ?_ ?_) ?_ <;> blk_ext [iblk, V, idx t]
  · rw [if_neg h, if_neg (by omega)]
    refine congrArg₂ (· + ·) (Ideal.mul_congr ?_ ?_) ?_ <;> blk_ext [iblk, V, idx t]

/-- The scratch holds the modulated rows of the point's row block. -/
theorem scr (c : Dev nD) (n : ℕ) : ∀ (hn : n < cfg0.N) (r : Fin 768) (k : Fin 2048) (g : Fin 9216), (g : ℕ) = n / 11 * 768 + r →
    (outsAt0 m c n hn).2.2 (ix2 r k)
      = Cert.modRow 4 3 (by norm_num) (by norm_num) (m ((c : Thread nD τ).loc main_arg0)) (m ((c : Thread nD τ).loc main_arg1)) g k := by
  induction n using Nat.strong_induction_on with
  | _ n ih =>
    intro hn r k g hg
    by_cases h0 : n % 11 = 0
    · rw [outsAt0_A m c ⟨n, hn⟩ h0 (by dsimp only; omega)]
      frame_out
      exact mod_eq m c ⟨n, hn⟩ r k g hg
    · by_cases h1 : n % 11 = 10
      · rw [outsAt0_C m c ⟨n, hn⟩ h0 h1]
        unfold sout0_C_0
        dsimp only
        exact ih (n - 1) (by omega) _ r k g (by omega)
      · rw [outsAt0_B m c ⟨n, hn⟩ h0 h1]
        unfold sout0_B_0
        dsimp only
        exact ih (n - 1) (by omega) _ r k g (by omega)

/-- The reshaped gain. -/
theorem V_gain (c : Dev nD) : V m c main_v0 = (shapeCast S2x1x2048 (m ((c : Thread nD τ).loc main_arg4) : FVec Ideal S2x2048 .f32) shapeCasts_S2x2048_S2x1x2048 : FVec Ideal S2x1x2048 .f32) := by
  unfold_abbrev_sides
  after_results
  rfl

/-- The reshaped bias. -/
theorem V_bias (c : Dev nD) : V m c main_v1 = (shapeCast S2x1x2048 (m ((c : Thread nD τ).loc main_arg5) : FVec Ideal S2x2048 .f32) shapeCasts_S2x2048_S2x1x2048 : FVec Ideal S2x1x2048 .f32) := by
  unfold_abbrev_sides
  after_results
  rfl

/-- An entry of a layer's vectors after the reshape. -/
theorem cast_at (x : FVec Ideal S2x2048 .f32) (d : Fin 2048) : shapeCast S2x1x2048 x shapeCasts_S2x2048_S2x1x2048 (ix3 0 0 d) = x (ix2 0 d) := by
  pointwise

/-- The layer norm's gain, where its window reads it. -/
theorem gain_eq (c : Dev nD) (t : Fin cfg0.N) (d : Fin 2048) : (iblk m c 10 t : FVec Ideal S1x1x2048 .f32) (ix3 0 0 d) = (m ((c : Thread nD τ).loc main_arg4) : FVec Ideal S2x2048 .f32) (ix2 0 d) := by
  have he : (win0_10.blk t).view.emb (ix3 0 0 d) = ix3 (0 : Fin 2) (0 : Fin 1) d := by blk_ext [idx t]
  refine Eq.trans ?_ (cast_at _ d)
  exact (congrArg (V m c main_v0) he).trans (congrFun (V_gain m c) _)

/-- The layer norm's bias, where its window reads it. -/
theorem bias_eq (c : Dev nD) (t : Fin cfg0.N) (d : Fin 2048) : (iblk m c 11 t : FVec Ideal S1x1x2048 .f32) (ix3 0 0 d) = (m ((c : Thread nD τ).loc main_arg5) : FVec Ideal S2x2048 .f32) (ix2 0 d) := by
  have he : (win0_11.blk t).view.emb (ix3 0 0 d) = ix3 (0 : Fin 2) (0 : Fin 1) d := by blk_ext [idx t]
  refine Eq.trans ?_ (cast_at _ d)
  exact (congrArg (V m c main_v1) he).trans (congrFun (V_bias m c) _)

/-- A block's contribution in terms of the arrays: the hidden entries of the block. -/
theorem term_eq (c : Dev nD) (t : Fin cfg0.N) (u : FVec Ideal S768x2048 .bf16) (U : Fin 2048 → EReal) (r : Fin 768) (d : Fin 2048) (hu : ∀ k, u (ix2 r k) = U k) :
    term u (iblk m c 7 t) (iblk m c 8 t) (iblk m c 9 t) r d
      = ∑ l : Fin 512, hid U (m ((c : Thread nD τ).loc main_arg2)) ⟨t.val % 11 * 512 + l, by omega⟩
          * (m ((c : Thread nD τ).loc main_arg3) : FVec Ideal S5632x2048 .bf16) (ix2 ⟨t.val % 11 * 512 + l, by omega⟩ d) := by
  unfold term hid
  have hg : ∀ (k : Fin 2048) (l : Fin 512), u (ix2 r k) * (iblk m c 7 t : FVec Ideal S2048x512 .bf16) (ix2 k l)
      = U k * (m ((c : Thread nD τ).loc main_arg2) : FVec Ideal S2048x11264 .bf16) (ix2 k ⟨t.val % 11 * 512 + l, by omega⟩) :=
    fun k l => Ideal.mul_congr (hu k) (by blk_ext [iblk, V, idx t])
  have hp : ∀ (k : Fin 2048) (l : Fin 512), u (ix2 r k) * (iblk m c 8 t : FVec Ideal S2048x512 .bf16) (ix2 k l)
      = U k * (m ((c : Thread nD τ).loc main_arg2) : FVec Ideal S2048x11264 .bf16) (ix2 k ⟨5632 + (t.val % 11 * 512 + l), by omega⟩) :=
    fun k l => Ideal.mul_congr (hu k) (by blk_ext [iblk, V, idx t])
  refine Finset.sum_congr rfl fun l _ => Ideal.mul_congr ?_ (by blk_ext [iblk, V, idx t])
  rw [Finset.sum_congr rfl fun k _ => hg k l, Finset.sum_congr rfl fun k _ => hp k l]

/-- A hidden entry times the output's weight, at a number that may lie past the last one. -/
def part (w : FVec Ideal S2048x11264 .bf16) (wo : FVec Ideal S5632x2048 .bf16) (U : Fin 2048 → EReal) (d : Fin 2048) (s : ℕ) : EReal :=
  if h : s < 11 then ∑ l : Fin 512, hid U w ⟨s * 512 + l, by omega⟩ * wo (ix2 ⟨s * 512 + l, by omega⟩ d) else 0

/-- The contributions of all blocks make the whole. -/
theorem part_sum (w : FVec Ideal S2048x11264 .bf16) (wo : FVec Ideal S5632x2048 .bf16) (U : Fin 2048 → EReal) (d : Fin 2048) :
    ∑ s ∈ Finset.range 11, part w wo U d s = swi U w wo d := by
  unfold swi
  rw [Fin.sum_univ_tiles 11 512 rfl, Finset.sum_range]
  refine Finset.sum_congr rfl fun s _ => ?_
  unfold part
  rw [dif_pos s.isLt]

/-- The point's contribution to the tile, when its scratch is the modulated rows. -/
theorem step_eq (c : Dev nD) (t : Fin cfg0.N) (u : FVec Ideal S768x2048 .bf16) (o : FVec Ideal S768x2048 .f32) (U : Fin 2048 → EReal) (r : Fin 768) (d : Fin 2048) (hu : ∀ k, u (ix2 r k) = U k) :
    k0_pay4 (F := Ideal) u (iblk m c 7 t) (iblk m c 8 t) o (iblk m c 9 t) (ix2 r d)
      = o (ix2 r d) + part (m ((c : Thread nD τ).loc main_arg2)) (m ((c : Thread nD τ).loc main_arg3)) U d (t.val % 11) := by
  refine (pay4_at _ _ _ _ _ r d).trans (congrArg (o (ix2 r d) + ·) ?_)
  unfold part
  rw [dif_pos (Nat.mod_lt _ (by norm_num))]
  exact term_eq m c t u U r d hu

/-- The feed-forward part's row that a tile row is. -/
abbrev row (c : Dev nD) (g : Fin 9216) : Fin 2048 → EReal :=
  Cert.modRow 4 3 (by norm_num) (by norm_num) (m ((c : Thread nD τ).loc main_arg0)) (m ((c : Thread nD τ).loc main_arg1)) g

/-- Before the last point of a row block the output's tile holds the contributions so far. -/
theorem acc (c : Dev nD) (n : ℕ) : ∀ (hn : n < cfg0.N) (h1 : ¬n % 11 = 10) (r : Fin 768) (d : Fin 2048) (g : Fin 9216), (g : ℕ) = n / 11 * 768 + r →
    (outsAt0 m c n hn).1 (ix2 r d)
      = ∑ s ∈ Finset.range (n % 11 + 1), part (m ((c : Thread nD τ).loc main_arg2)) (m ((c : Thread nD τ).loc main_arg3)) (row m c g) d s := by
  induction n using Nat.strong_induction_on with
  | _ n ih =>
    intro hn h1 r d g hg
    by_cases h0 : n % 11 = 0
    · rw [outsAt0_A m c ⟨n, hn⟩ h0 h1]
      frame_out
      refine (step_eq m c ⟨n, hn⟩ _ _ (row m c g) r d fun k => mod_eq m c ⟨n, hn⟩ r k g hg).trans ?_
      rw [pay3_at, zero_add, h0, Finset.sum_range_one]
    · rw [outsAt0_B m c ⟨n, hn⟩ h0 h1]
      frame_out
      simp only [read_unread_whole]
      refine (step_eq m c ⟨n, hn⟩ _ _ (row m c g) r d fun k => scr m c (n - 1) _ r k g (by omega)).trans ?_
      rw [Finset.sum_range_succ]
      have e : (n - 1) % 11 + 1 = n % 11 := by omega
      refine congrArg (· + _) ((ih (n - 1) (by omega) _ (by omega) r d g (by omega)).trans ?_)
      rw [e]

/-- At the last point of a row block the output's tile holds the layer norm of the residual sum. -/
theorem last (c : Dev nD) (t : Fin cfg0.N) (h1 : t.val % 11 = 10) (r : Fin 768) (d : Fin 2048) (g : Fin 9216) (hg : (g : ℕ) = t.val / 11 * 768 + r) :
    (outsAt0 m c t.val t.isLt).1 (ix2 r d)
      = Cert.outRow 5 (by norm_num) (m ((c : Thread nD τ).loc main_arg0)) (m ((c : Thread nD τ).loc main_arg1)) (m ((c : Thread nD τ).loc main_arg4)) (m ((c : Thread nD τ).loc main_arg5))
          (fun n e => swi (row m c n) (m ((c : Thread nD τ).loc main_arg2)) (m ((c : Thread nD τ).loc main_arg3)) e) g d := by
  have ht : t.val < 132 := lt_of_lt_of_eq t.isLt (by decide)
  rw [outsAt0_C m c t (by omega) h1]
  frame_out
  simp only [read_unread_whole]
  refine (pay5_at _ _ _ r d).trans ?_
  rw [gain_eq m c t d, bias_eq m c t d]
  unfold Cert.outRow
  refine congrArg (fun z => Cert.lnRow z _ _ d) (funext fun e => ?_)
  have hq : ((grid0.coords t 0 : Fin _) : ℕ) < 16 := by rw [coord0 t]; omega
  refine (pay9_at _ hq _ _ _ _ r e).trans (congrArg₂ (· + ·) (Ideal.mul_congr rfl ?_) (Ideal.mul_congr ?_ ?_))
  · blk_ext [iblk, V, idx t]
  · rw [coord0 t]
    unfold Cert.gateRow
    by_cases h : t.val / 11 % 3 = 0 ∧ (r : ℕ) < 256
    · rw [if_pos h, if_pos (by omega)]
      blk_ext [iblk, V, idx t]
    · rw [if_neg h, if_neg (by omega)]
      blk_ext [iblk, V, idx t]
  · refine (step_eq m c t _ _ (row m c g) r e fun k => scr m c (t.val - 1) _ r k g (by omega)).trans ?_
    refine Eq.trans ?_ (part_sum _ _ _ e)
    rw [Finset.sum_range_succ, h1]
    refine congrArg (· + _) ((acc m c (t.val - 1) _ (by omega) r e g (by omega)).trans ?_)
    have e : (t.val - 1) % 11 + 1 = 10 := by omega
    rw [e]

/-- The second output's block is the layer's block. -/
theorem out_cast (c : Dev nD) (t : Fin cfg0.N) :
    (outsAt0 m c t.val t.isLt).2.1 = k0_pay1 (iblk m c 12 t) := by
  by_cases h0 : t.val % 11 = 0
  · rw [outsAt0_A m c t h0 (by omega)]
    frame_out
  · by_cases h1 : t.val % 11 = 10
    · rw [outsAt0_C m c t h0 h1]
      frame_out
    · rw [outsAt0_B m c t h0 h1]
      frame_out

/-- The kernel's first array is the reference's term. -/
theorem final13 (c : Dev nD) :
    (dats m 0 c).arrAt 13 cfg0.N
      = Cert.FfnReferenceIdeal.F.REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 13 _ (by decide +kernel) fun t hf y => ?_
  idx_vars y
  blk_simp [idx t]
  rw [after0_13]
  have ht : t.val < 132 := lt_of_lt_of_eq t.isLt (by decide)
  have he : (win0_13.blk t).view.emb (ix2 y0 y1) = ix2 (⟨t.val / 11 * 768 + y0, by omega⟩ : Fin 9216) y1 := by blk_ext [idx t]
  refine Eq.trans ?_ (congrArg _ he).symm
  refine Eq.trans ?_ (Cert.FfnReferenceIdeal.F.REF_at _ _ _ _ _ _ _ _).symm
  exact last m c t ((flush0_13 t).mp hf) y0 y1 _ rfl

/-- The kernel's second array is the reference's. -/
theorem final14 (c : Dev nD) :
    (dats m 0 c).arrAt 14 cfg0.N = Cert.FfnReferenceIdeal.F.CAST (m ((c : Thread nD τ).loc main_arg6)) := by
  refine (dats m 0 c).arrAt_eq_of_covers 14 _ (by decide +kernel) fun t hf y => ?_
  idx_vars y
  blk_simp [idx t]
  rw [after0_14, out_cast m c t]
  have ht : t.val < 132 := lt_of_lt_of_eq t.isLt (by decide)
  have he : (win0_14.blk t).view.emb (ix2 y0 y1) = ix2 (⟨t.val * 80 + y0, by omega⟩ : Fin 10560) y1 := by blk_ext [idx t]
  refine Eq.trans ?_ (congrArg _ he).symm
  refine (pay1_at _ y0 y1).trans ?_
  pointwise [Cert.FfnReferenceIdeal.F.CAST]
  blk_ext [iblk, V, idx t]

end Cert.FfnIdeal.F

end
-- ==== Proof.MergeRef.lean ====
module

public import proofs.«01_k».proof.Proof.Norm
public import proofs.«01_k».proof.Proof.Gen.MergeReferenceIdeal.Run

/-! The merge's reference: its result as one entry. -/

@[expose] public section
set_option maxRecDepth 16384

noncomputable section
open Idealize.ShloMosaic Idealize.ShloMosaic.TcCoe Idealize.SL.Sem

namespace Cert.Merge

/-- A branch's entry: the logistic of its gate times the product of a row with the branch's weights. -/
def branch (n : Fin 3) (y : FVec Ideal ⟨2, ![9216, 1024]⟩ .bf16) (p : FVec Ideal ⟨2, ![9216, 10752]⟩ .bf16) (wb : FVec Ideal ⟨3, ![3, 1024, 2048]⟩ .bf16)
    (r : Fin 9216) (d : Fin 2048) : EReal :=
  Ideal.logistic (p (ix2 r ⟨4608 + ((n : ℕ) * 2048 + d), by omega⟩)) * ∑ k : Fin 1024, y (ix2 r k) * wb (ix3 n k d)

/-- The sum of the three branches' entries. -/
def gated (ya yb yc : FVec Ideal ⟨2, ![9216, 1024]⟩ .bf16) (p : FVec Ideal ⟨2, ![9216, 10752]⟩ .bf16) (wb : FVec Ideal ⟨3, ![3, 1024, 2048]⟩ .bf16)
    (r : Fin 9216) (d : Fin 2048) : EReal :=
  branch 0 ya p wb r d + branch 1 yb p wb r d + branch 2 yc p wb r d

/-- An entry of the merged branches' projection. -/
def merged (ya yb yc : FVec Ideal ⟨2, ![9216, 1024]⟩ .bf16) (p : FVec Ideal ⟨2, ![9216, 10752]⟩ .bf16) (wb : FVec Ideal ⟨3, ![3, 1024, 2048]⟩ .bf16)
    (wo : FVec Ideal ⟨2, ![2048, 2048]⟩ .bf16) (r : Fin 9216) (e : Fin 2048) : EReal :=
  ∑ d : Fin 2048, gated ya yb yc p wb r d * wo (ix2 d e)

end Cert.Merge

namespace Cert.MergeReferenceIdeal.M
open Cert.MergeReferenceIdeal Cert.MergeReferenceIdeal.Gen Cert.Merge

/-- The three branches stacked. -/
def branches (ya yb yc : FVec Ideal S9216x1024 .bf16) : FVec Ideal S9216x3x1024 .bf16 :=
  concatenate S9216x3x1024 1 [⟨S9216x1x1024, (broadcastInDim S9216x1x1024 ![0, 2] bcast_S9216x1024_S9216x1x1024_0_2 ya : FVec Ideal S9216x1x1024 .bf16)⟩,
    ⟨S9216x1x1024, (broadcastInDim S9216x1x1024 ![0, 2] bcast_S9216x1024_S9216x1x1024_0_2 yb : FVec Ideal S9216x1x1024 .bf16)⟩,
    ⟨S9216x1x1024, (broadcastInDim S9216x1x1024 ![0, 2] bcast_S9216x1024_S9216x1x1024_0_2 yc : FVec Ideal S9216x1x1024 .bf16)⟩] concatenates_S9216x1x1024_S9216x1x1024_S9216x1x1024_S9216x3x1024_d1

/-- An entry of the stack. -/
theorem branches_at (ya yb yc : FVec Ideal S9216x1024 .bf16) (r : Fin 9216) (n : Fin 3) (k : Fin 1024) :
    branches ya yb yc (ix3 r n k) = if (n : ℕ) < 1 then ya (ix2 r k) else if (n : ℕ) - 1 < 1 then yb (ix2 r k) else yc (ix2 r k) := by
  pointwise [branches]
  split <;> rfl

/-- Each branch's product with its weights. -/
def prods (ys : FVec Ideal S9216x3x1024 .bf16) (wb : FVec Ideal S3x1024x2048 .bf16) : FVec Ideal S9216x3x2048 .f32 :=
  transpose S9216x3x2048 [2, 0, 1] (Host.dotGeneral dot_S3x1024x2048_S9216x3x1024_S3x2048x9216_1_2_2_0_0_1 none (extf .f32 wb bitsLt_bf16_f32) (extf .f32 ys bitsLt_bf16_f32)) transposes_S3x2048x9216_S9216x3x2048_2_0_1

/-- An entry of a branch's product. -/
theorem prods_at (ys : FVec Ideal S9216x3x1024 .bf16) (wb : FVec Ideal S3x1024x2048 .bf16) (r : Fin 9216) (n : Fin 3) (d : Fin 2048) :
    prods ys wb (ix3 r n d) = ∑ k : Fin 1024, wb (ix3 n k d) * ys (ix3 r n k) := by
  pointwise [prods]

/-- The gated sum of the three products. -/
def mix (p : FVec Ideal S9216x10752 .bf16) (z : FVec Ideal S9216x3x2048 .f32) : FVec Ideal S9216x2048 .f32 :=
  let g := shapeCast _ (extf .f32 (extractStridedSlice S9216x6144 ![0, 4608] p slices_S9216x10752_S9216x6144_0_4608) bitsLt_bf16_f32) shapeCasts_S9216x6144_S9216x3x2048
  let one := broadcastInDim S9216x3x2048 ![] bcast_S_S9216x3x2048 (constant S_ .f32 0x3F800000#32)
  Host.reduceAdd (mulf (Host.divf one (addf one (Host.exp (Host.negf g)))) z) (constant S_ .f32 0x00000000#32) reducesTo_S9216x3x2048_S9216x2048_d1 h_S_

/-- An entry of the gated sum. -/
theorem mix_at (p : FVec Ideal S9216x10752 .bf16) (z : FVec Ideal S9216x3x2048 .f32) (r : Fin 9216) (d : Fin 2048) :
    mix p z (ix2 r d) = ∑ n : Fin 3, Ideal.logistic (p (ix2 r ⟨4608 + ((n : ℕ) * 2048 + d), by omega⟩)) * z (ix3 r n d) := by
  unfold Ideal.logistic
  pointwise [mix]

/-- The gated sum of the branches' products, entry by entry. -/
theorem gated_at (ya yb yc : FVec Ideal S9216x1024 .bf16) (p : FVec Ideal S9216x10752 .bf16) (wb : FVec Ideal S3x1024x2048 .bf16) (r : Fin 9216) (d : Fin 2048) :
    mix p (prods (branches ya yb yc) wb) (ix2 r d) = gated ya yb yc p wb r d := by
  refine (mix_at _ _ r d).trans ?_
  rw [Fin.sum_univ_three]
  have h : ∀ (n : Fin 3) (y : FVec Ideal S9216x1024 .bf16), (∀ k, branches ya yb yc (ix3 r n k) = y (ix2 r k)) →
      Ideal.logistic (p (ix2 r ⟨4608 + ((n : ℕ) * 2048 + d), by omega⟩)) * prods (branches ya yb yc) wb (ix3 r n d) = branch n y p wb r d := fun n y hy =>
    Ideal.mul_congr rfl ((prods_at _ wb r n d).trans (Finset.sum_congr rfl fun k _ => (mul_comm _ _).trans (Ideal.mul_congr (hy k) rfl)))
  exact congrArg₂ (· + ·) (congrArg₂ (· + ·) (h 0 ya fun k => branches_at ya yb yc r 0 k) (h 1 yb fun k => branches_at ya yb yc r 1 k))
    (h 2 yc fun k => branches_at ya yb yc r 2 k)

/-- The projection of the gated sum. -/
def projected (z : FVec Ideal S9216x2048 .f32) (wo : FVec Ideal S2048x2048 .bf16) : FVec Ideal S9216x2048 .f32 :=
  Host.dotGeneral dot_S9216x2048_S2048x2048_S9216x2048_1_0_0_1_n_n none z (extf .f32 wo bitsLt_bf16_f32)

/-- An entry of the projection. -/
theorem projected_at (z : FVec Ideal S9216x2048 .f32) (wo : FVec Ideal S2048x2048 .bf16) (r : Fin 9216) (e : Fin 2048) :
    projected z wo (ix2 r e) = ∑ d : Fin 2048, z (ix2 r d) * wo (ix2 d e) := by
  pointwise [projected]

/-- The reference's result, from the projection. -/
def fromY (y : FVec Ideal S9216x2048 .f32) (x : FVec Ideal S9216x2048 .f32) (ada : FVec Ideal S2x6x8x1x2048 .f32) (g b : FVec Ideal S2x2048 .f32) : FVec Ideal S9216x2048 .f32 :=
  Cert.Norm.outAll x (extractStridedSlice S1x1x1x1x2048 ![0, 2, 4, 0, 0] ada slices_S2x6x8x1x2048_S1x1x1x1x2048_0_2_4_0_0)
    (extractStridedSlice S1x1x4x1x2048 ![0, 2, 0, 0, 0] ada slices_S2x6x8x1x2048_S1x1x4x1x2048_0_2_0_0_0)
    (extractStridedSlice S4x256x2048 ![0, 0, 0] (shapeCast _ y shapeCasts_S9216x2048_S4x2304x2048) slices_S4x2304x2048_S4x256x2048_0_0_0)
    (extractStridedSlice S4x2048x2048 ![0, 256, 0] (shapeCast _ y shapeCasts_S9216x2048_S4x2304x2048) slices_S4x2304x2048_S4x2048x2048_0_256_0) g b

/-- An entry of the result, from the projection. -/
theorem fromY_at (y : FVec Ideal S9216x2048 .f32) (x : FVec Ideal S9216x2048 .f32) (ada : FVec Ideal S2x6x8x1x2048 .f32) (g b : FVec Ideal S2x2048 .f32) (r : Fin 9216) (d : Fin 2048) :
    fromY y x ada g b (ix2 r d) = Cert.outRow 2 (by norm_num) x ada g b (fun n e => y (ix2 n e)) r d := by
  refine Cert.Norm.outAll_at 2 (by norm_num) x ada _ _ _ _ g b _ (fun e => by pointwise) (fun i e => by pointwise) (fun i r e n hn => ?_) (fun i r e n hn => ?_) r d
  · pointwise
    exact congrArg y ((ix2_inj ..).2 ⟨Fin.ext hn.symm, rfl⟩)
  · pointwise
    exact congrArg y ((ix2_inj ..).2 ⟨Fin.ext hn.symm, rfl⟩)

/-- The reference's result. -/
def REF (ya yb yc : FVec Ideal S9216x1024 .bf16) (p : FVec Ideal S9216x10752 .bf16) (wb : FVec Ideal S3x1024x2048 .bf16) (wo : FVec Ideal S2048x2048 .bf16)
    (x : FVec Ideal S9216x2048 .f32) (ada : FVec Ideal S2x6x8x1x2048 .f32) (g b : FVec Ideal S2x2048 .f32) : FVec Ideal S9216x2048 .f32 :=
  fromY (projected (mix p (prods (branches ya yb yc) wb)) wo) x ada g b

/-- An entry of the result: the row's layer norm of its residual sum. -/
theorem REF_at (ya yb yc : FVec Ideal S9216x1024 .bf16) (p : FVec Ideal S9216x10752 .bf16) (wb : FVec Ideal S3x1024x2048 .bf16) (wo : FVec Ideal S2048x2048 .bf16)
    (x : FVec Ideal S9216x2048 .f32) (ada : FVec Ideal S2x6x8x1x2048 .f32) (g b : FVec Ideal S2x2048 .f32) (r : Fin 9216) (d : Fin 2048) :
    REF ya yb yc p wb wo x ada g b (ix2 r d) = Cert.outRow 2 (by norm_num) x ada g b (merged ya yb yc p wb wo) r d := by
  refine (fromY_at _ x ada g b r d).trans (congrArg (fun Y => Cert.outRow 2 (by norm_num) x ada g b Y r d) (funext fun n => funext fun e => ?_))
  exact (projected_at _ wo n e).trans (Finset.sum_congr rfl fun d' _ => Ideal.mul_congr (gated_at ya yb yc p wb n d') rfl)

/-- What the run leaves is that term. -/
theorem res_eq (m : (ℓ : Loc nD τ sig) → Buf (Elt Ideal) ℓ) (c : Dev nD) :
    Cert.MergeReferenceIdeal.Value.res_out0 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) := rfl

end Cert.MergeReferenceIdeal.M

end
-- ==== Proof.MergePoint.lean ====
module

public import proofs.«01_k».proof.Proof.MergeRef
public import proofs.«01_k».proof.Proof.Gen.MergeIdeal.Frame

/-! The merge's array. -/

@[expose] public section
set_option maxRecDepth 16384

noncomputable section
open Idealize.ShloMosaic Idealize.ShloMosaic.TcCoe Idealize.SL.Sem
open Idealize.ShloMosaic.Tactic

namespace Cert.MergeIdeal.M
open Cert.MergeIdeal Cert.MergeIdeal.Gen Cert.Merge

variable (m : (ℓ : Loc nD τ sig) → Buf (Elt Ideal) ℓ)

/-- Where each window sits at a point. -/
theorem idx : ∀ t : Fin cfg0.N, win0_0.index t = ![t.val / 4, 0] ∧ win0_1.index t = ![t.val / 4, 0] ∧ win0_2.index t = ![t.val / 4, 0]
    ∧ win0_3.index t = ![t.val / 4, 9 + t.val % 4] ∧ win0_4.index t = ![t.val / 4, 13 + t.val % 4] ∧ win0_5.index t = ![t.val / 4, 17 + t.val % 4]
    ∧ win0_6.index t = ![0, 0, t.val % 4] ∧ win0_7.index t = ![t.val % 4, 0] ∧ win0_8.index t = ![t.val / 4, 0]
    ∧ win0_9.index t = ![0, 2, t.val / 16, 0, 0] ∧ win0_10.index t = ![0, 2, 4, 0, 0]
    ∧ win0_11.index t = ![0, 0, 0] ∧ win0_12.index t = ![0, 0, 0] ∧ win0_13.index t = ![t.val / 4, 0] :=
  (by decide +kernel : ∀ t : Fin grid0.N, _)

/-- The first grid coordinate of a point. -/
theorem coord0 : ∀ t : Fin cfg0.N, ((grid0.coords t 0 : Fin _) : ℕ) = t.val / 4 := (by decide +kernel : ∀ t : Fin grid0.N, _)

/-- The residual sum of a tile, entry by entry. -/
theorem pay3_at (q : ℕ) (hq : q < 16) (a b : FVec Ideal S1x1x1x1x2048 .f32) (x y : FVec Ideal S576x2048 .f32) (r : Fin 576) (d : Fin 2048) :
    k0_pay3 (F := Ideal) (BitVec.ofNat 32 q) a b x y (ix2 r d)
      = Ideal.ofBits .f32 0x3FB504F3#32 * x (ix2 r d) + (if q % 4 = 0 ∧ (r : ℕ) < 256 then a (ix5 0 0 0 0 d) else b (ix5 0 0 0 0 d)) * y (ix2 r d) := by
  pointwise [k0_pay3]
  exact congrArg₂ (· + ·) rfl (Ideal.mul_congr (sel_mask 4 q r (by norm_num) (by norm_num) hq (by omega) _ _) rfl)

/-- The layer norm of a tile, entry by entry. -/
theorem pay2_at (z : FVec Ideal S576x2048 .f32) (g b : FVec Ideal S1x1x2048 .f32) (r : Fin 576) (d : Fin 2048) :
    k0_pay2 (F := Ideal) z g b (ix2 r d) = Cert.lnRow (fun e => z (ix2 r e)) (g (ix3 0 0 d)) (b (ix3 0 0 d)) d := by
  unfold Cert.lnRow Cert.meanRow
  pointwise [k0_pay2]

/-- The gated sum of a block, entry by entry. -/
theorem pay5_at (ya yb yc : FVec Ideal S576x1024 .bf16) (ga gb gc : FVec Ideal S576x512 .bf16) (wa wb wc : FVec Ideal S1x1024x512 .bf16) (r : Fin 576) (l : Fin 512) :
    k0_pay5 (F := Ideal) ya wa ga yb wb gb yc wc gc (ix2 r l)
      = Ideal.logistic (ga (ix2 r l)) * (∑ k : Fin 1024, ya (ix2 r k) * wa (ix3 0 k l))
        + Ideal.logistic (gb (ix2 r l)) * (∑ k : Fin 1024, yb (ix2 r k) * wb (ix3 0 k l))
        + Ideal.logistic (gc (ix2 r l)) * (∑ k : Fin 1024, yc (ix2 r k) * wc (ix3 0 k l)) := by
  pointwise [k0_pay5]

/-- The accumulation of a block's contribution, entry by entry. -/
theorem pay1_at (z : FVec Ideal S576x512 .f32) (o : FVec Ideal S576x2048 .f32) (w : FVec Ideal S512x2048 .bf16) (r : Fin 576) (d : Fin 2048) :
    k0_pay1 (F := Ideal) z o w (ix2 r d) = o (ix2 r d) + ∑ l : Fin 512, z (ix2 r l) * w (ix2 l d) := by
  pointwise [k0_pay1]

/-- The accumulation starts at zero. -/
theorem pay4_at (r : Fin 576) (d : Fin 2048) : k0_pay4 (F := Ideal) (ix2 r d) = 0 := by
  pointwise [k0_pay4]

/-- The reshaped gain. -/
theorem V_gain (c : Dev nD) : V m c main_v0 = (shapeCast S2x1x2048 (m ((c : Thread nD τ).loc main_arg8) : FVec Ideal S2x2048 .f32) shapeCasts_S2x2048_S2x1x2048 : FVec Ideal S2x1x2048 .f32) := by
  unfold_abbrev_sides
  after_results
  rfl

/-- The reshaped bias. -/
theorem V_bias (c : Dev nD) : V m c main_v1 = (shapeCast S2x1x2048 (m ((c : Thread nD τ).loc main_arg9) : FVec Ideal S2x2048 .f32) shapeCasts_S2x2048_S2x1x2048 : FVec Ideal S2x1x2048 .f32) := by
  unfold_abbrev_sides
  after_results
  rfl

/-- An entry of a layer's vectors after the reshape. -/
theorem cast_at (x : FVec Ideal S2x2048 .f32) (d : Fin 2048) : shapeCast S2x1x2048 x shapeCasts_S2x2048_S2x1x2048 (ix3 0 0 d) = x (ix2 0 d) := by
  pointwise

/-- The layer norm's gain, where its window reads it. -/
theorem gain_eq (c : Dev nD) (t : Fin cfg0.N) (d : Fin 2048) : (iblk m c 11 t : FVec Ideal S1x1x2048 .f32) (ix3 0 0 d) = (m ((c : Thread nD τ).loc main_arg8) : FVec Ideal S2x2048 .f32) (ix2 0 d) := by
  have he : (win0_11.blk t).view.emb (ix3 0 0 d) = ix3 (0 : Fin 2) (0 : Fin 1) d := by blk_ext [idx t]
  refine Eq.trans ?_ (cast_at _ d)
  exact (congrArg (V m c main_v0) he).trans (congrFun (V_gain m c) _)

/-- The layer norm's bias, where its window reads it. -/
theorem bias_eq (c : Dev nD) (t : Fin cfg0.N) (d : Fin 2048) : (iblk m c 12 t : FVec Ideal S1x1x2048 .f32) (ix3 0 0 d) = (m ((c : Thread nD τ).loc main_arg9) : FVec Ideal S2x2048 .f32) (ix2 0 d) := by
  have he : (win0_12.blk t).view.emb (ix3 0 0 d) = ix3 (0 : Fin 2) (0 : Fin 1) d := by blk_ext [idx t]
  refine Eq.trans ?_ (cast_at _ d)
  exact (congrArg (V m c main_v1) he).trans (congrFun (V_bias m c) _)

/-- The gated sum of a point's block. -/
abbrev blkGated (c : Dev nD) (t : Fin cfg0.N) : FVec Ideal S576x512 .f32 :=
  k0_pay5 (F := Ideal) (iblk m c 0 t)
    (View.ld (iblk m c 6 t) (Rect.unit ![0, 0, 0] ![1, 1024, 512] inb_S3x1024x512_S1x1024x512_0_0_0)) (iblk m c 3 t)
    (iblk m c 1 t) (View.ld (iblk m c 6 t) (Rect.unit ![1, 0, 0] ![1, 1024, 512] inb_S3x1024x512_S1x1024x512_1_0_0))
    (iblk m c 4 t) (iblk m c 2 t)
    (View.ld (iblk m c 6 t) (Rect.unit ![2, 0, 0] ![1, 1024, 512] inb_S3x1024x512_S1x1024x512_2_0_0))
    (iblk m c 5 t)

/-- The gated sum of the arguments. -/
abbrev G (c : Dev nD) (g : Fin 9216) (d : Fin 2048) : EReal :=
  gated (m ((c : Thread nD τ).loc main_arg0)) (m ((c : Thread nD τ).loc main_arg1)) (m ((c : Thread nD τ).loc main_arg2)) (m ((c : Thread nD τ).loc main_arg3)) (m ((c : Thread nD τ).loc main_arg4)) g d

/-- The gated sum of a point's block is that of the arguments. -/
theorem gated_eq (c : Dev nD) (t : Fin cfg0.N) (r : Fin 576) (l : Fin 512) (g : Fin 9216) (hg : (g : ℕ) = t.val / 4 * 576 + r) :
    blkGated m c t (ix2 r l) = G m c g ⟨t.val % 4 * 512 + l, by omega⟩ := by
  refine (pay5_at _ _ _ _ _ _ _ _ _ r l).trans ?_
  unfold G gated branch
  refine congrArg₂ (· + ·) (congrArg₂ (· + ·) (Ideal.mul_congr (congrArg Ideal.logistic ?_) (Finset.sum_congr rfl fun k _ => Ideal.mul_congr ?_ ?_))
      (Ideal.mul_congr (congrArg Ideal.logistic ?_) (Finset.sum_congr rfl fun k _ => Ideal.mul_congr ?_ ?_)))
    (Ideal.mul_congr (congrArg Ideal.logistic ?_) (Finset.sum_congr rfl fun k _ => Ideal.mul_congr ?_ ?_))
  all_goals first | blk_ext [iblk, V, idx t] | (pointwise; blk_ext [iblk, V, idx t])

/-- A block's contribution to the projection, at a number that may lie past the last one. -/
def part (z : Fin 2048 → EReal) (wo : FVec Ideal S2048x2048 .bf16) (e : Fin 2048) (s : ℕ) : EReal :=
  if h : s < 4 then ∑ l : Fin 512, z ⟨s * 512 + l, by omega⟩ * wo (ix2 ⟨s * 512 + l, by omega⟩ e) else 0

/-- The contributions of all blocks make the whole. -/
theorem part_sum (z : Fin 2048 → EReal) (wo : FVec Ideal S2048x2048 .bf16) (e : Fin 2048) :
    ∑ s ∈ Finset.range 4, part z wo e s = ∑ d : Fin 2048, z d * wo (ix2 d e) := by
  rw [Fin.sum_univ_tiles 4 512 rfl, Finset.sum_range]
  refine Finset.sum_congr rfl fun s _ => ?_
  unfold part
  rw [dif_pos s.isLt]

/-- The point's contribution to the tile. -/
theorem step_eq (c : Dev nD) (t : Fin cfg0.N) (o : FVec Ideal S576x2048 .f32) (r : Fin 576) (d : Fin 2048) (g : Fin 9216) (hg : (g : ℕ) = t.val / 4 * 576 + r) :
    k0_pay1 (F := Ideal) (blkGated m c t) o (iblk m c 7 t) (ix2 r d)
      = o (ix2 r d) + part (G m c g) (m ((c : Thread nD τ).loc main_arg5)) d (t.val % 4) := by
  refine (pay1_at _ _ _ r d).trans (congrArg (o (ix2 r d) + ·) ?_)
  unfold part
  rw [dif_pos (Nat.mod_lt _ (by norm_num))]
  exact Finset.sum_congr rfl fun l _ => Ideal.mul_congr (gated_eq m c t r l g hg) (by blk_ext [iblk, V, idx t])

/-- Before the last point of a row block the output's tile holds the contributions so far. -/
theorem acc (c : Dev nD) (n : ℕ) : ∀ (hn : n < cfg0.N) (h1 : ¬n % 4 = 3) (r : Fin 576) (d : Fin 2048) (g : Fin 9216), (g : ℕ) = n / 4 * 576 + r →
    (outsAt0 m c n hn) (ix2 r d)
      = ∑ s ∈ Finset.range (n % 4 + 1), part (G m c g) (m ((c : Thread nD τ).loc main_arg5)) d s := by
  induction n using Nat.strong_induction_on with
  | _ n ih =>
    intro hn h1 r d g hg
    by_cases h0 : n % 4 = 0
    · rw [outsAt0_A m c ⟨n, hn⟩ h0 h1]
      frame_out
      refine (step_eq m c ⟨n, hn⟩ _ r d g hg).trans ?_
      rw [pay4_at, zero_add, h0, Finset.sum_range_one]
    · rw [outsAt0_B m c ⟨n, hn⟩ h0 h1]
      frame_out
      refine (step_eq m c ⟨n, hn⟩ _ r d g hg).trans ?_
      rw [Finset.sum_range_succ]
      have e : (n - 1) % 4 + 1 = n % 4 := by omega
      refine congrArg (· + _) ((ih (n - 1) (by omega) _ (by omega) r d g (by omega)).trans ?_)
      rw [e]

/-- At the last point of a row block the output's tile holds the layer norm of the residual sum. -/
theorem last (c : Dev nD) (t : Fin cfg0.N) (h1 : t.val % 4 = 3) (r : Fin 576) (d : Fin 2048) (g : Fin 9216) (hg : (g : ℕ) = t.val / 4 * 576 + r) :
    (outsAt0 m c t.val t.isLt) (ix2 r d)
      = Cert.outRow 2 (by norm_num) (m ((c : Thread nD τ).loc main_arg6)) (m ((c : Thread nD τ).loc main_arg7)) (m ((c : Thread nD τ).loc main_arg8)) (m ((c : Thread nD τ).loc main_arg9))
          (merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) g d := by
  have ht : t.val < 64 := lt_of_lt_of_eq t.isLt (by decide)
  rw [outsAt0_C m c t (by omega) h1]
  frame_out
  refine (pay2_at _ _ _ r d).trans ?_
  rw [gain_eq m c t d, bias_eq m c t d]
  unfold Cert.outRow
  refine congrArg (fun z => Cert.lnRow z _ _ d) (funext fun e => ?_)
  have hq : ((grid0.coords t 0 : Fin _) : ℕ) < 16 := by rw [coord0 t]; omega
  refine (pay3_at _ hq _ _ _ _ r e).trans (congrArg₂ (· + ·) (Ideal.mul_congr rfl ?_) (Ideal.mul_congr ?_ ?_))
  · blk_ext [iblk, V, idx t]
  · rw [coord0 t]
    unfold Cert.gateRow
    by_cases h : t.val / 4 % 4 = 0 ∧ (r : ℕ) < 256
    · rw [if_pos h, if_pos (by omega)]
      blk_ext [iblk, V, idx t]
    · rw [if_neg h, if_neg (by omega)]
      blk_ext [iblk, V, idx t]
  · refine (step_eq m c t _ r e g hg).trans ?_
    refine Eq.trans ?_ (part_sum (G m c g) _ e)
    rw [Finset.sum_range_succ, h1]
    refine congrArg (· + _) ((acc m c (t.val - 1) _ (by omega) r e g (by omega)).trans ?_)
    have e : (t.val - 1) % 4 + 1 = 3 := by omega
    rw [e]

/-- The kernel's array is the reference's term. -/
theorem final (c : Dev nD) :
    (dats m 0 c).arrAt 13 cfg0.N
      = Cert.MergeReferenceIdeal.M.REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  idx_vars y
  blk_simp [idx t]
  rw [after0_13]
  have ht : t.val < 64 := lt_of_lt_of_eq t.isLt (by decide)
  have he : (win0_13.blk t).view.emb (ix2 y0 y1) = ix2 (⟨t.val / 4 * 576 + y0, by omega⟩ : Fin 9216) y1 := by blk_ext [idx t]
  refine Eq.trans ?_ (congrArg _ he).symm
  refine Eq.trans ?_ (Cert.MergeReferenceIdeal.M.REF_at _ _ _ _ _ _ _ _ _ _ _ _).symm
  exact last m c t ((flush0_13 t).mp hf) y0 y1 _ rfl

end Cert.MergeIdeal.M

end
-- ==== Proof.PrepRef.lean ====
module

public import proofs.«01_k».proof.Proof.Gen.PrepReferenceIdeal.Run
public import Idealize.ShloMosaic.Lib.Pointwise

/-! The latent attention's queries, keys and values: the reference's three results as entries. -/

@[expose] public section
set_option maxRecDepth 16384

noncomputable section
open Idealize.ShloMosaic Idealize.ShloMosaic.TcCoe Idealize.SL.Sem

namespace Cert.PrepReferenceIdeal.P
open Cert.PrepReferenceIdeal Cert.PrepReferenceIdeal.Gen

/-- The sixteen frequencies, a row of them for every latent token. -/
def freq : FVec Ideal S2048x16 .f32 :=
  broadcastInDim S2048x16 ![0, 1] bcast_S1x16_S2048x16_0_1 (broadcastInDim S1x16 ![1] bcast_S16_S1x16_1
    (Host.powf (broadcastInDim S16 ![] bcast_S_S16 (constant S_ .f32 0x461C4000#32))
      (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0)))))
        (broadcastInDim S16 ![] bcast_S_S16 (constant S_ .f32 0x42000000#32)))))

/-- The angles that a token's grid row gives. -/
def angR : FVec Ideal S2048x16 .f32 :=
  mulf (broadcastInDim S2048x16 ![0, 1] bcast_S2048x1_S2048x16_0_1 (broadcastInDim S2048x1 ![0] bcast_S2048_S2048x1_0
    (shapeCast S2048 (broadcastInDim S32x64 ![0] bcast_S32_S32x64_0 (sitofp .f32 (iotaInDim S32 32 0)) : FVec Ideal S32x64 .f32) shapeCasts_S32x64_S2048))) freq

/-- The angles that a token's grid column gives. -/
def angC : FVec Ideal S2048x16 .f32 :=
  mulf (broadcastInDim S2048x16 ![0, 1] bcast_S2048x1_S2048x16_0_1 (broadcastInDim S2048x1 ![0] bcast_S2048_S2048x1_0
    (shapeCast S2048 (broadcastInDim S32x64 ![0, 1] bcast_S1x64_S32x64_0_1 (shapeCast S1x64 (sitofp .f32 (iotaInDim S64 32 0) : FVec Ideal S64 .f32) shapeCasts_S64_S1x64)) shapeCasts_S32x64_S2048))) freq

/-- The angle of rotary coordinate `e` of latent token `n`. -/
def ang (n : Fin 2048) (e : Fin 64) : EReal :=
  if (e : ℕ) < 32 then angR (ix2 n ⟨(e : ℕ) % 16, by omega⟩) else angC (ix2 n ⟨(e : ℕ) % 16, by omega⟩)

/-- Rotary coordinate `e`'s partner in the rotation. -/
def mate (e : Fin 64) : Fin 64 := ⟨(e : ℕ) / 32 * 32 + ((e : ℕ) + 16) % 32, by omega⟩

/-- A token's rotary vector after the rotation; a context token's stays. -/
def rot (t : Fin 2304) (x : Fin 64 → EReal) (e : Fin 64) : EReal :=
  if h : (t : ℕ) < 256 then x e
  else if (e : ℕ) % 32 < 16 then x e * Ideal.cos (ang ⟨(t : ℕ) - 256, by omega⟩ e) - x (mate e) * Ideal.sin (ang ⟨(t : ℕ) - 256, by omega⟩ e)
  else x (mate e) * Ideal.sin (ang ⟨(t : ℕ) - 256, by omega⟩ e) + x e * Ideal.cos (ang ⟨(t : ℕ) - 256, by omega⟩ e)

/-- A row after the root mean square norm, times a column of the weights. -/
def normDot {K : ℕ} (n : EReal) (x g w : Fin K → EReal) : EReal :=
  ∑ k, x k * Ideal.rsqrt (Ideal.div (∑ j, x j * x j) n + Ideal.ofBits .f32 0x358637BD#32) * g k * w k

/-- The rotated rotary parts of the queries, a token and head after the other. -/
def rope8 (x : FVec Ideal S4x2304x8x64 .f32) : FVec Ideal S4x2304x8x64 .f32 :=
  let y := extractStridedSlice S4x2048x8x64 ![0, 256, 0, 0] x slices_S4x2304x8x64_S4x2048x8x64_0_256_0_0
  let spread (z : FVec Ideal S2048x16 .f32) : FVec Ideal S4x2048x8x16 .f32 :=
    broadcastInDim S4x2048x8x16 ![0, 1, 2, 3] bcast_S1x2048x1x16_S4x2048x8x16_0_1_2_3 (broadcastInDim S1x2048x1x16 ![1, 3] bcast_S2048x16_S1x2048x1x16_1_3 z)
  let half (z : FVec Ideal S4x2048x8x32 .f32) (a : FVec Ideal S2048x16 .f32) : FVec Ideal S4x2048x8x32 .f32 :=
    let z1 := extractStridedSlice S4x2048x8x16 ![0, 0, 0, 0] z slices_S4x2048x8x32_S4x2048x8x16_0_0_0_0
    let z2 := extractStridedSlice S4x2048x8x16 ![0, 0, 0, 16] z slices_S4x2048x8x32_S4x2048x8x16_0_0_0_16
    concatenate S4x2048x8x32 3 [⟨S4x2048x8x16, (subf (mulf z1 (spread (Host.cos a))) (mulf z2 (spread (Host.sin a))) : FVec Ideal S4x2048x8x16 .f32)⟩,
      ⟨S4x2048x8x16, (addf (mulf z1 (spread (Host.sin a))) (mulf z2 (spread (Host.cos a))) : FVec Ideal S4x2048x8x16 .f32)⟩] concatenates_S4x2048x8x16_S4x2048x8x16_S4x2048x8x32_d3
  concatenate S4x2304x8x64 1 [⟨S4x256x8x64, (extractStridedSlice S4x256x8x64 ![0, 0, 0, 0] x slices_S4x2304x8x64_S4x256x8x64_0_0_0_0 : FVec Ideal S4x256x8x64 .f32)⟩,
    ⟨S4x2048x8x64, (concatenate S4x2048x8x64 3 [⟨S4x2048x8x32, half (extractStridedSlice S4x2048x8x32 ![0, 0, 0, 0] y slices_S4x2048x8x64_S4x2048x8x32_0_0_0_0) angR⟩,
      ⟨S4x2048x8x32, half (extractStridedSlice S4x2048x8x32 ![0, 0, 0, 32] y slices_S4x2048x8x64_S4x2048x8x32_0_0_0_32) angC⟩] concatenates_S4x2048x8x32_S4x2048x8x32_S4x2048x8x64_d3 : FVec Ideal S4x2048x8x64 .f32)⟩]
    concatenates_S4x256x8x64_S4x2048x8x64_S4x2304x8x64_d1

/-- The rotated rotary parts of the keys, which the heads share. -/
def rope1 (x : FVec Ideal S4x2304x1x64 .f32) : FVec Ideal S4x2304x1x64 .f32 :=
  let y := extractStridedSlice S4x2048x1x64 ![0, 256, 0, 0] x slices_S4x2304x1x64_S4x2048x1x64_0_256_0_0
  let spread (z : FVec Ideal S2048x16 .f32) : FVec Ideal S4x2048x1x16 .f32 :=
    broadcastInDim S4x2048x1x16 ![0, 1, 2, 3] bcast_S1x2048x1x16_S4x2048x1x16_0_1_2_3 (broadcastInDim S1x2048x1x16 ![1, 3] bcast_S2048x16_S1x2048x1x16_1_3 z)
  let half (z : FVec Ideal S4x2048x1x32 .f32) (a : FVec Ideal S2048x16 .f32) : FVec Ideal S4x2048x1x32 .f32 :=
    let z1 := extractStridedSlice S4x2048x1x16 ![0, 0, 0, 0] z slices_S4x2048x1x32_S4x2048x1x16_0_0_0_0
    let z2 := extractStridedSlice S4x2048x1x16 ![0, 0, 0, 16] z slices_S4x2048x1x32_S4x2048x1x16_0_0_0_16
    concatenate S4x2048x1x32 3 [⟨S4x2048x1x16, (subf (mulf z1 (spread (Host.cos a))) (mulf z2 (spread (Host.sin a))) : FVec Ideal S4x2048x1x16 .f32)⟩,
      ⟨S4x2048x1x16, (addf (mulf z1 (spread (Host.sin a))) (mulf z2 (spread (Host.cos a))) : FVec Ideal S4x2048x1x16 .f32)⟩] concatenates_S4x2048x1x16_S4x2048x1x16_S4x2048x1x32_d3
  concatenate S4x2304x1x64 1 [⟨S4x256x1x64, (extractStridedSlice S4x256x1x64 ![0, 0, 0, 0] x slices_S4x2304x1x64_S4x256x1x64_0_0_0_0 : FVec Ideal S4x256x1x64 .f32)⟩,
    ⟨S4x2048x1x64, (concatenate S4x2048x1x64 3 [⟨S4x2048x1x32, half (extractStridedSlice S4x2048x1x32 ![0, 0, 0, 0] y slices_S4x2048x1x64_S4x2048x1x32_0_0_0_0) angR⟩,
      ⟨S4x2048x1x32, half (extractStridedSlice S4x2048x1x32 ![0, 0, 0, 32] y slices_S4x2048x1x64_S4x2048x1x32_0_0_0_32) angC⟩] concatenates_S4x2048x1x32_S4x2048x1x32_S4x2048x1x64_d3 : FVec Ideal S4x2048x1x64 .f32)⟩]
    concatenates_S4x256x1x64_S4x2048x1x64_S4x2304x1x64_d1

/-- The projection, a batch after the other. -/
def byBatch (p : FVec Ideal S9216x10752 .bf16) : FVec Ideal S4x2304x10752 .f32 :=
  shapeCast S4x2304x10752 (extf .f32 p bitsLt_bf16_f32 : FVec Ideal S9216x10752 .f32) shapeCasts_S9216x10752_S4x2304x10752

/-- The queries before the rotation. -/
def qUp (p : FVec Ideal S9216x10752 .bf16) (g : FVec Ideal S2x512 .f32) (w : FVec Ideal S2x512x1536 .f32) : FVec Ideal S4x2304x1536 .f32 :=
  let x := extractStridedSlice S4x2304x512 ![0, 0, 2048] (byBatch p) slices_S4x2304x10752_S4x2304x512_0_0_2048
  let ms := Host.divf (broadcastInDim S4x2304x1 ![0, 1] bcast_S4x2304_S4x2304x1_0_1 (Host.reduceAdd (mulf x x) (constant S_ .f32 0x00000000#32) reducesTo_S4x2304x512_S4x2304_d2 h_S_))
    (broadcastInDim S4x2304x1 ![] bcast_S_S4x2304x1 (constant S_ .f32 0x44000000#32))
  Host.dotGeneral dot_S4x2304x512_S512x1536_S4x2304x1536_2_0_01_1_n_n none
    (mulf (mulf x (broadcastInDim S4x2304x512 ![0, 1, 2] bcast_S4x2304x1_S4x2304x512_0_1_2 (Host.rsqrt (addf ms (broadcastInDim S4x2304x1 ![] bcast_S_S4x2304x1 (constant S_ .f32 0x358637BD#32))))))
      (broadcastInDim S4x2304x512 ![0, 1, 2] bcast_S1x1x512_S4x2304x512_0_1_2 (broadcastInDim S1x1x512 ![2] bcast_S512_S1x1x512_2
        (shapeCast S512 (extractStridedSlice S1x512 ![0, 0] g slices_S2x512_S1x512_0_0 : FVec Ideal S1x512 .f32) shapeCasts_S1x512_S512))))
    (shapeCast S512x1536 (extractStridedSlice S1x512x1536 ![0, 0, 0] w slices_S2x512x1536_S1x512x1536_0_0_0 : FVec Ideal S1x512x1536 .f32) shapeCasts_S1x512x1536_S512x1536)

/-- The keys and values before the rotation. -/
def kvUp (p : FVec Ideal S9216x10752 .bf16) (g : FVec Ideal S2x256 .f32) (w : FVec Ideal S2x256x2048 .f32) : FVec Ideal S4x2304x2048 .f32 :=
  let x := extractStridedSlice S4x2304x256 ![0, 0, 2560] (byBatch p) slices_S4x2304x10752_S4x2304x256_0_0_2560
  let ms := Host.divf (broadcastInDim S4x2304x1 ![0, 1] bcast_S4x2304_S4x2304x1_0_1 (Host.reduceAdd (mulf x x) (constant S_ .f32 0x00000000#32) reducesTo_S4x2304x256_S4x2304_d2 h_S_))
    (broadcastInDim S4x2304x1 ![] bcast_S_S4x2304x1 (constant S_ .f32 0x43800000#32))
  Host.dotGeneral dot_S4x2304x256_S256x2048_S4x2304x2048_2_0_01_1_n_n none
    (mulf (mulf x (broadcastInDim S4x2304x256 ![0, 1, 2] bcast_S4x2304x1_S4x2304x256_0_1_2 (Host.rsqrt (addf ms (broadcastInDim S4x2304x1 ![] bcast_S_S4x2304x1 (constant S_ .f32 0x358637BD#32))))))
      (broadcastInDim S4x2304x256 ![0, 1, 2] bcast_S1x1x256_S4x2304x256_0_1_2 (broadcastInDim S1x1x256 ![2] bcast_S256_S1x1x256_2
        (shapeCast S256 (extractStridedSlice S1x256 ![0, 0] g slices_S2x256_S1x256_0_0 : FVec Ideal S1x256 .f32) shapeCasts_S1x256_S256))))
    (shapeCast S256x2048 (extractStridedSlice S1x256x2048 ![0, 0, 0] w slices_S2x256x2048_S1x256x2048_0_0_0 : FVec Ideal S1x256x2048 .f32) shapeCasts_S1x256x2048_S256x2048)

/-- The reference's queries. -/
def REFq (p : FVec Ideal S9216x10752 .bf16) (g : FVec Ideal S2x512 .f32) (w : FVec Ideal S2x512x1536 .f32) : FVec Ideal S9216x2048 .bf16 :=
  let z := shapeCast S4x2304x8x192 (qUp p g w) shapeCasts_S4x2304x1536_S4x2304x8x192
  let r := extractStridedSlice S4x2304x8x64 ![0, 0, 0, 128] z slices_S4x2304x8x192_S4x2304x8x64_0_0_0_128
  truncf .bf16 (shapeCast S9216x2048 (concatenate S4x2304x8x256 3 [⟨S4x2304x8x192, (mulf (concatenate S4x2304x8x192 3 [⟨S4x2304x8x128, (extractStridedSlice S4x2304x8x128 ![0, 0, 0, 0] z slices_S4x2304x8x192_S4x2304x8x128_0_0_0_0 : FVec Ideal S4x2304x8x128 .f32)⟩,
      ⟨S4x2304x8x64, rope8 r⟩] concatenates_S4x2304x8x128_S4x2304x8x64_S4x2304x8x192_d3) (broadcastInDim S4x2304x8x192 ![] bcast_S_S4x2304x8x192 (constant S_ .f32 0x3DD53B95#32)) : FVec Ideal S4x2304x8x192 .f32)⟩,
    ⟨S4x2304x8x64, (broadcastInDim S4x2304x8x64 ![] bcast_S_S4x2304x8x64 (constant S_ .f32 0x00000000#32) : FVec Ideal S4x2304x8x64 .f32)⟩] concatenates_S4x2304x8x192_S4x2304x8x64_S4x2304x8x256_d3 : FVec Ideal S4x2304x8x256 .f32)
    shapeCasts_S4x2304x8x256_S9216x2048) bitsLt_bf16_f32

/-- The reference's keys. -/
def REFk (p : FVec Ideal S9216x10752 .bf16) (g : FVec Ideal S2x256 .f32) (w : FVec Ideal S2x256x2048 .f32) : FVec Ideal S9216x2048 .bf16 :=
  let z := shapeCast S4x2304x8x256 (kvUp p g w) shapeCasts_S4x2304x2048_S4x2304x8x256
  let r := broadcastInDim S4x2304x1x64 ![0, 1, 3] bcast_S4x2304x64_S4x2304x1x64_0_1_3 (extractStridedSlice S4x2304x64 ![0, 0, 2816] (byBatch p) slices_S4x2304x10752_S4x2304x64_0_0_2816)
  truncf .bf16 (shapeCast S9216x2048 (concatenate S4x2304x8x256 3 [⟨S4x2304x8x128, (extractStridedSlice S4x2304x8x128 ![0, 0, 0, 0] z slices_S4x2304x8x256_S4x2304x8x128_0_0_0_0 : FVec Ideal S4x2304x8x128 .f32)⟩,
    ⟨S4x2304x8x64, (broadcastInDim S4x2304x8x64 ![0, 1, 2, 3] bcast_S4x2304x1x64_S4x2304x8x64_0_1_2_3 (rope1 r) : FVec Ideal S4x2304x8x64 .f32)⟩,
    ⟨S4x2304x8x64, (broadcastInDim S4x2304x8x64 ![] bcast_S_S4x2304x8x64 (constant S_ .f32 0x00000000#32) : FVec Ideal S4x2304x8x64 .f32)⟩] concatenates_S4x2304x8x128_S4x2304x8x64_S4x2304x8x64_S4x2304x8x256_d3 : FVec Ideal S4x2304x8x256 .f32)
    shapeCasts_S4x2304x8x256_S9216x2048) bitsLt_bf16_f32

/-- The reference's values. -/
def REFv (p : FVec Ideal S9216x10752 .bf16) (g : FVec Ideal S2x256 .f32) (w : FVec Ideal S2x256x2048 .f32) : FVec Ideal S9216x1024 .bf16 :=
  truncf .bf16 (shapeCast S9216x1024 (extractStridedSlice S4x2304x8x128 ![0, 0, 0, 128] (shapeCast S4x2304x8x256 (kvUp p g w) shapeCasts_S4x2304x2048_S4x2304x8x256) slices_S4x2304x8x256_S4x2304x8x128_0_0_0_128 : FVec Ideal S4x2304x8x128 .f32)
    shapeCasts_S4x2304x8x128_S9216x1024) bitsLt_bf16_f32

/-- The queries that the run leaves. -/
theorem resq_eq (m : (ℓ : Loc nD τ sig) → Buf (Elt Ideal) ℓ) (c : Dev nD) :
    Cert.PrepReferenceIdeal.Value.res_main_v163 m c = REFq (m ((c.tc : Thread nD τ).loc main_arg0)) (m ((c.tc : Thread nD τ).loc main_arg1)) (m ((c.tc : Thread nD τ).loc main_arg2)) := rfl

/-- The keys that the run leaves. -/
theorem resk_eq (m : (ℓ : Loc nD τ sig) → Buf (Elt Ideal) ℓ) (c : Dev nD) :
    Cert.PrepReferenceIdeal.Value.res_main_v165 m c = REFk (m ((c.tc : Thread nD τ).loc main_arg0)) (m ((c.tc : Thread nD τ).loc main_arg3)) (m ((c.tc : Thread nD τ).loc main_arg4)) := rfl

/-- A context token's rotary vector stays. -/
theorem rot_ctx (t : Fin 2304) (ht : (t : ℕ) < 256) (x : Fin 64 → EReal) (e : Fin 64) : rot t x e = x e := by
  unfold rot
  exact dif_pos ht

/-- The rotation of a latent token, half by half. -/
theorem rot_lat (t : Fin 2304) (ht : ¬(t : ℕ) < 256) (x : Fin 64 → EReal) (e : Fin 64) :
    rot t x e = if h2 : (e : ℕ) < 32 then
        if h3 : (e : ℕ) < 16 then x e * Ideal.cos (angR (ix2 ⟨(t : ℕ) - 256, by omega⟩ ⟨e, by omega⟩)) - x ⟨16 + (e : ℕ), by omega⟩ * Ideal.sin (angR (ix2 ⟨(t : ℕ) - 256, by omega⟩ ⟨e, by omega⟩))
        else x ⟨(e : ℕ) - 16, by omega⟩ * Ideal.sin (angR (ix2 ⟨(t : ℕ) - 256, by omega⟩ ⟨(e : ℕ) - 16, by omega⟩)) + x ⟨16 + ((e : ℕ) - 16), by omega⟩ * Ideal.cos (angR (ix2 ⟨(t : ℕ) - 256, by omega⟩ ⟨(e : ℕ) - 16, by omega⟩))
      else
        if h3 : (e : ℕ) - 32 < 16 then x ⟨32 + ((e : ℕ) - 32), by omega⟩ * Ideal.cos (angC (ix2 ⟨(t : ℕ) - 256, by omega⟩ ⟨(e : ℕ) - 32, by omega⟩)) - x ⟨32 + (16 + ((e : ℕ) - 32)), by omega⟩ * Ideal.sin (angC (ix2 ⟨(t : ℕ) - 256, by omega⟩ ⟨(e : ℕ) - 32, by omega⟩))
        else x ⟨32 + ((e : ℕ) - 32 - 16), by omega⟩ * Ideal.sin (angC (ix2 ⟨(t : ℕ) - 256, by omega⟩ ⟨(e : ℕ) - 32 - 16, by omega⟩)) + x ⟨32 + (16 + ((e : ℕ) - 32 - 16)), by omega⟩ * Ideal.cos (angC (ix2 ⟨(t : ℕ) - 256, by omega⟩ ⟨(e : ℕ) - 32 - 16, by omega⟩)) := by
  obtain ⟨e, he⟩ := e
  unfold rot ang mate
  rw [dif_neg ht]
  dsimp only
  by_cases h2 : e < 32
  · by_cases h3 : e < 16
    · simp only [h2, h3, dif_pos, if_pos, show e % 32 < 16 by omega, show e % 16 = e by omega, show e / 32 * 32 + (e + 16) % 32 = 16 + e by omega]
    · simp only [h2, h3, dif_pos, if_pos, dif_neg, if_neg, show ¬e % 32 < 16 by omega, show e % 16 = e - 16 by omega, show e / 32 * 32 + (e + 16) % 32 = e - 16 by omega, show 16 + (e - 16) = e by omega, not_false_iff]
  · by_cases h3 : e - 32 < 16
    · simp only [h2, h3, dif_pos, if_pos, dif_neg, if_neg, show e % 32 < 16 by omega, show e % 16 = e - 32 by omega, show e / 32 * 32 + (e + 16) % 32 = 32 + (16 + (e - 32)) by omega, show 32 + (e - 32) = e by omega, not_false_iff]
    · simp only [h2, h3, dif_pos, if_pos, dif_neg, if_neg, show ¬e % 32 < 16 by omega, show e % 16 = e - 32 - 16 by omega, show e / 32 * 32 + (e + 16) % 32 = 32 + (e - 32 - 16) by omega, show 32 + (16 + (e - 32 - 16)) = e by omega, not_false_iff]

/-- An entry of the queries' rotated part. -/
theorem rope8_at (x : FVec Ideal S4x2304x8x64 .f32) (b : Fin 4) (t : Fin 2304) (h : Fin 8) (e : Fin 64) :
    rope8 x (ix4 b t h e) = rot t (fun j => x (ix4 b t h j)) e := by
  pointwise [rope8]
  by_cases ht : (t : ℕ) < 256
  · exact (dif_pos ht).trans (rot_ctx t ht (fun j => x (ix4 b t h j)) e).symm
  · have ht' : ∀ h' : 256 + ((t : ℕ) - 256) < 2304, (⟨256 + ((t : ℕ) - 256), h'⟩ : Fin 2304) = t := fun _ => Fin.ext (by dsimp only; omega)
    refine (dif_neg ht).trans (Eq.trans ?_ (rot_lat t ht _ e).symm)
    simp only [ht']

/-- An entry of the keys' rotated part. -/
theorem rope1_at (x : FVec Ideal S4x2304x1x64 .f32) (b : Fin 4) (t : Fin 2304) (e : Fin 64) :
    rope1 x (ix4 b t 0 e) = rot t (fun j => x (ix4 b t 0 j)) e := by
  pointwise [rope1]
  by_cases ht : (t : ℕ) < 256
  · exact (dif_pos ht).trans (rot_ctx t ht (fun j => x (ix4 b t 0 j)) e).symm
  · have ht' : ∀ h' : 256 + ((t : ℕ) - 256) < 2304, (⟨256 + ((t : ℕ) - 256), h'⟩ : Fin 2304) = t := fun _ => Fin.ext (by dsimp only; omega)
    refine (dif_neg ht).trans (Eq.trans ?_ (rot_lat t ht _ e).symm)
    simp only [ht']

/-- An entry of the queries before the rotation: row `R` of the projection, column `e` of the weights. -/
def qAt (p : FVec Ideal ⟨2, ![9216, 10752]⟩ .bf16) (g : FVec Ideal ⟨2, ![2, 512]⟩ .f32) (w : FVec Ideal ⟨3, ![2, 512, 1536]⟩ .f32) (R : Fin 9216) (e : Fin 1536) : EReal :=
  normDot (Ideal.ofBits .f32 0x44000000#32) (fun k : Fin 512 => p (ix2 R ⟨2048 + (k : ℕ), by omega⟩)) (fun k => g (ix2 0 k)) (fun k => w (ix3 0 k e))

/-- An entry of the keys and values before the rotation. -/
def kvAt (p : FVec Ideal ⟨2, ![9216, 10752]⟩ .bf16) (g : FVec Ideal ⟨2, ![2, 256]⟩ .f32) (w : FVec Ideal ⟨3, ![2, 256, 2048]⟩ .f32) (R : Fin 9216) (e : Fin 2048) : EReal :=
  normDot (Ideal.ofBits .f32 0x43800000#32) (fun k : Fin 256 => p (ix2 R ⟨2560 + (k : ℕ), by omega⟩)) (fun k => g (ix2 0 k)) (fun k => w (ix3 0 k e))

/-- A row is its batch's first row plus its token. -/
theorem row_split (R : Fin 9216) (h : (R : ℕ) / 2304 * 2304 + (R : ℕ) % 2304 < 9216) : (⟨(R : ℕ) / 2304 * 2304 + (R : ℕ) % 2304, h⟩ : Fin 9216) = R := Fin.ext (Nat.div_add_mod' _ _)

/-- The queries before the rotation, at a batch and a token. -/
theorem qUp_at (p : FVec Ideal S9216x10752 .bf16) (g : FVec Ideal S2x512 .f32) (w : FVec Ideal S2x512x1536 .f32) (b : Fin 4) (t : Fin 2304) (e : Fin 1536) :
    qUp p g w (ix3 b t e) = qAt p g w ⟨(b : ℕ) * 2304 + t, by omega⟩ e := by
  unfold qAt normDot
  pointwise [qUp, byBatch]

/-- The keys and values before the rotation, at a batch and a token. -/
theorem kvUp_at (p : FVec Ideal S9216x10752 .bf16) (g : FVec Ideal S2x256 .f32) (w : FVec Ideal S2x256x2048 .f32) (b : Fin 4) (t : Fin 2304) (e : Fin 2048) :
    kvUp p g w (ix3 b t e) = kvAt p g w ⟨(b : ℕ) * 2304 + t, by omega⟩ e := by
  unfold kvAt normDot
  pointwise [kvUp, byBatch]

/-- An entry of the queries' part that is rotated. -/
theorem qTail_at (z : FVec Ideal S4x2304x1536 .f32) (b : Fin 4) (t : Fin 2304) (h : Fin 8) (j : Fin 64) :
    extractStridedSlice S4x2304x8x64 ![0, 0, 0, 128] (shapeCast S4x2304x8x192 z shapeCasts_S4x2304x1536_S4x2304x8x192) slices_S4x2304x8x192_S4x2304x8x64_0_0_0_128 (ix4 b t h j)
      = z (ix3 b t ⟨(h : ℕ) * 192 + (128 + (j : ℕ)), by omega⟩) := by
  pointwise

/-- An entry of the keys' part that is rotated. -/
theorem kTail_at (p : FVec Ideal S9216x10752 .bf16) (b : Fin 4) (t : Fin 2304) (j : Fin 64) :
    broadcastInDim S4x2304x1x64 ![0, 1, 3] bcast_S4x2304x64_S4x2304x1x64_0_1_3 (extractStridedSlice S4x2304x64 ![0, 0, 2816] (byBatch p) slices_S4x2304x10752_S4x2304x64_0_0_2816) (ix4 b t 0 j)
      = p (ix2 ⟨(b : ℕ) * 2304 + t, by omega⟩ ⟨2816 + (j : ℕ), by omega⟩) := by
  pointwise [byBatch]

/-- An entry of the queries: column `e` is column `e % 256` of head `e / 256`. -/
theorem REFq_at (p : FVec Ideal S9216x10752 .bf16) (g : FVec Ideal S2x512 .f32) (w : FVec Ideal S2x512x1536 .f32) (R : Fin 9216) (e : Fin 2048) :
    REFq p g w (ix2 R e) = if h : (e : ℕ) % 256 < 192 then
        (if h1 : (e : ℕ) % 256 < 128 then qAt p g w R ⟨(e : ℕ) / 256 * 192 + (e : ℕ) % 256, by omega⟩
          else rot ⟨(R : ℕ) % 2304, by omega⟩ (fun j => qAt p g w R ⟨(e : ℕ) / 256 * 192 + (128 + (j : ℕ)), by omega⟩) ⟨(e : ℕ) % 256 - 128, by omega⟩)
        * Ideal.ofBits .f32 0x3DD53B95#32
      else 0 := by
  pointwise [REFq]
  simp only [rope8_at, qTail_at, qUp_at, row_split]

/-- An entry of the keys. -/
theorem REFk_at (p : FVec Ideal S9216x10752 .bf16) (g : FVec Ideal S2x256 .f32) (w : FVec Ideal S2x256x2048 .f32) (R : Fin 9216) (e : Fin 2048) :
    REFk p g w (ix2 R e) = if h : (e : ℕ) % 256 < 128 then kvAt p g w R e
      else if h1 : (e : ℕ) % 256 - 128 < 64 then rot ⟨(R : ℕ) % 2304, by omega⟩ (fun j => p (ix2 R ⟨2816 + (j : ℕ), by omega⟩)) ⟨(e : ℕ) % 256 - 128, h1⟩
      else 0 := by
  pointwise [REFk]
  simp only [kvUp_at, rope1_at, row_split]
  refine dite_congr rfl (fun _ => rfl) fun _ => dite_congr rfl (fun _ => ?_) fun _ => rfl
  refine congrArg (fun z => rot _ z _) (funext fun j => ?_)
  exact (kTail_at p _ _ j).trans (by rw [row_split])

/-- An entry of the values: column `e` is column `e % 128` of head `e / 128`. -/
theorem REFv_at (p : FVec Ideal S9216x10752 .bf16) (g : FVec Ideal S2x256 .f32) (w : FVec Ideal S2x256x2048 .f32) (R : Fin 9216) (e : Fin 1024) :
    REFv p g w (ix2 R e) = kvAt p g w R ⟨(e : ℕ) / 128 * 256 + (128 + (e : ℕ) % 128), by omega⟩ := by
  pointwise [REFv]
  simp only [kvUp_at, row_split]

end Cert.PrepReferenceIdeal.P

end
-- ==== Proof.PrepHost.lean ====
module

public import proofs.«01_k».proof.Proof.PrepRef
public import proofs.«01_k».proof.Proof.Gen.PrepIdeal.Frame
public import Idealize.ShloMosaic.Lib.Pipeline.ValueKit

/-! What the preparation of the latent attention finds in its buffers, and the rotation by the two tables. -/

@[expose] public section
set_option maxRecDepth 16384

noncomputable section
open Idealize.ShloMosaic Idealize.ShloMosaic.TcCoe Idealize.SL.Sem
open Idealize.ShloMosaic.Tactic

namespace Cert.PrepIdeal.P
open Cert.PrepIdeal Cert.PrepIdeal.Gen
open Cert.PrepReferenceIdeal.P (angR angC ang mate rot rot_ctx normDot)

variable (m : (ℓ : Loc nD τ sig) → Buf (Elt Ideal) ℓ)

/-- The table of cosines: a row per token, one for the context's tokens and for the lanes behind the rotary ones. -/
def cosT : FVec Ideal S2304x128 .f32 :=
  concatenate S2304x128 0 [⟨S256x128, (broadcastInDim S256x128 ![] bcast_S_S256x128 (constant S_ .f32 0x3F800000#32) : FVec Ideal S256x128 .f32)⟩,
    ⟨S2048x128, (concatenate S2048x128 1 [⟨S2048x64, (concatenate S2048x64 1 [⟨S2048x16, (Host.cos angR : FVec Ideal S2048x16 .f32)⟩, ⟨S2048x16, (Host.cos angR : FVec Ideal S2048x16 .f32)⟩,
        ⟨S2048x16, (Host.cos angC : FVec Ideal S2048x16 .f32)⟩, ⟨S2048x16, (Host.cos angC : FVec Ideal S2048x16 .f32)⟩] concatenates_S2048x16_S2048x16_S2048x16_S2048x16_S2048x64_d1 : FVec Ideal S2048x64 .f32)⟩,
      ⟨S2048x64, (broadcastInDim S2048x64 ![] bcast_S_S2048x64 (constant S_ .f32 0x3F800000#32) : FVec Ideal S2048x64 .f32)⟩] concatenates_S2048x64_S2048x64_S2048x128_d1 : FVec Ideal S2048x128 .f32)⟩]
    concatenates_S256x128_S2048x128_S2304x128_d0

/-- The table of sines, with the first half's sign; zero for the context's tokens and behind the rotary lanes. -/
def sinT : FVec Ideal S2304x128 .f32 :=
  concatenate S2304x128 0 [⟨S256x128, (broadcastInDim S256x128 ![] bcast_S_S256x128 (constant S_ .f32 0x00000000#32) : FVec Ideal S256x128 .f32)⟩,
    ⟨S2048x128, (concatenate S2048x128 1 [⟨S2048x64, (concatenate S2048x64 1 [⟨S2048x16, (Host.negf (Host.sin angR) : FVec Ideal S2048x16 .f32)⟩, ⟨S2048x16, (Host.sin angR : FVec Ideal S2048x16 .f32)⟩,
        ⟨S2048x16, (Host.negf (Host.sin angC) : FVec Ideal S2048x16 .f32)⟩, ⟨S2048x16, (Host.sin angC : FVec Ideal S2048x16 .f32)⟩] concatenates_S2048x16_S2048x16_S2048x16_S2048x16_S2048x64_d1 : FVec Ideal S2048x64 .f32)⟩,
      ⟨S2048x64, (broadcastInDim S2048x64 ![] bcast_S_S2048x64 (constant S_ .f32 0x00000000#32) : FVec Ideal S2048x64 .f32)⟩] concatenates_S2048x64_S2048x64_S2048x128_d1 : FVec Ideal S2048x128 .f32)⟩]
    concatenates_S256x128_S2048x128_S2304x128_d0

/-- The query weights, a head's 192 columns filled up with 64 zeros. -/
def wqT (w : FVec Ideal S2x512x1536 .f32) : FVec Ideal S2x512x2048 .bf16 :=
  truncf .bf16 (shapeCast S2x512x2048 (pad S2x512x8x256 ![0, 0, 0, 0] ![0, 0, 0, 64] ![0, 0, 0, 0] (shapeCast S2x512x8x192 w shapeCasts_S2x512x1536_S2x512x8x192) (sitofp .f32 (constantI S_ 32 0#32) : FVec Ideal S_ .f32)
    pads_S2x512x8x192_S2x512x8x256_000_000_000_0640 h_S_ : FVec Ideal S2x512x8x256 .f32) shapeCasts_S2x512x8x256_S2x512x2048) bitsLt_bf16_f32

/-- The key weights: a head's first 128 columns. -/
def wkT (w : FVec Ideal S2x256x2048 .f32) : FVec Ideal S2x256x1024 .bf16 :=
  truncf .bf16 (shapeCast S2x256x1024 (extractStridedSlice S2x256x8x128 ![0, 0, 0, 0] (shapeCast S2x256x8x256 w shapeCasts_S2x256x2048_S2x256x8x256) slices_S2x256x8x256_S2x256x8x128_0_0_0_0 : FVec Ideal S2x256x8x128 .f32)
    shapeCasts_S2x256x8x128_S2x256x1024) bitsLt_bf16_f32

/-- The value weights: a head's last 128 columns. -/
def wvT (w : FVec Ideal S2x256x2048 .f32) : FVec Ideal S2x256x1024 .bf16 :=
  truncf .bf16 (shapeCast S2x256x1024 (extractStridedSlice S2x256x8x128 ![0, 0, 0, 128] (shapeCast S2x256x8x256 w shapeCasts_S2x256x2048_S2x256x8x256) slices_S2x256x8x256_S2x256x8x128_0_0_0_128 : FVec Ideal S2x256x8x128 .f32)
    shapeCasts_S2x256x8x128_S2x256x1024) bitsLt_bf16_f32

/-- The cosines as the call finds them. -/
theorem V_cos (c : Dev nD) : V m c main_v44 = cosT := by
  simp only [V, hostOps0, hostOps0_1, hostOps0_2, List.flatten_cons, List.flatten_nil, List.append_nil, List.cons_append, List.nil_append]
  after_results
  rfl

/-- The sines as the call finds them. -/
theorem V_sin (c : Dev nD) : V m c main_v46 = sinT := by
  simp only [V, hostOps0, hostOps0_1, hostOps0_2, List.flatten_cons, List.flatten_nil, List.append_nil, List.cons_append, List.nil_append]
  after_results
  rfl

/-- The query weights as the call finds them. -/
theorem V_wq (c : Dev nD) : V m c main_v55 = wqT (m ((c : Thread nD τ).loc main_arg2)) := by
  simp only [V, hostOps0, hostOps0_1, hostOps0_2, List.flatten_cons, List.flatten_nil, List.append_nil, List.cons_append, List.nil_append]
  after_results
  rfl

/-- The key weights as the call finds them. -/
theorem V_wk (c : Dev nD) : V m c main_v56 = wkT (m ((c : Thread nD τ).loc main_arg4)) := by
  simp only [V, hostOps0, hostOps0_1, hostOps0_2, List.flatten_cons, List.flatten_nil, List.append_nil, List.cons_append, List.nil_append]
  after_results
  rfl

/-- The value weights as the call finds them. -/
theorem V_wv (c : Dev nD) : V m c main_v57 = wvT (m ((c : Thread nD τ).loc main_arg4)) := by
  simp only [V, hostOps0, hostOps0_1, hostOps0_2, List.flatten_cons, List.flatten_nil, List.append_nil, List.cons_append, List.nil_append]
  after_results
  rfl

/-- The queries' norm gain as the call finds it. -/
theorem V_gq (c : Dev nD) : V m c main_v58 = (shapeCast S2x1x512 (m ((c : Thread nD τ).loc main_arg1) : FVec Ideal S2x512 .f32) shapeCasts_S2x512_S2x1x512 : FVec Ideal S2x1x512 .f32) := by
  simp only [V, hostOps0, hostOps0_1, hostOps0_2, List.flatten_cons, List.flatten_nil, List.append_nil, List.cons_append, List.nil_append]
  after_results
  rfl

/-- The keys' and values' norm gain as the call finds it. -/
theorem V_gkv (c : Dev nD) : V m c main_v59 = (shapeCast S2x1x256 (m ((c : Thread nD τ).loc main_arg3) : FVec Ideal S2x256 .f32) shapeCasts_S2x256_S2x1x256 : FVec Ideal S2x1x256 .f32) := by
  simp only [V, hostOps0, hostOps0_1, hostOps0_2, List.flatten_cons, List.flatten_nil, List.append_nil, List.cons_append, List.nil_append]
  after_results
  rfl

/-- An entry of the query weights: a padded column is zero. -/
theorem wqT_at (w : FVec Ideal S2x512x1536 .f32) (l : Fin 2) (k : Fin 512) (e : Fin 2048) :
    wqT w (ix3 l k e) = if h : (e : ℕ) % 256 < 192 then w (ix3 l k ⟨(e : ℕ) / 256 * 192 + (e : ℕ) % 256, by omega⟩) else 0 := by
  pointwise [wqT]
  by_cases h : (e : ℕ) % 256 < 192
  · rw [dif_pos ⟨by omega, h⟩, dif_pos h]
  · rw [dif_neg fun hc => h hc.2, dif_neg h]
    show (((0#32).toInt : ℝ) : EReal) = 0
    simp

/-- An entry of the key weights. -/
theorem wkT_at (w : FVec Ideal S2x256x2048 .f32) (l : Fin 2) (k : Fin 256) (e : Fin 1024) :
    wkT w (ix3 l k e) = w (ix3 l k ⟨(e : ℕ) / 128 * 256 + (e : ℕ) % 128, by omega⟩) := by
  pointwise [wkT]

/-- An entry of the value weights. -/
theorem wvT_at (w : FVec Ideal S2x256x2048 .f32) (l : Fin 2) (k : Fin 256) (e : Fin 1024) :
    wvT w (ix3 l k e) = w (ix3 l k ⟨(e : ℕ) / 128 * 256 + (128 + (e : ℕ) % 128), by omega⟩) := by
  pointwise [wvT]

/-- An entry of the queries' norm gain. -/
theorem gq_at (x : FVec Ideal S2x512 .f32) (l : Fin 2) (k : Fin 512) : shapeCast S2x1x512 x shapeCasts_S2x512_S2x1x512 (ix3 l 0 k) = x (ix2 l k) := by
  pointwise

/-- An entry of the keys' and values' norm gain. -/
theorem gkv_at (x : FVec Ideal S2x256 .f32) (l : Fin 2) (k : Fin 256) : shapeCast S2x1x256 x shapeCasts_S2x256_S2x1x256 (ix3 l 0 k) = x (ix2 l k) := by
  pointwise

/-- An entry of the table of cosines. -/
theorem cosT_at (t : Fin 2304) (e : Fin 128) :
    cosT (ix2 t e) = if h : (t : ℕ) < 256 then 1 else if h2 : (e : ℕ) < 64 then Ideal.cos (ang ⟨(t : ℕ) - 256, by omega⟩ ⟨e, h2⟩) else 1 := by
  obtain ⟨e, he⟩ := e
  pointwise [cosT]
  by_cases ht : (t : ℕ) < 256
  · rw [dif_pos ht, dif_pos ht]
  · rw [dif_neg ht, dif_neg ht]
    refine dite_congr rfl (fun h => ?_) fun _ => rfl
    unfold ang
    dsimp only at h ⊢
    by_cases h1 : e < 16
    · simp only [h1, dif_pos, if_pos, show e < 32 by omega, show e % 16 = e by omega, show e % 32 < 16 by omega]
    · by_cases h2 : e - 16 < 16
      · simp only [h1, h2, dif_pos, if_pos, dif_neg, if_neg, show e < 32 by omega, show e % 16 = e - 16 by omega, show ¬e % 32 < 16 by omega, not_false_iff]
      · by_cases h3 : e - 16 - 16 < 16
        · simp only [h1, h2, h3, dif_pos, if_pos, dif_neg, if_neg, show ¬e < 32 by omega, show e % 16 = e - 16 - 16 by omega, show e % 32 < 16 by omega, not_false_iff]
        · simp only [h1, h2, h3, dif_neg, if_neg, show ¬e < 32 by omega, show e % 16 = e - 16 - 16 - 16 by omega, show ¬e % 32 < 16 by omega, not_false_iff]

/-- An entry of the table of sines. -/
theorem sinT_at (t : Fin 2304) (e : Fin 128) :
    sinT (ix2 t e) = if h : (t : ℕ) < 256 then 0 else if h2 : (e : ℕ) < 64 then
      (if (e : ℕ) % 32 < 16 then -Ideal.sin (ang ⟨(t : ℕ) - 256, by omega⟩ ⟨e, h2⟩) else Ideal.sin (ang ⟨(t : ℕ) - 256, by omega⟩ ⟨e, h2⟩)) else 0 := by
  obtain ⟨e, he⟩ := e
  pointwise [sinT]
  by_cases ht : (t : ℕ) < 256
  · rw [dif_pos ht, dif_pos ht]
  · rw [dif_neg ht, dif_neg ht]
    refine dite_congr rfl (fun h => ?_) fun _ => rfl
    unfold ang
    dsimp only at h ⊢
    by_cases h1 : e < 16
    · simp only [h1, dif_pos, if_pos, show e < 32 by omega, show e % 16 = e by omega, show e % 32 < 16 by omega]
    · by_cases h2 : e - 16 < 16
      · simp only [h1, h2, dif_pos, if_pos, dif_neg, if_neg, show e < 32 by omega, show e % 16 = e - 16 by omega, show ¬e % 32 < 16 by omega, not_false_iff]
      · by_cases h3 : e - 16 - 16 < 16
        · simp only [h1, h2, h3, dif_pos, if_pos, dif_neg, if_neg, show ¬e < 32 by omega, show e % 16 = e - 16 - 16 by omega, show e % 32 < 16 by omega, not_false_iff]
        · simp only [h1, h2, h3, dif_neg, if_neg, show ¬e < 32 by omega, show e % 16 = e - 16 - 16 - 16 by omega, show ¬e % 32 < 16 by omega, not_false_iff]

/-- The rotation by the tables of a vector that is zero behind its rotary lanes: the rotation, and zero behind. -/
theorem turn (t : Fin 2304) (z : Fin 128 → EReal) (x : Fin 64 → EReal) (hz : ∀ j : Fin 128, z j = if h : (j : ℕ) < 64 then x ⟨j, h⟩ else 0) (e : Fin 128) :
    z e * cosT (ix2 t e) + (if (e : ℕ) % 32 < 16 then z ⟨((e : ℕ) + 128 - 112) % 128, by omega⟩ else z ⟨((e : ℕ) + 128 - 16) % 128, by omega⟩) * sinT (ix2 t e)
      = if h : (e : ℕ) < 64 then rot t x ⟨e, h⟩ else 0 := by
  rw [cosT_at, sinT_at]
  by_cases ht : (t : ℕ) < 256
  · rw [dif_pos ht, dif_pos ht, mul_one, mul_zero, add_zero, hz e]
    refine dite_congr rfl (fun h => ?_) fun _ => rfl
    exact (rot_ctx t ht x ⟨e, h⟩).symm
  · rw [dif_neg ht, dif_neg ht]
    by_cases h : (e : ℕ) < 64
    · rw [dif_pos h, dif_pos h, dif_pos h, hz e, dif_pos h]
      unfold rot
      rw [dif_neg ht]
      by_cases h3 : (e : ℕ) % 32 < 16
      · have hm : (⟨((e : ℕ) + 128 - 112) % 128, by omega⟩ : Fin 64) = mate ⟨e, h⟩ := Fin.ext (by unfold mate; dsimp only; omega)
        rw [if_pos h3, if_pos h3, if_pos h3, hz, dif_pos (show ((e : ℕ) + 128 - 112) % 128 < 64 by omega)]
        rw [hm, mul_neg, sub_eq_add_neg]
      · have hm : (⟨((e : ℕ) + 128 - 16) % 128, by omega⟩ : Fin 64) = mate ⟨e, h⟩ := Fin.ext (by unfold mate; dsimp only; omega)
        rw [if_neg h3, if_neg h3, if_neg h3, hz, dif_pos (show ((e : ℕ) + 128 - 16) % 128 < 64 by omega)]
        rw [hm, add_comm]
    · rw [dif_neg h, dif_neg h, dif_neg h, hz e, dif_neg h, mul_zero, zero_mul, add_zero]

/-- The factor that the queries carry is a number that is not negative. -/
theorem scale_pos : 0 ≤ Ideal.ofBits .f32 0x3DD53B95#32 ∧ Ideal.ofBits .f32 0x3DD53B95#32 ≠ ⊤ := by
  have h : ∃ r : ℝ, 0 ≤ r ∧ Ideal.ofBits .f32 0x3DD53B95#32 = (r : EReal) := by
    refine ⟨_, ?_, by simp [Ideal.ofBits, Ideal.ieee, -EReal.coe_mul]; rfl⟩
    norm_num
  obtain ⟨r, h0, h⟩ := h
  rw [h]
  exact ⟨EReal.coe_nonneg.2 h0, EReal.coe_ne_top r⟩

/-- A rotation of multiples is the multiple of the rotation. -/
theorem rot_scale (k : EReal) (h0 : 0 ≤ k) (h1 : k ≠ ⊤) (t : Fin 2304) (x : Fin 64 → EReal) (e : Fin 64) : rot t (fun j => x j * k) e = rot t x e * k := by
  unfold rot
  by_cases ht : (t : ℕ) < 256
  · rw [dif_pos ht, dif_pos ht]
  · rw [dif_neg ht, dif_neg ht]
    by_cases h3 : (e : ℕ) % 32 < 16
    · rw [if_pos h3, if_pos h3, sub_eq_add_neg, sub_eq_add_neg, EReal.right_distrib_of_nonneg_of_ne_top h0 h1, neg_mul_eq_neg_mul, neg_mul_eq_neg_mul]
      exact congrArg₂ (· + ·) (mul_right_comm _ _ _) (by rw [← neg_mul, mul_right_comm])
    · rw [if_neg h3, if_neg h3, EReal.right_distrib_of_nonneg_of_ne_top h0 h1]
      exact congrArg₂ (· + ·) (mul_right_comm _ _ _) (mul_right_comm _ _ _)

end Cert.PrepIdeal.P

end
-- ==== Proof.PrepPoint.lean ====
module

public import proofs.«01_k».proof.Proof.PrepHost

/-! The queries, keys and values that the preparation writes. -/

@[expose] public section
set_option maxRecDepth 16384

noncomputable section
open Idealize.ShloMosaic Idealize.ShloMosaic.TcCoe Idealize.SL.Sem
open Idealize.ShloMosaic.Tactic

namespace Cert.PrepIdeal.P
open Cert.PrepIdeal Cert.PrepIdeal.Gen
open Cert.PrepReferenceIdeal.P (normDot rot qAt kvAt)

variable (m : (ℓ : Loc nD τ sig) → Buf (Elt Ideal) ℓ)

/-- Where each window sits at a point. -/
theorem idx : ∀ t : Fin cfg0.N, win0_0.index t = ![t.val, 4] ∧ win0_1.index t = ![t.val, 10] ∧ win0_2.index t = ![t.val, 22]
    ∧ win0_3.index t = ![0, 0, 0] ∧ win0_4.index t = ![0, 0, 0] ∧ win0_5.index t = ![0, 0, 0] ∧ win0_6.index t = ![0, 0, 0] ∧ win0_7.index t = ![0, 0, 0]
    ∧ win0_8.index t = ![t.val % 4, 0] ∧ win0_9.index t = ![t.val % 4, 0] ∧ win0_10.index t = ![t.val, 0] ∧ win0_11.index t = ![t.val, 0] ∧ win0_12.index t = ![t.val, 0] :=
  (by decide +kernel : ∀ t : Fin grid0.N, _)

/-- The lanes' bit that says which of two rolls a lane takes. -/
theorem bit16 : ∀ d : Fin 128, IntOp.cmpi .eq (IntOp.andi (BitVec.ofNat 32 (d : ℕ)) 16#32) 0#32 = if (d : ℕ) % 32 < 16 then 1#1 else 0#1 := by decide

/-- The lanes that hold the keys' rotary part. -/
theorem lane64 : ∀ d : Fin 128, IntOp.cmpi .slt (BitVec.ofNat 32 (d : ℕ)) 64#32 = if (d : ℕ) < 64 then 1#1 else 0#1 := by decide

/-- The rotation of 128 lanes by a table of cosines and one of sines. -/
def turned (v1 v3 z : FVec Ideal S576x128 .f32) : FVec Ideal S576x128 .bf16 :=
  truncf .bf16 (addf (mulf z v1) (mulf (select (broadcastTo S576x128 (shapeCast S1x128 (cmpi .eq (andi (iota .tc S1x128 32 [1] iota_S1x128_d1_w32) (broadcast S1x128 16#32)) (broadcast S1x128 0#32)) shapeCasts_S1x128_S1x128) broadcasts_S1x128_S576x128)
    (dynamicRotate 1 112#32 none z rotates_S576x128_d1) (dynamicRotate 1 16#32 none z rotates_S576x128_d1)) v3)) bitsLt_bf16_f32

/-- An entry of the rotation. -/
theorem turned_at (v1 v3 z : FVec Ideal S576x128 .f32) (r : Fin 576) (d : Fin 128) :
    turned v1 v3 z (ix2 r d) = z (ix2 r d) * v1 (ix2 r d)
      + (if (d : ℕ) % 32 < 16 then z (ix2 r ⟨((d : ℕ) + 128 - 112) % 128, by omega⟩) else z (ix2 r ⟨((d : ℕ) + 128 - 16) % 128, by omega⟩)) * v3 (ix2 r d) := by
  pointwise [turned]
  rw [bit16 d]
  by_cases h : (d : ℕ) % 32 < 16
  · rw [if_pos h, if_pos h]; rfl
  · rw [if_neg h, if_neg h]; rfl

/-- An entry of the queries' tile before the rotation. -/
theorem pay3_at (x : FVec Ideal S576x512 .bf16) (g : FVec Ideal S1x1x512 .f32) (w : FVec Ideal S1x512x2048 .bf16) (r : Fin 576) (d : Fin 2048) :
    k0_pay3 (F := Ideal) x g w (ix2 r d)
      = normDot (Ideal.ofBits .f32 0x44000000#32) (fun k => x (ix2 r k)) (fun k => g (ix3 0 0 k)) (fun k => w (ix3 0 k d)) * Ideal.ofBits .f32 0x3DD53B95#32 := by
  unfold normDot
  pointwise [k0_pay3]

/-- An entry of the keys' tile before the rotation. -/
theorem pay8_at (x : FVec Ideal S576x256 .bf16) (g : FVec Ideal S1x1x256 .f32) (w : FVec Ideal S1x256x1024 .bf16) (r : Fin 576) (d : Fin 1024) :
    k0_pay8 (F := Ideal) (k0_pay4 x) (k0_pay5 g) (k0_pay6 x) w (ix2 r d)
      = normDot (Ideal.ofBits .f32 0x43800000#32) (fun k => x (ix2 r k)) (fun k => g (ix3 0 0 k)) (fun k => w (ix3 0 k d)) := by
  unfold normDot
  pointwise [k0_pay8, k0_pay7, k0_pay4, k0_pay5, k0_pay6]

/-- An entry of the values' tile. -/
theorem pay9_at (x : FVec Ideal S576x256 .bf16) (g : FVec Ideal S1x1x256 .f32) (w : FVec Ideal S1x256x1024 .bf16) (r : Fin 576) (d : Fin 1024) :
    k0_pay9 (F := Ideal) (k0_pay4 x) (k0_pay5 g) (k0_pay6 x) w (ix2 r d)
      = normDot (Ideal.ofBits .f32 0x43800000#32) (fun k => x (ix2 r k)) (fun k => g (ix3 0 0 k)) (fun k => w (ix3 0 k d)) := by
  unfold normDot
  pointwise [k0_pay9, k0_pay7, k0_pay4, k0_pay5, k0_pay6]

/-- The keys' rotary lanes: those behind them are masked to zero before the rotation. -/
def masked (x : FVec Ideal S576x128 .bf16) : FVec Ideal S576x128 .f32 :=
  select (broadcastTo S576x128 (shapeCast S1x128 (cmpi .slt (iota .tc S1x128 32 [1] iota_S1x128_d1_w32) (broadcast S1x128 64#32)) shapeCasts_S1x128_S1x128) broadcasts_S1x128_S576x128)
    (extf .f32 x bitsLt_bf16_f32) (broadcast S576x128 (Scalar.ofBits (F := Ideal) .f32 0x00000000#32))

/-- An entry of the masked lanes. -/
theorem masked_at (x : FVec Ideal S576x128 .bf16) (r : Fin 576) (d : Fin 128) : masked x (ix2 r d) = if (d : ℕ) < 64 then x (ix2 r d) else 0 := by
  pointwise [masked]
  rw [lane64 d]
  by_cases h : (d : ℕ) < 64
  · rw [if_pos h, if_pos h]; rfl
  · rw [if_neg h, if_neg h]; rfl

/-- The keys' rotary tile is the rotation of the masked lanes. -/
theorem pay10_eq (v1 v3 : FVec Ideal S576x128 .f32) (x : FVec Ideal S576x128 .bf16) : k0_pay10 (F := Ideal) v1 v3 x = turned v1 v3 (masked x) := rfl

/-- What the queries' tile holds at row `r` and column `d`, from the tile before the rotation and the two tables' tiles. -/
def qForm (v1 v3 : FVec Ideal S576x128 .f32) (v : FVec Ideal S576x2048 .f32) (r : Fin 576) (d : Fin 2048) : EReal :=
  if (d : ℕ) % 256 < 128 then v (ix2 r d) else
    v (ix2 r d) * v1 (ix2 r ⟨(d : ℕ) % 128, by omega⟩)
      + (if (d : ℕ) % 128 % 32 < 16 then v (ix2 r ⟨(d : ℕ) / 128 * 128 + ((d : ℕ) % 128 + 128 - 112) % 128, by omega⟩) else v (ix2 r ⟨(d : ℕ) / 128 * 128 + ((d : ℕ) % 128 + 128 - 16) % 128, by omega⟩))
        * v3 (ix2 r ⟨(d : ℕ) % 128, by omega⟩)

/-- A stored piece of a head's columns that are not rotated. -/
theorem plain_q (off : ℕ) (v1 v3 : FVec Ideal S576x128 .f32) (v : FVec Ideal S576x2048 .f32) (r r' : Fin 576) (e : Fin 128) (d : Fin 2048)
    (hr : (r : ℕ) = r') (hd : (d : ℕ) = off + e) (ho : off % 256 = 0) (hs : S576x2048.Slices ![0, off] S576x128) :
    truncf .bf16 (extractStridedSlice S576x128 ![0, off] v hs : FVec Ideal S576x128 .f32) bitsLt_bf16_f32 (ix2 r' e) = qForm v1 v3 v r d := by
  obtain rfl : r = r' := Fin.ext hr
  unfold qForm
  rw [if_pos (by omega)]
  pointwise
  blk_ext

/-- A stored piece of a head's columns that are rotated. -/
theorem turned_q (off : ℕ) (v1 v3 : FVec Ideal S576x128 .f32) (v : FVec Ideal S576x2048 .f32) (r r' : Fin 576) (e : Fin 128) (d : Fin 2048)
    (hr : (r : ℕ) = r') (hd : (d : ℕ) = off + e) (ho : off % 256 = 128) (hs : S576x2048.Slices ![0, off] S576x128) :
    turned v1 v3 (extractStridedSlice S576x128 ![0, off] v hs : FVec Ideal S576x128 .f32) (ix2 r' e) = qForm v1 v3 v r d := by
  obtain rfl : r = r' := Fin.ext hr
  have hm : (⟨(d : ℕ) % 128, by omega⟩ : Fin 128) = e := Fin.ext (by dsimp only; omega)
  have hz : ∀ j : Fin 128, extractStridedSlice S576x128 ![0, off] v hs (ix2 r j) = v (ix2 r ⟨(d : ℕ) / 128 * 128 + j, by omega⟩) := fun j => by
    pointwise
    blk_ext
  refine (turned_at _ _ _ r e).trans ?_
  unfold qForm
  rw [if_neg (show ¬(d : ℕ) % 256 < 128 by omega), hm, hz, hz, hz]
  simp only [show (d : ℕ) % 128 = e by omega, show (⟨(d : ℕ) / 128 * 128 + e, by omega⟩ : Fin 2048) = d from Fin.ext (by dsimp only; omega)]

/-- The second head's rotated columns, which the kernel spells in three steps. -/
theorem pay18_eq (v1 v3 : FVec Ideal S576x128 .f32) (v : FVec Ideal S576x2048 .f32) :
    k0_pay18 (F := Ideal) v3 (k0_pay16 v1 v) (k0_pay17 v) = turned v1 v3 (k0_pay15 v) := rfl

/-- The seventh head's rotated columns, which the kernel spells in four steps. -/
theorem pay36_eq (v1 v3 : FVec Ideal S576x128 .f32) (v : FVec Ideal S576x2048 .f32) :
    k0_pay36 (F := Ideal) v3 (k0_pay33 v) (k0_pay34 v1 v) k0_pay35 = turned v1 v3 (k0_pay33 v) := rfl

/-- The queries' tile, entry by entry. -/
theorem out_q (x0 : FVec Ideal S576x512 .bf16) (x1 : FVec Ideal S576x256 .bf16) (x2 : FVec Ideal S576x128 .bf16) (x3 : FVec Ideal S1x1x512 .f32) (x4 : FVec Ideal S1x512x2048 .bf16)
    (x5 : FVec Ideal S1x1x256 .f32) (x6 x7 : FVec Ideal S1x256x1024 .bf16) (x8 x9 : FVec Ideal S576x128 .f32) (r : Fin 576) (d : Fin 2048) :
    (out0_10 (F := Ideal) x0 x1 x2 x3 x4 x5 x6 x7 x8 x9 : FVec Ideal S576x2048 .bf16) (ix2 r d)
      = qForm (k0_pay41 x0 x1 x2 x3 x4 x5 x6 x7 x8 x9) (k0_pay42 x0 x1 x2 x3 x4 x5 x6 x7 x8 x9) (k0_pay43 x0 x1 x2 x3 x4 x5 x6 x7 x8 x9) r d := by
  canon_tiles x h
  all_goals idx_vars x
  all_goals first
    | refine plain_q _ _ _ _ _ _ _ _ ?_ ?_ ?_ ?_
    | refine turned_q _ _ _ _ _ _ _ _ ?_ ?_ ?_ ?_
    | refine (congrFun (pay18_eq _ _ _) _).trans (turned_q 384 _ _ _ _ _ _ _ ?_ ?_ ?_ ?_)
    | refine (congrFun (pay36_eq _ _ _) _).trans (turned_q 1664 _ _ _ _ _ _ _ ?_ ?_ ?_ ?_)
  all_goals first | omega | decide

/-- What the keys' tile holds at row `r` and column `d`: a head's first 128 columns from the product, the other 128 the rotated lanes. -/
def kForm (u : FVec Ideal S576x1024 .bf16) (z : FVec Ideal S576x128 .bf16) (r : Fin 576) (d : Fin 2048) : EReal :=
  if (d : ℕ) % 256 < 128 then u (ix2 r ⟨(d : ℕ) / 256 * 128 + (d : ℕ) % 128, by omega⟩) else z (ix2 r ⟨(d : ℕ) % 128, by omega⟩)

/-- A stored piece of a head's columns from the product. -/
theorem plain_k (off : ℕ) (u : FVec Ideal S576x1024 .bf16) (z : FVec Ideal S576x128 .bf16) (r r' : Fin 576) (e : Fin 128) (d : Fin 2048)
    (hr : (r : ℕ) = r') (hd : (d : ℕ) = 2 * off + e) (ho : off % 128 = 0) (hs : S576x1024.Slices ![0, off] S576x128) :
    (extractStridedSlice S576x128 ![0, off] u hs : FVec Ideal S576x128 .bf16) (ix2 r' e) = kForm u z r d := by
  obtain rfl : r = r' := Fin.ext hr
  unfold kForm
  rw [if_pos (show (d : ℕ) % 256 < 128 by omega)]
  pointwise
  blk_ext

/-- A stored piece of a head's columns that are rotated. -/
theorem turned_k (u : FVec Ideal S576x1024 .bf16) (z : FVec Ideal S576x128 .bf16) (r r' : Fin 576) (e : Fin 128) (d : Fin 2048)
    (hr : (r : ℕ) = r') (hd : (d : ℕ) % 256 = 128 + e) : z (ix2 r' e) = kForm u z r d := by
  obtain rfl : r = r' := Fin.ext hr
  unfold kForm
  rw [if_neg (show ¬(d : ℕ) % 256 < 128 by omega), show (⟨(d : ℕ) % 128, by omega⟩ : Fin 128) = e from Fin.ext (by dsimp only; omega)]

/-- The keys' tile, entry by entry. -/
theorem out_k (x0 : FVec Ideal S576x512 .bf16) (x1 : FVec Ideal S576x256 .bf16) (x2 : FVec Ideal S576x128 .bf16) (x3 : FVec Ideal S1x1x512 .f32) (x4 : FVec Ideal S1x512x2048 .bf16)
    (x5 : FVec Ideal S1x1x256 .f32) (x6 x7 : FVec Ideal S1x256x1024 .bf16) (x8 x9 : FVec Ideal S576x128 .f32) (r : Fin 576) (d : Fin 2048) :
    (out0_11 (F := Ideal) x0 x1 x2 x3 x4 x5 x6 x7 x8 x9 : FVec Ideal S576x2048 .bf16) (ix2 r d)
      = kForm (k0_pay47 x0 x1 x2 x3 x4 x5 x6 x7 x8 x9) (k0_pay48 x0 x1 x2 x3 x4 x5 x6 x7 x8 x9) r d := by
  canon_tiles x h
  all_goals idx_vars x
  all_goals first
    | open_payloads; refine plain_k _ _ _ _ _ _ _ ?_ ?_ ?_ ?_
    | refine turned_k _ _ _ _ _ _ ?_ ?_
  all_goals first | omega | decide

/-- Equal factors give equal sums. -/
theorem normDot_congr {K : ℕ} (n : EReal) {x x' g g' w w' : Fin K → EReal} (hx : ∀ k, x k = x' k) (hg : ∀ k, g k = g' k) (hw : ∀ k, w k = w' k) :
    normDot n x g w = normDot n x' g' w' := by
  rw [funext hx, funext hg, funext hw]

/-- Against weights that are zero the sum is zero. -/
theorem normDot_zero {K : ℕ} (n : EReal) (x g : Fin K → EReal) : normDot n x g (fun _ => 0) = 0 := by
  unfold normDot
  simp only [mul_zero, Finset.sum_const_zero]

/-- The projection's block of the queries, where its window reads it. -/
theorem blk0 (c : Dev nD) (t : Fin cfg0.N) (r : Fin 576) (k : Fin 512) (R : Fin 9216) (hR : (R : ℕ) = t.val * 576 + r) :
    (iblk m c 0 t : FVec Ideal S576x512 .bf16) (ix2 r k) = (m ((c : Thread nD τ).loc main_arg0) : FVec Ideal S9216x10752 .bf16) (ix2 R ⟨2048 + (k : ℕ), by omega⟩) := by
  have he : (win0_0.blk t).view.emb (ix2 r k) = ix2 R (⟨2048 + (k : ℕ), by omega⟩ : Fin 10752) := by blk_ext [idx t]
  exact (congrArg (V m c main_arg0) he).trans (congrFun (V_main_arg0 m c) _)

/-- The projection's block of the keys and values. -/
theorem blk1 (c : Dev nD) (t : Fin cfg0.N) (r : Fin 576) (k : Fin 256) (R : Fin 9216) (hR : (R : ℕ) = t.val * 576 + r) :
    (iblk m c 1 t : FVec Ideal S576x256 .bf16) (ix2 r k) = (m ((c : Thread nD τ).loc main_arg0) : FVec Ideal S9216x10752 .bf16) (ix2 R ⟨2560 + (k : ℕ), by omega⟩) := by
  have he : (win0_1.blk t).view.emb (ix2 r k) = ix2 R (⟨2560 + (k : ℕ), by omega⟩ : Fin 10752) := by blk_ext [idx t]
  exact (congrArg (V m c main_arg0) he).trans (congrFun (V_main_arg0 m c) _)

/-- The projection's block of the keys' rotary part. -/
theorem blk2 (c : Dev nD) (t : Fin cfg0.N) (r : Fin 576) (k : Fin 128) (R : Fin 9216) (hR : (R : ℕ) = t.val * 576 + r) :
    (iblk m c 2 t : FVec Ideal S576x128 .bf16) (ix2 r k) = (m ((c : Thread nD τ).loc main_arg0) : FVec Ideal S9216x10752 .bf16) (ix2 R ⟨2816 + (k : ℕ), by omega⟩) := by
  have he : (win0_2.blk t).view.emb (ix2 r k) = ix2 R (⟨2816 + (k : ℕ), by omega⟩ : Fin 10752) := by blk_ext [idx t]
  exact (congrArg (V m c main_arg0) he).trans (congrFun (V_main_arg0 m c) _)

/-- The queries' norm gain. -/
theorem blk3 (c : Dev nD) (t : Fin cfg0.N) (k : Fin 512) :
    (iblk m c 3 t : FVec Ideal S1x1x512 .f32) (ix3 0 0 k) = (m ((c : Thread nD τ).loc main_arg1) : FVec Ideal S2x512 .f32) (ix2 0 k) := by
  have he : (win0_3.blk t).view.emb (ix3 0 0 k) = ix3 (0 : Fin 2) (0 : Fin 1) k := by blk_ext [idx t]
  exact ((congrArg (V m c main_v58) he).trans (congrFun (V_gq m c) _)).trans (gq_at _ _ _)

/-- The queries' weights. -/
theorem blk4 (c : Dev nD) (t : Fin cfg0.N) (k : Fin 512) (d : Fin 2048) :
    (iblk m c 4 t : FVec Ideal S1x512x2048 .bf16) (ix3 0 k d) = wqT (m ((c : Thread nD τ).loc main_arg2)) (ix3 0 k d) := by
  have he : (win0_4.blk t).view.emb (ix3 0 k d) = ix3 (0 : Fin 2) k d := by blk_ext [idx t]
  exact (congrArg (V m c main_v55) he).trans (congrFun (V_wq m c) _)

/-- The keys' and values' norm gain. -/
theorem blk5 (c : Dev nD) (t : Fin cfg0.N) (k : Fin 256) :
    (iblk m c 5 t : FVec Ideal S1x1x256 .f32) (ix3 0 0 k) = (m ((c : Thread nD τ).loc main_arg3) : FVec Ideal S2x256 .f32) (ix2 0 k) := by
  have he : (win0_5.blk t).view.emb (ix3 0 0 k) = ix3 (0 : Fin 2) (0 : Fin 1) k := by blk_ext [idx t]
  exact ((congrArg (V m c main_v59) he).trans (congrFun (V_gkv m c) _)).trans (gkv_at _ _ _)

/-- The keys' weights. -/
theorem blk6 (c : Dev nD) (t : Fin cfg0.N) (k : Fin 256) (d : Fin 1024) :
    (iblk m c 6 t : FVec Ideal S1x256x1024 .bf16) (ix3 0 k d) = (m ((c : Thread nD τ).loc main_arg4) : FVec Ideal S2x256x2048 .f32) (ix3 0 k ⟨(d : ℕ) / 128 * 256 + (d : ℕ) % 128, by omega⟩) := by
  have he : (win0_6.blk t).view.emb (ix3 0 k d) = ix3 (0 : Fin 2) k d := by blk_ext [idx t]
  exact ((congrArg (V m c main_v56) he).trans (congrFun (V_wk m c) _)).trans (wkT_at _ _ _ _)

/-- The values' weights. -/
theorem blk7 (c : Dev nD) (t : Fin cfg0.N) (k : Fin 256) (d : Fin 1024) :
    (iblk m c 7 t : FVec Ideal S1x256x1024 .bf16) (ix3 0 k d) = (m ((c : Thread nD τ).loc main_arg4) : FVec Ideal S2x256x2048 .f32) (ix3 0 k ⟨(d : ℕ) / 128 * 256 + (128 + (d : ℕ) % 128), by omega⟩) := by
  have he : (win0_7.blk t).view.emb (ix3 0 k d) = ix3 (0 : Fin 2) k d := by blk_ext [idx t]
  exact ((congrArg (V m c main_v57) he).trans (congrFun (V_wv m c) _)).trans (wvT_at _ _ _ _)

/-- The cosines of a row's token. -/
theorem blk8 (c : Dev nD) (t : Fin cfg0.N) (r : Fin 576) (e : Fin 128) (T : Fin 2304) (hT : (T : ℕ) = t.val % 4 * 576 + r) :
    (iblk m c 8 t : FVec Ideal S576x128 .f32) (ix2 r e) = cosT (ix2 T e) := by
  have he : (win0_8.blk t).view.emb (ix2 r e) = ix2 T e := by blk_ext [idx t]
  exact (congrArg (V m c main_v44) he).trans (congrFun (V_cos m c) _)

/-- The sines of a row's token. -/
theorem blk9 (c : Dev nD) (t : Fin cfg0.N) (r : Fin 576) (e : Fin 128) (T : Fin 2304) (hT : (T : ℕ) = t.val % 4 * 576 + r) :
    (iblk m c 9 t : FVec Ideal S576x128 .f32) (ix2 r e) = sinT (ix2 T e) := by
  have he : (win0_9.blk t).view.emb (ix2 r e) = ix2 T e := by blk_ext [idx t]
  exact (congrArg (V m c main_v46) he).trans (congrFun (V_sin m c) _)

end Cert.PrepIdeal.P

end
-- ==== Proof.PrepFinal.lean ====
module

public import proofs.«01_k».proof.Proof.PrepPoint

/-! The preparation's three arrays are the reference's. -/

@[expose] public section
set_option maxRecDepth 16384

noncomputable section
open Idealize.ShloMosaic Idealize.ShloMosaic.TcCoe Idealize.SL.Sem
open Idealize.ShloMosaic.Tactic

namespace Cert.PrepIdeal.P
open Cert.PrepIdeal Cert.PrepIdeal.Gen
open Cert.PrepReferenceIdeal.P (normDot rot qAt kvAt)

variable (m : (ℓ : Loc nD τ sig) → Buf (Elt Ideal) ℓ)

/-- The queries of a point before the rotation. -/
def qPre (c : Dev nD) (t : Fin cfg0.N) : FVec Ideal S576x2048 .f32 := k0_pay43 (iblk m c 0 t) (iblk m c 1 t) (iblk m c 2 t) (iblk m c 3 t) (iblk m c 4 t) (iblk m c 5 t) (iblk m c 6 t) (iblk m c 7 t) (iblk m c 8 t) (iblk m c 9 t)

/-- The cosines of a point. -/
def cosP (c : Dev nD) (t : Fin cfg0.N) : FVec Ideal S576x128 .f32 := k0_pay41 (iblk m c 0 t) (iblk m c 1 t) (iblk m c 2 t) (iblk m c 3 t) (iblk m c 4 t) (iblk m c 5 t) (iblk m c 6 t) (iblk m c 7 t) (iblk m c 8 t) (iblk m c 9 t)

/-- The sines of a point. -/
def sinP (c : Dev nD) (t : Fin cfg0.N) : FVec Ideal S576x128 .f32 := k0_pay42 (iblk m c 0 t) (iblk m c 1 t) (iblk m c 2 t) (iblk m c 3 t) (iblk m c 4 t) (iblk m c 5 t) (iblk m c 6 t) (iblk m c 7 t) (iblk m c 8 t) (iblk m c 9 t)

/-- The keys of a point, the part from the product. -/
def kPre (c : Dev nD) (t : Fin cfg0.N) : FVec Ideal S576x1024 .bf16 := k0_pay47 (iblk m c 0 t) (iblk m c 1 t) (iblk m c 2 t) (iblk m c 3 t) (iblk m c 4 t) (iblk m c 5 t) (iblk m c 6 t) (iblk m c 7 t) (iblk m c 8 t) (iblk m c 9 t)

/-- The keys of a point, the rotated part. -/
def kRot (c : Dev nD) (t : Fin cfg0.N) : FVec Ideal S576x128 .bf16 := k0_pay48 (iblk m c 0 t) (iblk m c 1 t) (iblk m c 2 t) (iblk m c 3 t) (iblk m c 4 t) (iblk m c 5 t) (iblk m c 6 t) (iblk m c 7 t) (iblk m c 8 t) (iblk m c 9 t)

/-- An entry of a point's cosines. -/
theorem cosP_at (c : Dev nD) (t : Fin cfg0.N) (r : Fin 576) (e : Fin 128) (T : Fin 2304) (hT : (T : ℕ) = t.val % 4 * 576 + r) : cosP m c t (ix2 r e) = cosT (ix2 T e) := by
  refine Eq.trans ?_ (blk8 m c t r e T hT)
  pointwise [cosP, k0_pay41, k0_pay1]

/-- An entry of a point's sines. -/
theorem sinP_at (c : Dev nD) (t : Fin cfg0.N) (r : Fin 576) (e : Fin 128) (T : Fin 2304) (hT : (T : ℕ) = t.val % 4 * 576 + r) : sinP m c t (ix2 r e) = sinT (ix2 T e) := by
  refine Eq.trans ?_ (blk9 m c t r e T hT)
  pointwise [sinP, k0_pay42, k0_pay2]

/-- An entry of a point's queries before the rotation: a padded column is zero. -/
theorem qPre_at (c : Dev nD) (t : Fin cfg0.N) (r : Fin 576) (d : Fin 2048) (R : Fin 9216) (hR : (R : ℕ) = t.val * 576 + r) :
    qPre m c t (ix2 r d) = if h : (d : ℕ) % 256 < 192 then
      qAt (m ((c : Thread nD τ).loc main_arg0)) (m ((c : Thread nD τ).loc main_arg1)) (m ((c : Thread nD τ).loc main_arg2)) R ⟨(d : ℕ) / 256 * 192 + (d : ℕ) % 256, by omega⟩ * Ideal.ofBits .f32 0x3DD53B95#32
      else 0 := by
  unfold qPre k0_pay43
  refine (pay3_at _ _ _ r d).trans ?_
  by_cases h : (d : ℕ) % 256 < 192
  · rw [dif_pos h]
    refine Ideal.mul_congr (normDot_congr _ (fun k => Eq.trans ?_ (blk0 m c t r k R hR)) (fun k => Eq.trans ?_ (blk3 m c t k))
      fun k => Eq.trans ?_ ((blk4 m c t k d).trans ((wqT_at _ _ _ _).trans (dif_pos h)))) rfl
    all_goals pointwise
  · rw [dif_neg h]
    refine Eq.trans (Ideal.mul_congr ((normDot_congr _ (fun k => rfl) (fun k => rfl) fun k => Eq.trans ?_ ((blk4 m c t k d).trans ((wqT_at _ _ _ _).trans (dif_neg h)))).trans (normDot_zero _ _ _)) rfl) (zero_mul _)
    pointwise

/-- An entry of a point's keys from the product. -/
theorem kPre_at (c : Dev nD) (t : Fin cfg0.N) (r : Fin 576) (d : Fin 1024) (R : Fin 9216) (hR : (R : ℕ) = t.val * 576 + r) :
    kPre m c t (ix2 r d) = kvAt (m ((c : Thread nD τ).loc main_arg0)) (m ((c : Thread nD τ).loc main_arg3)) (m ((c : Thread nD τ).loc main_arg4)) R ⟨(d : ℕ) / 128 * 256 + (d : ℕ) % 128, by omega⟩ := by
  unfold kPre k0_pay47 k0_pay44 k0_pay45 k0_pay46
  refine (pay8_at _ _ _ r d).trans (normDot_congr _ (fun k => Eq.trans ?_ (blk1 m c t r k R hR)) (fun k => Eq.trans ?_ (blk5 m c t k)) fun k => Eq.trans ?_ (blk6 m c t k d))
  all_goals pointwise

/-- An entry of a point's rotated keys. -/
theorem kRot_at (c : Dev nD) (t : Fin cfg0.N) (r : Fin 576) (e : Fin 128) (R : Fin 9216) (hR : (R : ℕ) = t.val * 576 + r) (T : Fin 2304) (hT : (T : ℕ) = t.val % 4 * 576 + r) :
    kRot m c t (ix2 r e) = if h : (e : ℕ) < 64 then rot T (fun j => (m ((c : Thread nD τ).loc main_arg0) : FVec Ideal S9216x10752 .bf16) (ix2 R ⟨2816 + (j : ℕ), by omega⟩)) ⟨e, h⟩ else 0 := by
  unfold kRot k0_pay48
  rw [pay10_eq]
  refine (turned_at _ _ _ r e).trans ((congrArg₂ (· + ·) (Ideal.mul_congr rfl (cosP_at m c t r e T hT)) (Ideal.mul_congr rfl (sinP_at m c t r e T hT))).trans
    (turn T (fun j => masked _ (ix2 r j)) _ (fun j => (masked_at _ r j).trans ?_) e))
  by_cases h : (j : ℕ) < 64
  · rw [if_pos h, dif_pos h]
    refine Eq.trans ?_ (blk2 m c t r j R hR)
    pointwise
  · rw [if_neg h, dif_neg h]

/-- A point's queries are the reference's. -/
theorem q_eq (c : Dev nD) (t : Fin cfg0.N) (r : Fin 576) (d : Fin 2048) (R : Fin 9216) (hR : (R : ℕ) = t.val * 576 + r) :
    qForm (cosP m c t) (sinP m c t) (qPre m c t) r d
      = Cert.PrepReferenceIdeal.P.REFq (m ((c : Thread nD τ).loc main_arg0)) (m ((c : Thread nD τ).loc main_arg1)) (m ((c : Thread nD τ).loc main_arg2)) (ix2 R d) := by
  have hT : (R : ℕ) % 2304 = t.val % 4 * 576 + r := by omega
  rw [Cert.PrepReferenceIdeal.P.REFq_at]
  unfold qForm
  by_cases h : (d : ℕ) % 256 < 128
  · rw [if_pos h, qPre_at m c t r d R hR, dif_pos (show (d : ℕ) % 256 < 192 by omega), dif_pos (show (d : ℕ) % 256 < 192 by omega), dif_pos h]
  · rw [if_neg h]
    have hd : (⟨(d : ℕ) / 128 * 128 + ((⟨(d : ℕ) % 128, by omega⟩ : Fin 128) : ℕ), by dsimp only; omega⟩ : Fin 2048) = d := Fin.ext (by dsimp only; omega)
    have key := turn ⟨(R : ℕ) % 2304, by omega⟩ (fun j => qPre m c t (ix2 r ⟨(d : ℕ) / 128 * 128 + (j : ℕ), by omega⟩))
      (fun j => qAt (m ((c : Thread nD τ).loc main_arg0)) (m ((c : Thread nD τ).loc main_arg1)) (m ((c : Thread nD τ).loc main_arg2)) R ⟨(d : ℕ) / 256 * 192 + (128 + (j : ℕ)), by omega⟩ * Ideal.ofBits .f32 0x3DD53B95#32)
      (fun j => by
        refine (qPre_at m c t r _ R hR).trans ?_
        by_cases hj : (j : ℕ) < 64
        · rw [dif_pos hj, dif_pos (show ((d : ℕ) / 128 * 128 + (j : ℕ)) % 256 < 192 by omega)]
          exact Ideal.mul_congr (congrArg (qAt _ _ _ R) (Fin.ext (by dsimp only; omega))) rfl
        · rw [dif_neg hj, dif_neg (show ¬((d : ℕ) / 128 * 128 + (j : ℕ)) % 256 < 192 by omega)])
      ⟨(d : ℕ) % 128, by omega⟩
    rw [hd, ← cosP_at m c t r _ _ hT, ← sinP_at m c t r _ _ hT] at key
    refine key.trans ?_
    by_cases he : (d : ℕ) % 128 < 64
    · rw [dif_pos he, dif_pos (show (d : ℕ) % 256 < 192 by omega), dif_neg h, rot_scale _ scale_pos.1 scale_pos.2]
      exact Ideal.mul_congr (congrArg (rot _ _) (Fin.ext (by dsimp only; omega))) rfl
    · rw [dif_neg he, dif_neg (show ¬(d : ℕ) % 256 < 192 by omega)]

/-- A point's keys are the reference's. -/
theorem k_eq (c : Dev nD) (t : Fin cfg0.N) (r : Fin 576) (d : Fin 2048) (R : Fin 9216) (hR : (R : ℕ) = t.val * 576 + r) :
    kForm (kPre m c t) (kRot m c t) r d
      = Cert.PrepReferenceIdeal.P.REFk (m ((c : Thread nD τ).loc main_arg0)) (m ((c : Thread nD τ).loc main_arg3)) (m ((c : Thread nD τ).loc main_arg4)) (ix2 R d) := by
  have hT : (R : ℕ) % 2304 = t.val % 4 * 576 + r := by omega
  rw [Cert.PrepReferenceIdeal.P.REFk_at]
  unfold kForm
  by_cases h : (d : ℕ) % 256 < 128
  · rw [if_pos h, dif_pos h, kPre_at m c t r _ R hR]
    exact congrArg (kvAt _ _ _ R) (Fin.ext (by dsimp only; omega))
  · rw [if_neg h, dif_neg h, kRot_at m c t r _ R hR ⟨(R : ℕ) % 2304, by omega⟩ hT]
    by_cases he : (d : ℕ) % 128 < 64
    · rw [dif_pos he, dif_pos (show (d : ℕ) % 256 - 128 < 64 by omega)]
      exact congrArg (rot _ _) (Fin.ext (by dsimp only; omega))
    · rw [dif_neg he, dif_neg (show ¬(d : ℕ) % 256 - 128 < 64 by omega)]

/-- The kernel's array of queries is the reference's term. -/
theorem final10 (c : Dev nD) :
    (dats m 0 c).arrAt 10 cfg0.N
      = Cert.PrepReferenceIdeal.P.REFq (m ((c : Thread nD τ).loc main_arg0)) (m ((c : Thread nD τ).loc main_arg1)) (m ((c : Thread nD τ).loc main_arg2)) := by
  refine (dats m 0 c).arrAt_eq_of_covers 10 _ (by decide +kernel) fun t hf y => ?_
  idx_vars y
  blk_simp [idx t]
  rw [after0_10]
  have ht : t.val < 16 := lt_of_lt_of_eq t.isLt (by decide)
  have he : (win0_10.blk t).view.emb (ix2 y0 y1) = ix2 (⟨t.val * 576 + y0, by omega⟩ : Fin 9216) y1 := by blk_ext [idx t]
  refine Eq.trans ?_ (congrArg _ he).symm
  exact (out_q _ _ _ _ _ _ _ _ _ _ y0 y1).trans (q_eq m c t y0 y1 _ rfl)

/-- The kernel's array of keys is the reference's term. -/
theorem final11 (c : Dev nD) :
    (dats m 0 c).arrAt 11 cfg0.N
      = Cert.PrepReferenceIdeal.P.REFk (m ((c : Thread nD τ).loc main_arg0)) (m ((c : Thread nD τ).loc main_arg3)) (m ((c : Thread nD τ).loc main_arg4)) := by
  refine (dats m 0 c).arrAt_eq_of_covers 11 _ (by decide +kernel) fun t hf y => ?_
  idx_vars y
  blk_simp [idx t]
  rw [after0_11]
  have ht : t.val < 16 := lt_of_lt_of_eq t.isLt (by decide)
  have he : (win0_11.blk t).view.emb (ix2 y0 y1) = ix2 (⟨t.val * 576 + y0, by omega⟩ : Fin 9216) y1 := by blk_ext [idx t]
  refine Eq.trans ?_ (congrArg _ he).symm
  exact (out_k _ _ _ _ _ _ _ _ _ _ y0 y1).trans (k_eq m c t y0 y1 _ rfl)

/-- The kernel's array of values is the reference's term. -/
theorem final12 (c : Dev nD) :
    (dats m 0 c).arrAt 12 cfg0.N
      = Cert.PrepReferenceIdeal.P.REFv (m ((c : Thread nD τ).loc main_arg0)) (m ((c : Thread nD τ).loc main_arg3)) (m ((c : Thread nD τ).loc main_arg4)) := by
  refine (dats m 0 c).arrAt_eq_of_covers 12 _ (by decide +kernel) fun t hf y => ?_
  idx_vars y
  blk_simp [idx t]
  rw [after0_12]
  have ht : t.val < 16 := lt_of_lt_of_eq t.isLt (by decide)
  have he : (win0_12.blk t).view.emb (ix2 y0 y1) = ix2 (⟨t.val * 576 + y0, by omega⟩ : Fin 9216) y1 := by blk_ext [idx t]
  refine Eq.trans ?_ (congrArg _ he).symm
  refine Eq.trans ?_ (Cert.PrepReferenceIdeal.P.REFv_at _ _ _ _ _).symm
  frame_out
  unfold k0_pay44 k0_pay45 k0_pay46
  refine (pay9_at _ _ _ y0 y1).trans (normDot_congr _ (fun k => Eq.trans ?_ (blk1 m c t y0 k _ rfl)) (fun k => Eq.trans ?_ (blk5 m c t k)) fun k => Eq.trans ?_ (blk7 m c t k y1))
  all_goals pointwise

end Cert.PrepIdeal.P

end
-- ==== Proof.AdaRef.lean ====
module

public import proofs.«01_k».proof.Proof.Gen.AdaReferenceIdeal.Run
public import Idealize.ShloMosaic.Lib.Pointwise

/-! The modulation vectors' reference: its result as one entry. -/

@[expose] public section
set_option maxRecDepth 16384

noncomputable section
open Idealize.ShloMosaic Idealize.ShloMosaic.TcCoe Idealize.SL.Sem

namespace Cert.AdaReferenceIdeal.A
open Cert.AdaReferenceIdeal Cert.AdaReferenceIdeal.Gen

/-- The input's rows: the batch's, the context's, and three zero rows. -/
def rows (c : FVec Ideal S4x2048 .f32) (cc : FVec Ideal S2048 .f32) : FVec Ideal S8x2048 .f32 :=
  concatenate S8x2048 0 [⟨S4x2048, c⟩, ⟨S1x2048, (broadcastInDim S1x2048 ![1] bcast_S2048_S1x2048_1 cc : FVec Ideal S1x2048 .f32)⟩, ⟨S3x2048, (broadcastInDim S3x2048 ![] bcast_S_S3x2048 (constant S_ .f32 0x00000000#32) : FVec Ideal S3x2048 .f32)⟩] concatenates_S4x2048_S1x2048_S3x2048_S8x2048_d0

/-- The modulation vectors, side by side. -/
def lin (cv : FVec Ideal S8x2048 .f32) (w : FVec Ideal S2x2048x12288 .f32) (b : FVec Ideal S2x12288 .f32) : FVec Ideal S2x8x12288 .f32 :=
  let one := broadcastInDim S8x2048 ![] bcast_S_S8x2048 (constant S_ .f32 0x3F800000#32)
  addf (transpose S2x8x12288 [0, 2, 1] (Host.dotGeneral dot_S2x2048x12288_S8x2048_S2x12288x8_1_1_02_0_n_n none w (mulf cv (Host.divf one (addf one (Host.exp (Host.negf cv)))))) transposes_S2x12288x8_S2x8x12288_0_2_1)
    (broadcastInDim S2x8x12288 ![0, 1, 2] bcast_S2x1x12288_S2x8x12288_0_1_2 (broadcastInDim S2x1x12288 ![0, 2] bcast_S2x12288_S2x1x12288_0_2 b))

/-- An entry of the modulation vectors: a row's activation times a column of the weights, plus the bias. -/
def linAt (cv : FVec Ideal ⟨2, ![8, 2048]⟩ .f32) (w : FVec Ideal ⟨3, ![2, 2048, 12288]⟩ .f32) (b : FVec Ideal ⟨2, ![2, 12288]⟩ .f32) (l : Fin 2) (r : Fin 8) (e : Fin 12288) : EReal :=
  (∑ k : Fin 2048, cv (ix2 r k) * Ideal.logistic (cv (ix2 r k)) * w (ix3 l k e)) + b (ix2 l e)

/-- The vectors entry by entry. -/
theorem lin_at (cv : FVec Ideal S8x2048 .f32) (w : FVec Ideal S2x2048x12288 .f32) (b : FVec Ideal S2x12288 .f32) (l : Fin 2) (r : Fin 8) (e : Fin 12288) :
    lin cv w b (ix3 l r e) = linAt cv w b l r e := by
  unfold linAt Ideal.logistic
  pointwise [lin]
  exact congrArg (· + _) (Finset.sum_congr rfl fun k _ => mul_comm _ _)

/-- One at every place. -/
def one : FVec Ideal S2x8x2048 .f32 := broadcastInDim S2x8x2048 ![] bcast_S_S2x8x2048 (constant S_ .f32 0x3F800000#32)

/-- The six vectors on an axis of their own, the two scales with one added. -/
def split (z : FVec Ideal S2x8x12288 .f32) : FVec Ideal S2x6x8x2048 .f32 :=
  concatenate S2x6x8x2048 1 [⟨S2x1x8x2048, (broadcastInDim S2x1x8x2048 ![0, 2, 3] bcast_S2x8x2048_S2x1x8x2048_0_2_3 (extractStridedSlice S2x8x2048 ![0, 0, 0] z slices_S2x8x12288_S2x8x2048_0_0_0) : FVec Ideal S2x1x8x2048 .f32)⟩,
    ⟨S2x1x8x2048, (broadcastInDim S2x1x8x2048 ![0, 2, 3] bcast_S2x8x2048_S2x1x8x2048_0_2_3 (addf one (extractStridedSlice S2x8x2048 ![0, 0, 2048] z slices_S2x8x12288_S2x8x2048_0_0_2048)) : FVec Ideal S2x1x8x2048 .f32)⟩,
    ⟨S2x1x8x2048, (broadcastInDim S2x1x8x2048 ![0, 2, 3] bcast_S2x8x2048_S2x1x8x2048_0_2_3 (extractStridedSlice S2x8x2048 ![0, 0, 4096] z slices_S2x8x12288_S2x8x2048_0_0_4096) : FVec Ideal S2x1x8x2048 .f32)⟩,
    ⟨S2x1x8x2048, (broadcastInDim S2x1x8x2048 ![0, 2, 3] bcast_S2x8x2048_S2x1x8x2048_0_2_3 (extractStridedSlice S2x8x2048 ![0, 0, 6144] z slices_S2x8x12288_S2x8x2048_0_0_6144) : FVec Ideal S2x1x8x2048 .f32)⟩,
    ⟨S2x1x8x2048, (broadcastInDim S2x1x8x2048 ![0, 2, 3] bcast_S2x8x2048_S2x1x8x2048_0_2_3 (addf one (extractStridedSlice S2x8x2048 ![0, 0, 8192] z slices_S2x8x12288_S2x8x2048_0_0_8192)) : FVec Ideal S2x1x8x2048 .f32)⟩,
    ⟨S2x1x8x2048, (broadcastInDim S2x1x8x2048 ![0, 2, 3] bcast_S2x8x2048_S2x1x8x2048_0_2_3 (extractStridedSlice S2x8x2048 ![0, 0, 10240] z slices_S2x8x12288_S2x8x2048_0_0_10240) : FVec Ideal S2x1x8x2048 .f32)⟩]
    concatenates_S2x1x8x2048_S2x1x8x2048_S2x1x8x2048_S2x1x8x2048_S2x1x8x2048_S2x1x8x2048_S2x6x8x2048_d1

/-- An entry of the six vectors. -/
theorem split_at (z : FVec Ideal S2x8x12288 .f32) (l : Fin 2) (v : Fin 6) (r : Fin 8) (e : Fin 2048) :
    split z (ix4 l v r e) = z (ix3 l r ⟨(v : ℕ) * 2048 + e, by omega⟩) + if (v : ℕ) = 1 ∨ (v : ℕ) = 4 then 1 else 0 := by
  pointwise [split, one]
  obtain ⟨v, hv⟩ := v
  have h : ∀ (n : ℕ) (hn : n + e < 12288) (hn' : v * 2048 + e < 12288), n = v * 2048 → z (ix3 l r ⟨n + e, hn⟩) = z (ix3 l r ⟨v * 2048 + e, hn'⟩) := fun n hn hn' h => by subst h; rfl
  interval_cases v
  · exact (congrArg (fun n => z (ix3 l r n)) (Fin.ext (by dsimp only; omega))).trans (add_zero _).symm
  · exact (add_comm _ _)
  · exact (add_zero _).symm
  · exact (add_zero _).symm
  · exact (add_comm _ _)
  · exact (add_zero _).symm

/-- The reference's result. -/
def REF (c : FVec Ideal S4x2048 .f32) (cc : FVec Ideal S2048 .f32) (w : FVec Ideal S2x2048x12288 .f32) (b : FVec Ideal S2x12288 .f32) : FVec Ideal S2x6x8x2048 .f32 :=
  split (lin (rows c cc) w b)

/-- An entry of the result. -/
theorem REF_at (c : FVec Ideal S4x2048 .f32) (cc : FVec Ideal S2048 .f32) (w : FVec Ideal S2x2048x12288 .f32) (b : FVec Ideal S2x12288 .f32)
    (l : Fin 2) (v : Fin 6) (r : Fin 8) (e : Fin 2048) :
    REF c cc w b (ix4 l v r e) = linAt (rows c cc) w b l r ⟨(v : ℕ) * 2048 + e, by omega⟩ + if (v : ℕ) = 1 ∨ (v : ℕ) = 4 then 1 else 0 :=
  (split_at _ l v r e).trans (congrArg (· + _) (lin_at _ w b l r _))

/-- What the run leaves is that term. -/
theorem res_eq (m : (ℓ : Loc nD τ sig) → Buf (Elt Ideal) ℓ) (c : Dev nD) :
    Cert.AdaReferenceIdeal.Value.res_out0 m c = REF (m ((c.tc : Thread nD τ).loc main_arg0)) (m ((c.tc : Thread nD τ).loc main_arg1)) (m ((c.tc : Thread nD τ).loc main_arg2))
      (m ((c.tc : Thread nD τ).loc main_arg3)) := rfl

end Cert.AdaReferenceIdeal.A

end
-- ==== Proof.AdaPoint.lean ====
module

public import proofs.«01_k».proof.Proof.AdaRef
public import proofs.«01_k».proof.Proof.Gen.AdaIdeal.Frame
public import Idealize.ShloMosaic.Lib.Pipeline.ValueKit

/-! The modulation vectors' array. -/

@[expose] public section
set_option maxRecDepth 16384

noncomputable section
open Idealize.ShloMosaic Idealize.ShloMosaic.TcCoe Idealize.SL.Sem
open Idealize.ShloMosaic.Tactic

namespace Cert.AdaIdeal.A
open Cert.AdaIdeal Cert.AdaIdeal.Gen
open Cert.AdaReferenceIdeal.A (linAt rows)

variable (m : (ℓ : Loc nD τ sig) → Buf (Elt Ideal) ℓ)

/-- Where each window sits at a point. -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, t.val % 6, 0, 0] :=
  (by decide +kernel : ∀ t : Fin grid0.N, _)

/-- The second grid coordinate of a point. -/
theorem coord1 : ∀ t : Fin cfg0.N, ((grid0.coords t 1 : Fin _) : ℕ) = t.val % 6 := (by decide +kernel : ∀ t : Fin grid0.N, _)

/-- The block at a point, entry by entry: the words that choose the addend say whether the vector is a scale. -/
theorem pay_at (i : grid0.Coords) (c : FVec Ideal S8x2048 .f32) (w : FVec Ideal S1x2048x2048 .f32) (b : FVec Ideal S1x1x2048 .f32) (r : Fin 8) (d : Fin 2048) :
    k0_pay1 (F := Ideal) (k0_pay2 (F := Ideal) i c w b) (ix4 0 0 r d)
      = (∑ k : Fin 2048, c (ix2 r k) * Ideal.logistic (c (ix2 r k)) * w (ix3 0 k d)) + b (ix3 0 0 d) + if ((i 1 : Fin _) : ℕ) = 1 ∨ ((i 1 : Fin _) : ℕ) = 4 then 1 else 0 := by
  pointwise [k0_pay1, k0_pay2]
  refine congrArg₂ (· + ·) rfl ?_
  have hq : ((i 1 : Fin _) : ℕ) < 6 := (i 1).isLt
  generalize ((i 1 : Fin _) : ℕ) = q at hq ⊢
  interval_cases q <;> rfl

/-- The input's rows as the call finds them. -/
theorem V_rows (c : Dev nD) : V m c main_v2 = (rows (m ((c : Thread nD τ).loc main_arg0)) (m ((c : Thread nD τ).loc main_arg1)) : FVec Ideal S8x2048 .f32) := by
  unfold_abbrev_sides
  after_results
  rfl

/-- The reshaped bias. -/
theorem V_bias (c : Dev nD) : V m c main_v3 = (shapeCast S2x1x12288 (m ((c : Thread nD τ).loc main_arg3) : FVec Ideal S2x12288 .f32) shapeCasts_S2x12288_S2x1x12288 : FVec Ideal S2x1x12288 .f32) := by
  unfold_abbrev_sides
  after_results
  rfl

/-- An entry of the bias after the reshape. -/
theorem cast_at (x : FVec Ideal S2x12288 .f32) (l : Fin 2) (d : Fin 12288) : shapeCast S2x1x12288 x shapeCasts_S2x12288_S2x1x12288 (ix3 l 0 d) = x (ix2 l d) := by
  pointwise

/-- The rows, where their window reads them. -/
theorem rows_eq (c : Dev nD) (t : Fin cfg0.N) (r : Fin 8) (k : Fin 2048) :
    (iblk m c 0 t : FVec Ideal S8x2048 .f32) (ix2 r k) = rows (m ((c : Thread nD τ).loc main_arg0)) (m ((c : Thread nD τ).loc main_arg1)) (ix2 r k) := by
  have he : (win0_0.blk t).view.emb (ix2 r k) = ix2 r k := by blk_ext [idx t]
  exact (congrArg (V m c main_v2) he).trans (congrFun (V_rows m c) _)

/-- The bias, where its window reads it. -/
theorem bias_eq (c : Dev nD) (t : Fin cfg0.N) (d : Fin 2048) (l : Fin 2) (e : Fin 12288) (hl : (l : ℕ) = t.val / 6) (he : (e : ℕ) = t.val % 6 * 2048 + d) :
    (iblk m c 2 t : FVec Ideal S1x1x2048 .f32) (ix3 0 0 d) = (m ((c : Thread nD τ).loc main_arg3) : FVec Ideal S2x12288 .f32) (ix2 l e) := by
  have h : (win0_2.blk t).view.emb (ix3 0 0 d) = ix3 l (0 : Fin 1) e := by blk_ext [idx t]
  refine Eq.trans ?_ (cast_at _ l e)
  exact (congrArg (V m c main_v3) h).trans (congrFun (V_bias m c) _)

/-- The kernel's array is the reference's term. -/
theorem final (c : Dev nD) :
    (dats m 0 c).arrAt 3 cfg0.N
      = Cert.AdaReferenceIdeal.A.REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  idx_vars y
  blk_simp [idx t]
  rw [after0_3]
  have ht : t.val < 12 := lt_of_lt_of_eq t.isLt (by decide)
  have he : (win0_3.blk t).view.emb (ix4 y0 y1 y2 y3) = ix4 (⟨t.val / 6, by omega⟩ : Fin 2) (⟨t.val % 6, by omega⟩ : Fin 6) y2 y3 := by blk_ext [idx t]
  refine Eq.trans ?_ (congrArg _ he).symm
  refine Eq.trans ?_ (Cert.AdaReferenceIdeal.A.REF_at _ _ _ _ _ _ _ _).symm
  have h0 : y0 = 0 := Subsingleton.elim _ _
  have h1 : y1 = 0 := Subsingleton.elim _ _
  subst h0 h1
  frame_out
  refine (pay_at _ _ _ _ y2 y3).trans ?_
  rw [coord1 t]
  unfold linAt
  refine congrArg₂ (· + ·) (congrArg₂ (· + ·) (Finset.sum_congr rfl fun k _ => ?_) (bias_eq m c t y3 _ _ rfl rfl)) rfl
  rw [rows_eq m c t y2 k]
  refine Ideal.mul_congr rfl ?_
  blk_ext [iblk, V, idx t]

end Cert.AdaIdeal.A

end
-- ==== Proof.SwaMath.lean ====
module

public import proofs.«01_k».proof.Proof.Softmax

/-! Softmax over a sink and keys, some of them masked: the sink takes weight and has no value. -/

@[expose] public section

noncomputable section
open Idealize.ShloMosaic

namespace Cert.Softmax

/-- The attention of one query over scores `s` in base 2, with values `v` and a sink `k`. -/
def sinkAtt {n : ℕ} (s v : Fin n → EReal) (k : EReal) : EReal :=
  Ideal.div (∑ l, Ideal.exp2 (s l) * v l) ((∑ l, Ideal.exp2 (s l)) + Ideal.exp2 k)

/-- A power of two is positive. -/
theorem pow_two_pos (x : ℝ) : 0 < Real.rpow 2 x := Real.rpow_pos_of_pos (by norm_num) x

/-- The power of two at a score that is not `⊤`: a number that is not negative. -/
theorem exp2_num {x : EReal} (h : x ≠ ⊤) : ∃ g : ℝ, 0 ≤ g ∧ Ideal.exp2 x = (g : EReal) := by
  induction x with
  | bot => exact ⟨0, le_rfl, by simp⟩
  | top => exact absurd rfl h
  | coe r => exact ⟨Real.rpow 2 r, Real.rpow_nonneg (by norm_num) r, Ideal.exp2_coe r⟩

/-- A shift of a score is a factor of its power of two. -/
theorem exp2_shift {x : EReal} (h : x ≠ ⊤) (μ : ℝ) : Ideal.exp2 (x - (μ : EReal)) = Ideal.exp2 x * ((Real.rpow 2 (-μ) : ℝ) : EReal) := by
  induction x with
  | bot => simp
  | top => exact absurd rfl h
  | coe r =>
    rw [← EReal.coe_sub, Ideal.exp2_coe, Ideal.exp2_coe, ← EReal.coe_mul, sub_eq_add_neg]
    exact congrArg _ (Real.rpow_add (by norm_num) r (-μ))

/-- The exponential of a shifted score in natural units, likewise. -/
theorem exp_shift {x : EReal} (h : x ≠ ⊤) (μ : ℝ) :
    Ideal.exp (x * ((Real.log 2 : ℝ) : EReal) - (μ : EReal)) = Ideal.exp2 x * ((Real.exp (-μ) : ℝ) : EReal) := by
  induction x with
  | bot => rw [EReal.bot_mul_coe_of_pos (Real.log_pos (by norm_num))]; simp
  | top => exact absurd rfl h
  | coe r =>
    rw [← EReal.coe_mul, ← EReal.coe_sub, Ideal.exp_coe, Ideal.exp2_coe, exp2_real, ← EReal.coe_mul, sub_eq_add_neg, Real.exp_add]

/-- The largest of finitely many scores and a sink is a number. -/
theorem max_num {n : ℕ} (s : Fin n → EReal) (hs : ∀ l, s l ≠ ⊤) (κ : ℝ) : ∃ μ : ℝ, max (Finset.univ.fold max ⊥ s) (κ : EReal) = (μ : EReal) := by
  have h1 : max (Finset.univ.fold max ⊥ s) (κ : EReal) < ⊤ :=
    max_lt ((Finset.fold_max_lt _).2 ⟨bot_lt_top, fun l _ => lt_top_iff_ne_top.2 (hs l)⟩) (EReal.coe_lt_top κ)
  have h2 : ⊥ < max (Finset.univ.fold max ⊥ s) (κ : EReal) := lt_of_lt_of_le (EReal.bot_lt_coe κ) (le_max_right _ _)
  exact ⟨_, (EReal.coe_toReal h1.ne h2.ne').symm⟩

/-- A common factor of value and weight cancels. -/
theorem div_factor (N : EReal) (L C : ℝ) (hL : 0 < L) (hC : 0 < C) :
    Ideal.div (N * (C : EReal)) ((L : EReal) * (C : EReal)) = Ideal.div N (L : EReal) := by
  rw [← EReal.coe_mul, Ideal.div_coe (mul_pos hL hC).ne', Ideal.div_coe hL.ne', mul_assoc, ← EReal.coe_mul]
  congr 2
  field_simp

/-- Two sums with a common positive factor. -/
theorem sum_shift {n : ℕ} (s v : Fin n → EReal) (hs : ∀ l, s l ≠ ⊤) (μ : ℝ) :
    ∑ l, Ideal.exp2 (s l - (μ : EReal)) * v l = (∑ l, Ideal.exp2 (s l) * v l) * ((Real.rpow 2 (-μ) : ℝ) : EReal) := by
  rw [sum_mul_coe _ _ (pow_two_pos (-μ)).le]
  exact Finset.sum_congr rfl fun l _ => by rw [exp2_shift (hs l), mul_right_comm]

/-- The weights alone. -/
theorem weight_shift {n : ℕ} (s : Fin n → EReal) (hs : ∀ l, s l ≠ ⊤) (μ : ℝ) :
    ∑ l, Ideal.exp2 (s l - (μ : EReal)) = (∑ l, Ideal.exp2 (s l)) * ((Real.rpow 2 (-μ) : ℝ) : EReal) := by
  rw [sum_mul_coe _ _ (pow_two_pos (-μ)).le]
  exact Finset.sum_congr rfl fun l _ => exp2_shift (hs l) μ

/-- The total weight of scores is a number that is not negative. -/
theorem weight_num {n : ℕ} (s : Fin n → EReal) (hs : ∀ l, s l ≠ ⊤) : ∃ g : ℝ, 0 ≤ g ∧ ∑ l, Ideal.exp2 (s l) = (g : EReal) := by
  choose g h0 h using fun l => exp2_num (hs l)
  exact ⟨∑ l, g l, Finset.sum_nonneg fun l _ => h0 l, by rw [← sum_coe]; exact Finset.sum_congr rfl fun l _ => h l⟩

/-- The weight of a sink is positive. -/
theorem sink_num (κ : ℝ) : 0 < Real.rpow 2 κ ∧ Ideal.exp2 (κ : EReal) = ((Real.rpow 2 κ : ℝ) : EReal) :=
  ⟨Real.rpow_pos_of_pos (by norm_num) κ, Ideal.exp2_coe κ⟩

/-- One query over its scores `a`, with values `va`, and a sink `s`, each weight taken relative to the largest. -/
def one {n : ℕ} (a va : Fin n → EReal) (s : EReal) : EReal :=
  Ideal.div (∑ l, Ideal.exp2 (a l - max (Finset.univ.fold max ⊥ a) s) * va l)
    ((∑ l, Ideal.exp2 (a l - max (Finset.univ.fold max ⊥ a) s)) + Ideal.exp2 (s - max (Finset.univ.fold max ⊥ a) s))

/-- One query over two lists of scores, `a` and `b`, and a sink `s`. -/
def two {n k : ℕ} (a va : Fin n → EReal) (b vb : Fin k → EReal) (s : EReal) : EReal :=
  Ideal.div ((∑ l, Ideal.exp2 (a l - max (max (Finset.univ.fold max ⊥ a) (Finset.univ.fold max ⊥ b)) s) * va l)
      + ∑ l, Ideal.exp2 (b l - max (max (Finset.univ.fold max ⊥ a) (Finset.univ.fold max ⊥ b)) s) * vb l)
    ((∑ l, Ideal.exp2 (a l - max (max (Finset.univ.fold max ⊥ a) (Finset.univ.fold max ⊥ b)) s))
      + (∑ l, Ideal.exp2 (b l - max (max (Finset.univ.fold max ⊥ a) (Finset.univ.fold max ⊥ b)) s))
      + Ideal.exp2 (s - max (max (Finset.univ.fold max ⊥ a) (Finset.univ.fold max ⊥ b)) s))

/-- Taking the weights relative to the largest score changes nothing. -/
theorem one_eq {n : ℕ} (a va : Fin n → EReal) (ha : ∀ l, a l ≠ ⊤) (κ : ℝ) : one a va (κ : EReal) = sinkAtt a va (κ : EReal) := by
  unfold one sinkAtt
  obtain ⟨μ, hμ⟩ := max_num a ha κ
  obtain ⟨g, hg, hG⟩ := weight_num a ha
  obtain ⟨hk, hK⟩ := sink_num κ
  have hC : 0 < Real.rpow 2 (-μ) := Real.rpow_pos_of_pos (by norm_num) _
  rw [hμ, sum_shift a va ha, weight_shift a ha, exp2_shift (EReal.coe_ne_top κ), hG, hK,
    ← EReal.right_distrib_of_nonneg_of_ne_top (EReal.coe_nonneg.2 hC.le) (EReal.coe_ne_top _), ← EReal.coe_add]
  exact div_factor _ _ _ (by linarith) hC

/-- The same over two lists of scores. -/
theorem two_eq {n k : ℕ} (a va : Fin n → EReal) (b vb : Fin k → EReal) (ha : ∀ l, a l ≠ ⊤) (hb : ∀ l, b l ≠ ⊤) (κ : ℝ) :
    two a va b vb (κ : EReal) = Ideal.div ((∑ l, Ideal.exp2 (a l) * va l) + ∑ l, Ideal.exp2 (b l) * vb l)
      ((∑ l, Ideal.exp2 (a l)) + (∑ l, Ideal.exp2 (b l)) + Ideal.exp2 (κ : EReal)) := by
  unfold two
  obtain ⟨μ', hμ'⟩ := max_num b hb κ
  obtain ⟨μ, hμ⟩ := max_num a ha μ'
  rw [← hμ', ← max_assoc] at hμ
  obtain ⟨g, hg, hG⟩ := weight_num a ha
  obtain ⟨g', hg', hG'⟩ := weight_num b hb
  obtain ⟨hk, hK⟩ := sink_num κ
  have hC : 0 < Real.rpow 2 (-μ) := Real.rpow_pos_of_pos (by norm_num) _
  rw [hμ, sum_shift a va ha, sum_shift b vb hb, weight_shift a ha, weight_shift b hb, exp2_shift (EReal.coe_ne_top κ), hG, hG', hK,
    ← EReal.right_distrib_of_nonneg_of_ne_top (EReal.coe_nonneg.2 hC.le) (EReal.coe_ne_top _),
    ← EReal.right_distrib_of_nonneg_of_ne_top (EReal.coe_nonneg.2 hC.le) (EReal.coe_ne_top _),
    ← EReal.right_distrib_of_nonneg_of_ne_top (EReal.coe_nonneg.2 hC.le) (EReal.coe_ne_top _), ← EReal.coe_add, ← EReal.coe_add]
  exact div_factor _ _ _ (by linarith) hC

/-- THE SOFTMAX OVER A SINK AND KEYS. In natural units, the sink first and its probability left out at the end, each weight divided
    by the total before it meets its value: the base-2 form. A score may be `⊥`, which masks its key. The values are arbitrary. -/
theorem base_two_sink {n : ℕ} (s v : Fin n → EReal) (f : Fin (n + 1) → EReal) (κ : ℝ) (hs : ∀ l, s l ≠ ⊤) (h0 : f 0 = (κ : EReal)) (hf : ∀ l : Fin n, f l.succ = s l) :
    ∑ l, v l * Ideal.div (Ideal.exp (f l.succ * Ideal.log ((2 : ℝ) : EReal) - max ⊥ (Finset.univ.fold max ⊥ fun j => f j * Ideal.log ((2 : ℝ) : EReal))))
        (∑ j, Ideal.exp (f j * Ideal.log ((2 : ℝ) : EReal) - max ⊥ (Finset.univ.fold max ⊥ fun j => f j * Ideal.log ((2 : ℝ) : EReal))))
      = sinkAtt s v (κ : EReal) := by
  have hc : 0 < Real.log 2 := Real.log_pos (by norm_num)
  have hlog : Ideal.log ((2 : ℝ) : EReal) = ((Real.log 2 : ℝ) : EReal) := by rw [Ideal.log_coe, if_neg (by norm_num)]
  have hft : ∀ j, f j ≠ ⊤ := fun j => by
    refine Fin.cases ?_ (fun l => ?_) j
    · rw [h0]; exact EReal.coe_ne_top κ
    · rw [hf]; exact hs l
  have hmt : ∀ j, f j * Ideal.log ((2 : ℝ) : EReal) ≠ ⊤ := fun j => by
    rw [hlog]
    generalize hx : f j = x
    have ht := hx ▸ hft j
    induction x with
    | bot => rw [EReal.bot_mul_coe_of_pos hc]; exact bot_ne_top
    | top => exact absurd rfl ht
    | coe r => rw [← EReal.coe_mul]; exact EReal.coe_ne_top _
  obtain ⟨μ, hμ⟩ := max_num _ hmt (κ * Real.log 2)
  have hμ' : max ⊥ (Finset.univ.fold max ⊥ fun j => f j * Ideal.log ((2 : ℝ) : EReal)) = (μ : EReal) := by
    rw [max_eq_right bot_le, ← hμ]
    refine (max_eq_left ?_).symm
    rw [Finset.le_fold_max]
    exact Or.inr ⟨0, Finset.mem_univ _, by rw [h0, hlog, EReal.coe_mul]⟩
  have hC : 0 < Real.exp (-μ) := Real.exp_pos _
  obtain ⟨hk, hK⟩ := sink_num κ
  choose g hg hG using fun l => exp2_num (hs l)
  have hL : 0 < (∑ l, g l) + Real.rpow 2 κ := add_pos_of_nonneg_of_pos (Finset.sum_nonneg fun l _ => hg l) hk
  have hW : (∑ l, Ideal.exp2 (s l)) + Ideal.exp2 (κ : EReal) = (((∑ l, g l) + Real.rpow 2 κ : ℝ) : EReal) := by
    rw [EReal.coe_add, ← sum_coe, hK]; exact congrArg (· + _) (Finset.sum_congr rfl fun l _ => hG l)
  have hD : ∑ j, Ideal.exp (f j * Ideal.log ((2 : ℝ) : EReal) - max ⊥ (Finset.univ.fold max ⊥ fun j => f j * Ideal.log ((2 : ℝ) : EReal)))
      = (((∑ l, g l) + Real.rpow 2 κ : ℝ) : EReal) * ((Real.exp (-μ) : ℝ) : EReal) := by
    rw [← hW, add_comm (∑ l, Ideal.exp2 (s l)), Fin.sum_univ_succ, hμ', hlog, EReal.right_distrib_of_nonneg_of_ne_top (EReal.coe_nonneg.2 hC.le) (EReal.coe_ne_top _),
      sum_mul_coe _ _ hC.le, exp_shift (hft 0), h0]
    exact congrArg (_ + ·) (Finset.sum_congr rfl fun l _ => by rw [exp_shift (hft _), hf])
  rw [hD]
  unfold sinkAtt
  rw [hW, Ideal.div_coe hL.ne', sum_mul_coe _ _ (by positivity)]
  refine Finset.sum_congr rfl fun l _ => ?_
  rw [hμ', hlog, exp_shift (hft _), hf, div_factor _ _ _ hL hC, Ideal.div_coe hL.ne', ← mul_assoc, mul_comm (v l)]

/-- A sum over a batch row whose terms vanish behind the first 256 and off a band of 512. -/
theorem band_sum (G : ℕ → EReal) (s : ℕ) (hs : s + 512 ≤ 2304) (hG : ∀ l, 256 ≤ l → ¬(s ≤ l ∧ l < s + 512) → G l = 0) :
    ∑ l : Fin 2304, G l = (∑ l : Fin 256, G l) + ∑ j : Fin 512, if 256 ≤ s + (j : ℕ) then G (s + j) else 0 := by
  rw [Fin.sum_univ_eq_sum_range G 2304, Fin.sum_univ_eq_sum_range G 256, Fin.sum_univ_eq_sum_range (fun j => if 256 ≤ s + j then G (s + j) else 0) 512,
    ← Finset.sum_range_add_sum_Ico G (show 256 ≤ 2304 by norm_num)]
  refine congrArg (_ + ·) ?_
  have h1 : ∑ l ∈ Finset.Ico 256 2304, G l = ∑ l ∈ Finset.range 2304, if 256 ≤ l ∧ s ≤ l ∧ l < s + 512 then G l else 0 := by
    rw [← Finset.sum_range_add_sum_Ico _ (show 256 ≤ 2304 by norm_num)]
    refine Eq.trans ?_ (congrArg (· + _) (Finset.sum_eq_zero ?_).symm)
    · rw [zero_add]
      refine Finset.sum_congr rfl fun l hl => ?_
      have := (Finset.mem_Ico.1 hl).1
      by_cases h : s ≤ l ∧ l < s + 512
      · rw [if_pos ⟨this, h⟩]
      · rw [if_neg fun hh => h hh.2, hG l this h]
    · intro l hl
      exact if_neg fun h => absurd (Finset.mem_range.1 hl) (by omega)
  have h2 : ∑ j ∈ Finset.range 512, (if 256 ≤ s + j then G (s + j) else 0) = ∑ l ∈ Finset.Ico s (s + 512), if 256 ≤ l then G l else 0 := by
    rw [Finset.sum_Ico_eq_sum_range]
    simp
  rw [h1, h2]
  refine (Finset.sum_subset_zero_on_sdiff (fun l hl => Finset.mem_range.2 (by have := Finset.mem_Ico.1 hl; omega)) (fun l hl => ?_) fun l hl => ?_).symm
  · refine if_neg fun h => (Finset.mem_sdiff.1 hl).2 (Finset.mem_Ico.2 ⟨h.2.1, h.2.2⟩)
  · have := Finset.mem_Ico.1 hl
    exact if_congr (by omega) rfl rfl

/-- A function of the naturals that continues one of a batch row's tokens. -/
def ext {α : Type} [Zero α] (f : Fin 2304 → α) (l : ℕ) : α := if h : l < 2304 then f ⟨l, h⟩ else 0

/-- At a token it is the function. -/
theorem ext_at {α : Type} [Zero α] (f : Fin 2304 → α) (l : ℕ) (h : l < 2304) : ext f l = f ⟨l, h⟩ := dif_pos h

/-- A sum over a batch row whose terms vanish behind the first 256 and off a band of 512, likewise. -/
theorem band_split (f : Fin 2304 → EReal) (s : ℕ) (hs : s + 512 ≤ 2304) (hf : ∀ l : Fin 2304, 256 ≤ (l : ℕ) → ¬(s ≤ (l : ℕ) ∧ (l : ℕ) < s + 512) → f l = 0) :
    ∑ l, f l = (∑ l : Fin 256, f ⟨l, by omega⟩) + ∑ j : Fin 512, if 256 ≤ s + (j : ℕ) then f ⟨s + j, by omega⟩ else 0 := by
  have h := band_sum (ext f) s hs fun l h1 h2 => by
    by_cases h : l < 2304
    · rw [ext_at f l h]; exact hf ⟨l, h⟩ h1 h2
    · exact dif_neg h
  simp only [ext_at f _ (Fin.isLt _), Fin.eta] at h
  rw [h]
  exact congrArg₂ (· + ·) (Finset.sum_congr rfl fun l _ => ext_at f l (by omega)) (Finset.sum_congr rfl fun j _ => if_congr Iff.rfl (ext_at f _ (by omega)) rfl)

/-- A query that sees the first 256 keys only. -/
theorem sinkAtt_ctx (S V : Fin 2304 → EReal) (hS : ∀ l : Fin 2304, 256 ≤ (l : ℕ) → S l = ⊥) (k : EReal) :
    sinkAtt S V k = sinkAtt (fun l : Fin 256 => S ⟨l, by omega⟩) (fun l => V ⟨l, by omega⟩) k := by
  have z : ∀ f : Fin 2304 → EReal, (∀ l : Fin 2304, 256 ≤ (l : ℕ) → f l = 0) → ∑ l, f l = ∑ l : Fin 256, f ⟨l, by omega⟩ := fun f hf => by
    rw [band_split f 0 (by norm_num) fun l h _ => hf l h]
    refine (congrArg (_ + ·) (Finset.sum_eq_zero fun j _ => ?_)).trans (add_zero _)
    by_cases h : 256 ≤ 0 + (j : ℕ)
    · rw [if_pos h]; exact hf _ h
    · exact if_neg h
  unfold sinkAtt
  rw [z (fun l => Ideal.exp2 (S l) * V l) fun l h => by rw [hS l h, Ideal.exp2_bot, zero_mul], z (fun l => Ideal.exp2 (S l)) fun l h => by rw [hS l h, Ideal.exp2_bot]]

/-- A query that sees the first 256 keys and a part of a band of 512. -/
theorem sinkAtt_band (S V : Fin 2304 → EReal) (s : ℕ) (hs : s + 512 ≤ 2304) (hS : ∀ l : Fin 2304, 256 ≤ (l : ℕ) → ¬(s ≤ (l : ℕ) ∧ (l : ℕ) < s + 512) → S l = ⊥) (k : EReal) :
    sinkAtt S V k = Ideal.div ((∑ l : Fin 256, Ideal.exp2 (S ⟨l, by omega⟩) * V ⟨l, by omega⟩)
        + ∑ j : Fin 512, Ideal.exp2 (if 256 ≤ s + (j : ℕ) then S ⟨s + j, by omega⟩ else ⊥) * V ⟨s + j, by omega⟩)
      ((∑ l : Fin 256, Ideal.exp2 (S ⟨l, by omega⟩)) + (∑ j : Fin 512, Ideal.exp2 (if 256 ≤ s + (j : ℕ) then S ⟨s + j, by omega⟩ else ⊥)) + Ideal.exp2 k) := by
  unfold sinkAtt
  rw [band_split (fun l => Ideal.exp2 (S l) * V l) s hs fun l h h' => by rw [hS l h h', Ideal.exp2_bot, zero_mul],
    band_split (fun l => Ideal.exp2 (S l)) s hs fun l h h' => by rw [hS l h h', Ideal.exp2_bot]]
  have e1 : ∀ j : Fin 512, (if 256 ≤ s + (j : ℕ) then Ideal.exp2 (S ⟨s + j, by omega⟩) * V ⟨s + j, by omega⟩ else 0)
      = Ideal.exp2 (if 256 ≤ s + (j : ℕ) then S ⟨s + j, by omega⟩ else ⊥) * V ⟨s + j, by omega⟩ := fun j => by
    by_cases h : 256 ≤ s + (j : ℕ)
    · rw [if_pos h, if_pos h]
    · rw [if_neg h, if_neg h, Ideal.exp2_bot, zero_mul]
  have e2 : ∀ j : Fin 512, (if 256 ≤ s + (j : ℕ) then Ideal.exp2 (S ⟨s + j, by omega⟩) else 0)
      = Ideal.exp2 (if 256 ≤ s + (j : ℕ) then S ⟨s + j, by omega⟩ else ⊥) := fun j => by
    by_cases h : 256 ≤ s + (j : ℕ)
    · rw [if_pos h, if_pos h]
    · rw [if_neg h, if_neg h, Ideal.exp2_bot]
  rw [Finset.sum_congr rfl fun j _ => e1 j, Finset.sum_congr rfl fun j _ => e2 j]

/-- A product of 128 lanes of which one half is zero, each entry of the other half times a factor: that half's product times the factor. -/
theorem dot_half (i : ℕ) (hi : i < 2) (a b : Fin 64 → EReal) (c : ℝ) (hc : 0 ≤ c) :
    ∑ e : Fin 128, (if (e : ℕ) / 64 = i then a ⟨(e : ℕ) % 64, by omega⟩ * (c : EReal) else 0) * b ⟨(e : ℕ) % 64, by omega⟩ = (∑ e, a e * b e) * (c : EReal) := by
  have h1 : ∀ e : Fin 64, (⟨((Fin.castAdd 64 e : Fin (64 + 64)) : ℕ) % 64, by omega⟩ : Fin 64) = e := fun e => Fin.ext (by simp)
  have h2 : ∀ e : Fin 64, (⟨((Fin.natAdd 64 e : Fin (64 + 64)) : ℕ) % 64, by omega⟩ : Fin 64) = e := fun e => Fin.ext (by simp)
  have d1 : ∀ e : Fin 64, ((Fin.castAdd 64 e : Fin (64 + 64)) : ℕ) / 64 = 0 := fun e => by simp
  have d2 : ∀ e : Fin 64, ((Fin.natAdd 64 e : Fin (64 + 64)) : ℕ) / 64 = 1 := fun e => by simp
  rw [sum_mul_coe _ _ hc]
  refine (Fin.sum_univ_add (a := 64) (b := 64) _).trans ?_
  simp only [h1, h2, d1, d2]
  obtain rfl | rfl : i = 0 ∨ i = 1 := by omega
  · simp [mul_right_comm]
  · simp [mul_right_comm]

/-- The comparison of a distance with 128, on the bit patterns of two positions. -/
theorem near (a b : ℕ) (ha : a < 2304) (hb : b < 2304) :
    IntOp.cmpi .sle (IntOp.absi (IntOp.subi (BitVec.ofNat 32 a) (BitVec.ofNat 32 b))) 128#32 = 1#1 ↔ a ≤ b + 128 ∧ b ≤ a + 128 := by
  have pos : ∀ d : Fin 2304, IntOp.cmpi .sle (IntOp.absi (BitVec.ofNat 32 (d : ℕ))) 128#32 = 1#1 ↔ (d : ℕ) ≤ 128 := by decide +kernel
  have neg : ∀ d : Fin 2304, IntOp.cmpi .sle (IntOp.absi (-BitVec.ofNat 32 (d : ℕ))) 128#32 = 1#1 ↔ (d : ℕ) ≤ 128 := by decide +kernel
  by_cases h : b ≤ a
  · have e : IntOp.subi (BitVec.ofNat 32 a) (BitVec.ofNat 32 b) = BitVec.ofNat 32 (a - b) := BitVec.eq_of_toNat_eq (by simp [IntOp.subi]; omega)
    rw [e, pos ⟨a - b, by omega⟩]
    dsimp only
    omega
  · have e : IntOp.subi (BitVec.ofNat 32 a) (BitVec.ofNat 32 b) = -BitVec.ofNat 32 (b - a) := BitVec.eq_of_toNat_eq (by simp [IntOp.subi]; omega)
    rw [e, neg ⟨b - a, by omega⟩]
    dsimp only
    omega

/-- The comparison of a position with 256, from below. -/
theorem below : ∀ a : Fin 2304, IntOp.cmpi .slt (BitVec.ofNat 32 (a : ℕ)) 256#32 = 1#1 ↔ (a : ℕ) < 256 := by decide +kernel

/-- The comparison of a position with 256, from above. -/
theorem above : ∀ a : Fin 2304, IntOp.cmpi .sge (BitVec.ofNat 32 (a : ℕ)) 256#32 = 1#1 ↔ 256 ≤ (a : ℕ) := by decide +kernel

/-- One of two bits. -/
theorem or_one : ∀ x y : BitVec 1, IntOp.ori x y = 1#1 ↔ x = 1#1 ∨ y = 1#1 := by decide

end Cert.Softmax

end
-- ==== Proof.SwaPay.lean ====
module

public import proofs.«01_k».proof.Proof.SwaMath
public import proofs.«01_k».proof.Proof.Gen.SwaIdeal.Skeleton
public import Idealize.ShloMosaic.Lib.Pointwise

/-! The window attention's vector operations: rotation, masking and doubling of half the lanes, and the attention of a block of queries. -/

@[expose] public section
set_option maxRecDepth 16384

noncomputable section
open Idealize.ShloMosaic Idealize.ShloMosaic.TcCoe Idealize.SL.Sem

namespace Cert.SwaIdeal.W
open Cert.SwaIdeal Cert.SwaIdeal.Gen Cert.Softmax

/-- The bit pattern of minus infinity. -/
theorem ofBits_bot : Ideal.ofBits .f32 0xFF800000#32 = ⊥ := by simp [Ideal.ofBits, Ideal.ieee]

/-- The lanes' bit that says which of two rolls a lane takes. -/
theorem bit16 : ∀ d : Fin 128, IntOp.cmpi .eq (IntOp.andi (BitVec.ofNat 32 (d : ℕ)) 16#32) 0#32 = if (d : ℕ) % 32 < 16 then 1#1 else 0#1 := by decide

/-- The lower half of the lanes. -/
theorem lane64 : ∀ d : Fin 128, IntOp.cmpi .slt (BitVec.ofNat 32 (d : ℕ)) 64#32 = if (d : ℕ) < 64 then 1#1 else 0#1 := by decide

/-- The lower half of the lanes, of one row. -/
def low : IVec S1x128 1 := cmpi .slt (iota .tc S1x128 32 [1] iota_S1x128_d1_w32) (broadcast S1x128 64#32)

/-- The lower half of the lanes, of 256 rows. -/
def low256 : IVec S256x128 1 := broadcastTo S256x128 (shapeCast S1x128 low shapeCasts_S1x128_S1x128) broadcasts_S1x128_S256x128

/-- The lower half of the lanes, of 512 rows. -/
def low512 : IVec S512x128 1 := broadcastTo S512x128 (shapeCast S1x128 low shapeCasts_S1x128_S1x128) broadcasts_S1x128_S512x128

/-- The lanes that take the first of two rolls, of one row. -/
def even16 : IVec S1x128 1 := cmpi .eq (andi (iota .tc S1x128 32 [1] iota_S1x128_d1_w32) (broadcast S1x128 16#32)) (broadcast S1x128 0#32)

/-- The rotation of 256 rows by a table of cosines and one of sines. -/
def turn256 (u w z : FVec Ideal S256x128 .f32) : FVec Ideal S256x128 .f32 :=
  addf (mulf z u) (mulf (select (broadcastTo S256x128 (shapeCast S1x128 even16 shapeCasts_S1x128_S1x128) broadcasts_S1x128_S256x128)
    (dynamicRotate 1 112#32 none z rotates_S256x128_d1) (dynamicRotate 1 16#32 none z rotates_S256x128_d1)) w)

/-- The rotation of 512 rows. -/
def turn512 (u w z : FVec Ideal S512x128 .f32) : FVec Ideal S512x128 .f32 :=
  addf (mulf z u) (mulf (select (broadcastTo S512x128 (shapeCast S1x128 even16 shapeCasts_S1x128_S1x128) broadcasts_S1x128_S512x128)
    (dynamicRotate 1 112#32 none z rotates_S512x128_d1) (dynamicRotate 1 16#32 none z rotates_S512x128_d1)) w)

/-- Two heads' queries: rotated, times the scale. -/
def queries (u w : FVec Ideal S256x128 .f32) (x : FVec Ideal S256x128 .bf16) : FVec Ideal S256x128 .f32 :=
  mulf (turn256 (shapeCast S256x128 u shapeCasts_S256x128_S256x128) (shapeCast S256x128 w shapeCasts_S256x128_S256x128) (extf .f32 x bitsLt_bf16_f32))
    (broadcast S256x128 (Scalar.ofBits .f32 0x3E38AA3B#32))

/-- The first of two heads: the upper half of the lanes is zero. -/
def head0 (z : FVec Ideal S256x128 .f32) : FVec Ideal S256x128 .bf16 := truncf .bf16 (select low256 z (broadcast S256x128 (Scalar.ofBits .f32 0x00000000#32))) bitsLt_bf16_f32

/-- The second of two heads: the lower half of the lanes is zero. -/
def head1 (z : FVec Ideal S256x128 .f32) : FVec Ideal S256x128 .bf16 := truncf .bf16 (select low256 (broadcast S256x128 (Scalar.ofBits .f32 0x00000000#32)) z) bitsLt_bf16_f32

/-- The lower half of 256 rows' lanes, twice. -/
def dup0 (z : FVec Ideal S256x128 .bf16) : FVec Ideal S256x128 .bf16 :=
  truncf .bf16 (select low256 (extf .f32 z bitsLt_bf16_f32) (dynamicRotate 1 64#32 none (extf .f32 z bitsLt_bf16_f32) rotates_S256x128_d1)) bitsLt_bf16_f32

/-- The upper half of 256 rows' lanes, twice. -/
def dup1 (z : FVec Ideal S256x128 .bf16) : FVec Ideal S256x128 .bf16 :=
  truncf .bf16 (select low256 (dynamicRotate 1 64#32 none (extf .f32 z bitsLt_bf16_f32) rotates_S256x128_d1) (extf .f32 z bitsLt_bf16_f32)) bitsLt_bf16_f32

/-- The lower half of 512 rows' lanes, twice. -/
def band0 (z : FVec Ideal S512x128 .f32) : FVec Ideal S512x128 .bf16 :=
  truncf .bf16 (select low512 z (dynamicRotate 1 64#32 none z rotates_S512x128_d1)) bitsLt_bf16_f32

/-- The upper half of 512 rows' lanes, twice. -/
def band1 (z : FVec Ideal S512x128 .f32) : FVec Ideal S512x128 .bf16 :=
  truncf .bf16 (select low512 (dynamicRotate 1 64#32 none z rotates_S512x128_d1) z) bitsLt_bf16_f32

/-- The band's keys, rotated. -/
def bandKeys (u w : FVec Ideal S512x128 .f32) (x : FVec Ideal S512x128 .bf16) : FVec Ideal S512x128 .f32 :=
  turn512 (shapeCast S512x128 u shapeCasts_S512x128_S512x128) (shapeCast S512x128 w shapeCasts_S512x128_S512x128) (extf .f32 x bitsLt_bf16_f32)

/-- The band's values. -/
def bandVals (x : FVec Ideal S512x128 .bf16) : FVec Ideal S512x128 .f32 := extf .f32 x bitsLt_bf16_f32

/-- Two heads' results side by side. -/
def pair (x y : FVec Ideal S256x128 .f32) : FVec Ideal S256x128 .bf16 := truncf .bf16 (select low256 x y) bitsLt_bf16_f32

/-- A sink in base 2. -/
def sink2 (s : Ideal .f32) : Ideal .f32 := Scalar.mulf s (Scalar.ofBits .f32 0x3FB8AA3B#32)

/-- The attention of 256 queries over 256 keys and a sink. -/
def attendA (q k v : FVec Ideal S256x128 .bf16) (s : Ideal .f32) : FVec Ideal S256x128 .f32 :=
  let S := matmul dot_S256x128_S256x128_S256x256_1_1_0_0_n_n none q k (constant S256x256 .f32 0x00000000#32)
  let M : FVec Ideal S256x1 .f32 := maximumf (shapeCast S256x1 (multiReduction .maximumf [1] S256 S 0xFF800000#32 reduces_S256x256_S256 (.inl rfl) rfl) shapeCasts_S256_S256x1) (broadcast S256x1 s)
  let P : FVec Ideal S256x256 .f32 := exp2 (subf S (broadcastTo S256x256 M broadcasts_S256x1_S256x256))
  let L : FVec Ideal S256x1 .f32 := addf (shapeCast S256x1 (multiReduction .add [1] S256 P 0x00000000#32 reduces_S256x256_S256 (.inl rfl) rfl) shapeCasts_S256_S256x1) (exp2 (subf (broadcast S256x1 s) M))
  divf (matmul dot_S256x256_S256x128_S256x128_1_0_0_1_n_n none (truncf .bf16 P bitsLt_bf16_f32) v (constant S256x128 .f32 0x00000000#32)) (broadcastTo S256x128 L broadcasts_S256x1_S256x128)

/-- The attention of 256 queries over 256 keys, 512 masked keys and a sink. -/
def attendB (q k v : FVec Ideal S256x128 .bf16) (kb vb : FVec Ideal S512x128 .bf16) (mk : IVec S256x512 1) (s : Ideal .f32) : FVec Ideal S256x128 .f32 :=
  let S := matmul dot_S256x128_S256x128_S256x256_1_1_0_0_n_n none q k (constant S256x256 .f32 0x00000000#32)
  let T : FVec Ideal S256x512 .f32 := select mk (matmul dot_S256x128_S512x128_S256x512_1_1_0_0_n_n none q kb (constant S256x512 .f32 0x00000000#32)) (broadcast S256x512 (Scalar.ofBits .f32 0xFF800000#32))
  let M : FVec Ideal S256x1 .f32 := maximumf (maximumf (shapeCast S256x1 (multiReduction .maximumf [1] S256 S 0xFF800000#32 reduces_S256x256_S256 (.inl rfl) rfl) shapeCasts_S256_S256x1)
    (shapeCast S256x1 (multiReduction .maximumf [1] S256 T 0xFF800000#32 reduces_S256x512_S256 (.inl rfl) rfl) shapeCasts_S256_S256x1)) (broadcast S256x1 s)
  let P : FVec Ideal S256x256 .f32 := exp2 (subf S (broadcastTo S256x256 M broadcasts_S256x1_S256x256))
  let Q : FVec Ideal S256x512 .f32 := exp2 (subf T (broadcastTo S256x512 M broadcasts_S256x1_S256x512))
  let L : FVec Ideal S256x1 .f32 := addf (addf (shapeCast S256x1 (multiReduction .add [1] S256 P 0x00000000#32 reduces_S256x256_S256 (.inl rfl) rfl) shapeCasts_S256_S256x1)
    (shapeCast S256x1 (multiReduction .add [1] S256 Q 0x00000000#32 reduces_S256x512_S256 (.inl rfl) rfl) shapeCasts_S256_S256x1)) (exp2 (subf (broadcast S256x1 s) M))
  divf (addf (matmul dot_S256x256_S256x128_S256x128_1_0_0_1_n_n none (truncf .bf16 P bitsLt_bf16_f32) v (constant S256x128 .f32 0x00000000#32))
    (matmul dot_S256x512_S512x128_S256x128_1_0_0_1_n_n none (truncf .bf16 Q bitsLt_bf16_f32) vb (constant S256x128 .f32 0x00000000#32))) (broadcastTo S256x128 L broadcasts_S256x1_S256x128)

/-- Two heads of a context block, over the half of the keys' and values' lanes that `D` takes. -/
def twoA (D : FVec Ideal S256x128 .bf16 → FVec Ideal S256x128 .bf16) (u w : FVec Ideal S256x128 .f32) (x k v : FVec Ideal S256x128 .bf16) (s s' : Ideal .f32) : FVec Ideal S256x128 .bf16 :=
  pair (attendA (head0 (queries u w x)) (D k) (D v) (sink2 s)) (attendA (head1 (queries u w x)) (D k) (D v) (sink2 s'))

/-- Two heads of a latent block, over the half of the lanes that `D` takes, and `B` in the band. -/
def twoB (D : FVec Ideal S256x128 .bf16 → FVec Ideal S256x128 .bf16) (B : FVec Ideal S512x128 .f32 → FVec Ideal S512x128 .bf16)
    (mk : IVec S256x512 1) (u w : FVec Ideal S256x128 .f32) (ub wb : FVec Ideal S512x128 .f32) (x k v : FVec Ideal S256x128 .bf16) (kb vb : FVec Ideal S512x128 .bf16) (s s' : Ideal .f32) :
    FVec Ideal S256x128 .bf16 :=
  pair (attendB (head0 (queries u w x)) (D k) (D v) (B (bandKeys ub wb kb)) (B (bandVals vb)) mk (sink2 s))
    (attendB (head1 (queries u w x)) (D k) (D v) (B (bandKeys ub wb kb)) (B (bandVals vb)) mk (sink2 s'))

/-- An entry of the rotation of 256 rows. -/
theorem turn256_at (u w z : FVec Ideal S256x128 .f32) (r : Fin 256) (d : Fin 128) :
    turn256 u w z (ix2 r d) = z (ix2 r d) * u (ix2 r d)
      + (if (d : ℕ) % 32 < 16 then z (ix2 r ⟨((d : ℕ) + 128 - 112) % 128, by omega⟩) else z (ix2 r ⟨((d : ℕ) + 128 - 16) % 128, by omega⟩)) * w (ix2 r d) := by
  pointwise [turn256, even16]
  rw [bit16 d]
  by_cases h : (d : ℕ) % 32 < 16
  · rw [if_pos h, if_pos h]; rfl
  · rw [if_neg h, if_neg h]; rfl

/-- An entry of the rotation of 512 rows. -/
theorem turn512_at (u w z : FVec Ideal S512x128 .f32) (r : Fin 512) (d : Fin 128) :
    turn512 u w z (ix2 r d) = z (ix2 r d) * u (ix2 r d)
      + (if (d : ℕ) % 32 < 16 then z (ix2 r ⟨((d : ℕ) + 128 - 112) % 128, by omega⟩) else z (ix2 r ⟨((d : ℕ) + 128 - 16) % 128, by omega⟩)) * w (ix2 r d) := by
  pointwise [turn512, even16]
  rw [bit16 d]
  by_cases h : (d : ℕ) % 32 < 16
  · rw [if_pos h, if_pos h]; rfl
  · rw [if_neg h, if_neg h]; rfl

/-- An entry of the first head's queries. -/
theorem head0_at (z : FVec Ideal S256x128 .f32) (r : Fin 256) (d : Fin 128) : head0 z (ix2 r d) = if (d : ℕ) < 64 then z (ix2 r d) else 0 := by
  pointwise [head0, low256, low]
  rw [lane64 d]
  by_cases h : (d : ℕ) < 64
  · rw [if_pos h, if_pos h]; rfl
  · rw [if_neg h, if_neg h]; rfl

/-- An entry of the second head's queries. -/
theorem head1_at (z : FVec Ideal S256x128 .f32) (r : Fin 256) (d : Fin 128) : head1 z (ix2 r d) = if (d : ℕ) < 64 then 0 else z (ix2 r d) := by
  pointwise [head1, low256, low]
  rw [lane64 d]
  by_cases h : (d : ℕ) < 64
  · rw [if_pos h, if_pos h]; rfl
  · rw [if_neg h, if_neg h]; rfl

/-- An entry of two heads' results. -/
theorem pair_at (x y : FVec Ideal S256x128 .f32) (r : Fin 256) (d : Fin 128) : pair x y (ix2 r d) = if (d : ℕ) < 64 then x (ix2 r d) else y (ix2 r d) := by
  pointwise [pair, low256, low]
  rw [lane64 d]
  by_cases h : (d : ℕ) < 64
  · rw [if_pos h, if_pos h]; rfl
  · rw [if_neg h, if_neg h]; rfl

/-- An entry of the lower half twice. -/
theorem dup0_at (z : FVec Ideal S256x128 .bf16) (r : Fin 256) (d : Fin 128) : dup0 z (ix2 r d) = z (ix2 r ⟨(d : ℕ) % 64, by omega⟩) := by
  pointwise [dup0, low256, low]
  rw [lane64 d]
  by_cases h : (d : ℕ) < 64
  · rw [if_pos h]; exact congrArg z (congrArg (ix2 r) (Fin.ext (by dsimp only; omega)))
  · rw [if_neg h]; exact congrArg z (congrArg (ix2 r) (Fin.ext (by dsimp only; omega)))

/-- An entry of the upper half twice. -/
theorem dup1_at (z : FVec Ideal S256x128 .bf16) (r : Fin 256) (d : Fin 128) : dup1 z (ix2 r d) = z (ix2 r ⟨64 + (d : ℕ) % 64, by omega⟩) := by
  pointwise [dup1, low256, low]
  rw [lane64 d]
  by_cases h : (d : ℕ) < 64
  · rw [if_pos h]; exact congrArg z (congrArg (ix2 r) (Fin.ext (by dsimp only; omega)))
  · rw [if_neg h]; exact congrArg z (congrArg (ix2 r) (Fin.ext (by dsimp only; omega)))

/-- An entry of the band's lower half twice. -/
theorem band0_at (z : FVec Ideal S512x128 .f32) (r : Fin 512) (d : Fin 128) : band0 z (ix2 r d) = z (ix2 r ⟨(d : ℕ) % 64, by omega⟩) := by
  pointwise [band0, low512, low]
  rw [lane64 d]
  by_cases h : (d : ℕ) < 64
  · rw [if_pos h]; exact congrArg z (congrArg (ix2 r) (Fin.ext (by dsimp only; omega)))
  · rw [if_neg h]; exact congrArg z (congrArg (ix2 r) (Fin.ext (by dsimp only; omega)))

/-- An entry of the band's upper half twice. -/
theorem band1_at (z : FVec Ideal S512x128 .f32) (r : Fin 512) (d : Fin 128) : band1 z (ix2 r d) = z (ix2 r ⟨64 + (d : ℕ) % 64, by omega⟩) := by
  pointwise [band1, low512, low]
  rw [lane64 d]
  by_cases h : (d : ℕ) < 64
  · rw [if_pos h]; exact congrArg z (congrArg (ix2 r) (Fin.ext (by dsimp only; omega)))
  · rw [if_neg h]; exact congrArg z (congrArg (ix2 r) (Fin.ext (by dsimp only; omega)))

/-- An entry of the attention over 256 keys. -/
theorem attendA_at (q k v : FVec Ideal S256x128 .bf16) (s : Ideal .f32) (r : Fin 256) (d : Fin 128) :
    attendA q k v s (ix2 r d) = one (fun l : Fin 256 => ∑ e : Fin 128, q (ix2 r e) * k (ix2 l e)) (fun l => v (ix2 l d)) s := by
  pointwise [attendA]
  rw [ofBits_bot]
  rfl

/-- An entry of the attention over 256 keys and a masked band. -/
theorem attendB_at (q k v : FVec Ideal S256x128 .bf16) (kb vb : FVec Ideal S512x128 .bf16) (mk : IVec S256x512 1) (s : Ideal .f32) (r : Fin 256) (d : Fin 128) :
    attendB q k v kb vb mk s (ix2 r d) = two (fun l : Fin 256 => ∑ e : Fin 128, q (ix2 r e) * k (ix2 l e)) (fun l => v (ix2 l d))
      (fun l : Fin 512 => if mk (ix2 r l) = 1#1 then ∑ e : Fin 128, q (ix2 r e) * kb (ix2 l e) else ⊥) (fun l => vb (ix2 l d)) s := by
  pointwise [attendB]
  rw [ofBits_bot]
  rfl

end Cert.SwaIdeal.W

end
-- ==== Proof.SwaRef.lean ====
module

public import proofs.«01_k».proof.Proof.SwaMath
public import proofs.«01_k».proof.Proof.PrepRef
public import proofs.«01_k».proof.Proof.Gen.SwaReferenceIdeal.Run
public import Idealize.ShloMosaic.Lib.Pointwise

/-! The window attention: the reference's results as entries. -/

@[expose] public section
set_option maxRecDepth 16384

noncomputable section
open Idealize.ShloMosaic Idealize.ShloMosaic.TcCoe Idealize.SL.Sem

namespace Cert.SwaReferenceIdeal.W
open Cert.SwaReferenceIdeal Cert.SwaReferenceIdeal.Gen Cert.Softmax
open Cert.PrepReferenceIdeal.P (angR angC ang mate rot rot_ctx rot_lat row_split)

/-- The rotated queries, a token and head after the other. -/
def rope16 (x : FVec Ideal S4x2304x16x64 .f32) : FVec Ideal S4x2304x16x64 .f32 :=
  let y := extractStridedSlice S4x2048x16x64 ![0, 256, 0, 0] x slices_S4x2304x16x64_S4x2048x16x64_0_256_0_0
  let spread (z : FVec Ideal S2048x16 .f32) : FVec Ideal S4x2048x16x16 .f32 :=
    broadcastInDim S4x2048x16x16 ![0, 1, 2, 3] bcast_S1x2048x1x16_S4x2048x16x16_0_1_2_3 (broadcastInDim S1x2048x1x16 ![1, 3] bcast_S2048x16_S1x2048x1x16_1_3 z)
  let half (z : FVec Ideal S4x2048x16x32 .f32) (a : FVec Ideal S2048x16 .f32) : FVec Ideal S4x2048x16x32 .f32 :=
    let z1 := extractStridedSlice S4x2048x16x16 ![0, 0, 0, 0] z slices_S4x2048x16x32_S4x2048x16x16_0_0_0_0
    let z2 := extractStridedSlice S4x2048x16x16 ![0, 0, 0, 16] z slices_S4x2048x16x32_S4x2048x16x16_0_0_0_16
    concatenate S4x2048x16x32 3 [⟨S4x2048x16x16, (subf (mulf z1 (spread (Host.cos a))) (mulf z2 (spread (Host.sin a))) : FVec Ideal S4x2048x16x16 .f32)⟩,
      ⟨S4x2048x16x16, (addf (mulf z1 (spread (Host.sin a))) (mulf z2 (spread (Host.cos a))) : FVec Ideal S4x2048x16x16 .f32)⟩] concatenates_S4x2048x16x16_S4x2048x16x16_S4x2048x16x32_d3
  concatenate S4x2304x16x64 1 [⟨S4x256x16x64, (extractStridedSlice S4x256x16x64 ![0, 0, 0, 0] x slices_S4x2304x16x64_S4x256x16x64_0_0_0_0 : FVec Ideal S4x256x16x64 .f32)⟩,
    ⟨S4x2048x16x64, (concatenate S4x2048x16x64 3 [⟨S4x2048x16x32, half (extractStridedSlice S4x2048x16x32 ![0, 0, 0, 0] y slices_S4x2048x16x64_S4x2048x16x32_0_0_0_0) angR⟩,
      ⟨S4x2048x16x32, half (extractStridedSlice S4x2048x16x32 ![0, 0, 0, 32] y slices_S4x2048x16x64_S4x2048x16x32_0_0_0_32) angC⟩] concatenates_S4x2048x16x32_S4x2048x16x32_S4x2048x16x64_d3 : FVec Ideal S4x2048x16x64 .f32)⟩]
    concatenates_S4x256x16x64_S4x2048x16x64_S4x2304x16x64_d1

/-- The rotated keys, a token and head after the other. -/
def rope4 (x : FVec Ideal S4x2304x4x64 .f32) : FVec Ideal S4x2304x4x64 .f32 :=
  let y := extractStridedSlice S4x2048x4x64 ![0, 256, 0, 0] x slices_S4x2304x4x64_S4x2048x4x64_0_256_0_0
  let spread (z : FVec Ideal S2048x16 .f32) : FVec Ideal S4x2048x4x16 .f32 :=
    broadcastInDim S4x2048x4x16 ![0, 1, 2, 3] bcast_S1x2048x1x16_S4x2048x4x16_0_1_2_3 (broadcastInDim S1x2048x1x16 ![1, 3] bcast_S2048x16_S1x2048x1x16_1_3 z)
  let half (z : FVec Ideal S4x2048x4x32 .f32) (a : FVec Ideal S2048x16 .f32) : FVec Ideal S4x2048x4x32 .f32 :=
    let z1 := extractStridedSlice S4x2048x4x16 ![0, 0, 0, 0] z slices_S4x2048x4x32_S4x2048x4x16_0_0_0_0
    let z2 := extractStridedSlice S4x2048x4x16 ![0, 0, 0, 16] z slices_S4x2048x4x32_S4x2048x4x16_0_0_0_16
    concatenate S4x2048x4x32 3 [⟨S4x2048x4x16, (subf (mulf z1 (spread (Host.cos a))) (mulf z2 (spread (Host.sin a))) : FVec Ideal S4x2048x4x16 .f32)⟩,
      ⟨S4x2048x4x16, (addf (mulf z1 (spread (Host.sin a))) (mulf z2 (spread (Host.cos a))) : FVec Ideal S4x2048x4x16 .f32)⟩] concatenates_S4x2048x4x16_S4x2048x4x16_S4x2048x4x32_d3
  concatenate S4x2304x4x64 1 [⟨S4x256x4x64, (extractStridedSlice S4x256x4x64 ![0, 0, 0, 0] x slices_S4x2304x4x64_S4x256x4x64_0_0_0_0 : FVec Ideal S4x256x4x64 .f32)⟩,
    ⟨S4x2048x4x64, (concatenate S4x2048x4x64 3 [⟨S4x2048x4x32, half (extractStridedSlice S4x2048x4x32 ![0, 0, 0, 0] y slices_S4x2048x4x64_S4x2048x4x32_0_0_0_0) angR⟩,
      ⟨S4x2048x4x32, half (extractStridedSlice S4x2048x4x32 ![0, 0, 0, 32] y slices_S4x2048x4x64_S4x2048x4x32_0_0_0_32) angC⟩] concatenates_S4x2048x4x32_S4x2048x4x32_S4x2048x4x64_d3 : FVec Ideal S4x2048x4x64 .f32)⟩]
    concatenates_S4x256x4x64_S4x2048x4x64_S4x2304x4x64_d1

/-- The projection, a batch after the other. -/
def byBatch (p : FVec Ideal S9216x10752 .bf16) : FVec Ideal S4x2304x10752 .f32 :=
  shapeCast S4x2304x10752 (extf .f32 p bitsLt_bf16_f32 : FVec Ideal S9216x10752 .f32) shapeCasts_S9216x10752_S4x2304x10752

/-- The queries of the sixteen heads. -/
def qs (p : FVec Ideal S9216x10752 .bf16) : FVec Ideal S4x2304x16x64 .f32 :=
  shapeCast S4x2304x16x64 (extractStridedSlice S4x2304x1024 ![0, 0, 3072] (byBatch p) slices_S4x2304x10752_S4x2304x1024_0_0_3072) shapeCasts_S4x2304x1024_S4x2304x16x64

/-- The keys of the four groups. -/
def ks (p : FVec Ideal S9216x10752 .bf16) : FVec Ideal S4x2304x4x64 .f32 :=
  shapeCast S4x2304x4x64 (extractStridedSlice S4x2304x256 ![0, 0, 4096] (byBatch p) slices_S4x2304x10752_S4x2304x256_0_0_4096) shapeCasts_S4x2304x256_S4x2304x4x64

/-- The values of the four groups. -/
def vs (p : FVec Ideal S9216x10752 .bf16) : FVec Ideal S4x2304x4x64 .f32 :=
  shapeCast S4x2304x4x64 (extractStridedSlice S4x2304x256 ![0, 0, 4352] (byBatch p) slices_S4x2304x10752_S4x2304x256_0_0_4352) shapeCasts_S4x2304x256_S4x2304x4x64

/-- Which key a query sees: a context key, or for a latent query a key at most 128 positions away. -/
def seen : IVec S2304x2304 1 :=
  let q := broadcastInDim S2304x1 ![0] bcast_S2304_S2304x1_0 (iotaInDim S2304 32 0)
  let k := broadcastInDim S1x2304 ![1] bcast_S2304_S1x2304_1 (iotaInDim S2304 32 0)
  ori (broadcastInDim S2304x2304 ![0, 1] bcast_S1x2304_S2304x2304_0_1 (cmpi .slt k (broadcastInDim S1x2304 ![] bcast_S_S1x2304 (constantI S_ 32 256#32))))
    (andi (broadcastInDim S2304x2304 ![0, 1] bcast_S2304x1_S2304x2304_0_1 (cmpi .sge q (broadcastInDim S2304x1 ![] bcast_S_S2304x1 (constantI S_ 32 256#32))))
      (cmpi .sle (absi (subi (broadcastInDim S2304x2304 ![0, 1] bcast_S1x2304_S2304x2304_0_1 k) (broadcastInDim S2304x2304 ![0, 1] bcast_S2304x1_S2304x2304_0_1 q)))
        (broadcastInDim S2304x2304 ![] bcast_S_S2304x2304 (constantI S_ 32 128#32))))

/-- The masked scores in base 2. -/
def scores (q : FVec Ideal S4x2304x16x64 .f32) (k : FVec Ideal S4x2304x4x64 .f32) : FVec Ideal S4x4x4x2304x2304 .f32 :=
  select (broadcastInDim S4x4x4x2304x2304 ![3, 4] bcast_S2304x2304_S4x4x4x2304x2304_3_4 seen)
    (mulf (transpose S4x4x4x2304x2304 [0, 1, 4, 3, 2] (Host.dotGeneral dot_S4x2304x4x64_S4x2304x4x4x64_S4x4x2304x2304x4_3_4_1_13_02_02 none k
        (shapeCast S4x2304x4x4x64 q shapeCasts_S4x2304x16x64_S4x2304x4x4x64)) transposes_S4x4x2304x2304x4_S4x4x4x2304x2304_0_1_4_3_2)
      (broadcastInDim S4x4x4x2304x2304 ![] bcast_S_S4x4x4x2304x2304 (constant S_ .f32 0x3E38AA3B#32)))
    (broadcastInDim S4x4x4x2304x2304 ![] bcast_S_S4x4x4x2304x2304 (constant S_ .f32 0xFF800000#32))

/-- The sinks in base 2. -/
def sinks2 (s : FVec Ideal S2x16 .f32) : FVec Ideal S4x4 .f32 :=
  shapeCast S4x4 (mulf (shapeCast S16 (extractStridedSlice S1x16 ![0, 0] s slices_S2x16_S1x16_0_0 : FVec Ideal S1x16 .f32) shapeCasts_S1x16_S16) (broadcastInDim S16 ![] bcast_S_S16 (constant S_ .f32 0x3FB8AA3B#32))) shapeCasts_S16_S4x4

/-- A sink and the scores, in natural units. -/
def logits (z : FVec Ideal S4x4x4x2304x2304 .f32) (k : FVec Ideal S4x4 .f32) : FVec Ideal S4x4x4x2304x2305 .f32 :=
  mulf (concatenate S4x4x4x2304x2305 4 [⟨S4x4x4x2304x1, (broadcastInDim S4x4x4x2304x1 ![0, 1, 2, 3, 4] bcast_S1x4x4x1x1_S4x4x4x2304x1_0_1_2_3_4 (broadcastInDim S1x4x4x1x1 ![1, 2] bcast_S4x4_S1x4x4x1x1_1_2 k) : FVec Ideal S4x4x4x2304x1 .f32)⟩,
    ⟨S4x4x4x2304x2304, z⟩] concatenates_S4x4x4x2304x1_S4x4x4x2304x2304_S4x4x4x2304x2305_d4) (broadcastInDim S4x4x4x2304x2305 ![] bcast_S_S4x4x4x2304x2305 (Host.log (constant S_ .f32 0x40000000#32)))

/-- The largest entry of each query. -/
def top (f : FVec Ideal S4x4x4x2304x2305 .f32) : FVec Ideal S4x4x4x2304 .f32 :=
  Host.reduce FloatOps.maximumf f (constant S_ .f32 0xFF800000#32) reducesTo_S4x4x4x2304x2305_S4x4x4x2304_d4 h_S_

/-- The exponentials of the entries' distance to their maximum. -/
def weights (f : FVec Ideal S4x4x4x2304x2305 .f32) (M : FVec Ideal S4x4x4x2304 .f32) : FVec Ideal S4x4x4x2304x2305 .f32 :=
  Host.exp (subf f (broadcastInDim S4x4x4x2304x2305 ![0, 1, 2, 3, 4] bcast_S4x4x4x2304x1_S4x4x4x2304x2305_0_1_2_3_4 (broadcastInDim S4x4x4x2304x1 ![0, 1, 2, 3] bcast_S4x4x4x2304_S4x4x4x2304x1_0_1_2_3
    (maximumf (broadcastInDim S4x4x4x2304 ![] bcast_S_S4x4x4x2304 (constant S_ .f32 0xFF800000#32)) M))))

/-- The weights divided by their total. -/
def probs (w : FVec Ideal S4x4x4x2304x2305 .f32) : FVec Ideal S4x4x4x2304x2305 .f32 :=
  Host.divf w (broadcastInDim S4x4x4x2304x2305 ![0, 1, 2, 3, 4] bcast_S4x4x4x2304x1_S4x4x4x2304x2305_0_1_2_3_4 (broadcastInDim S4x4x4x2304x1 ![0, 1, 2, 3] bcast_S4x4x4x2304_S4x4x4x2304x1_0_1_2_3
    (Host.reduceAdd w (constant S_ .f32 0x00000000#32) reducesTo_S4x4x4x2304x2305_S4x4x4x2304_d4 h_S_)))

/-- The values under the probabilities, without the sink's. -/
def result (v : FVec Ideal S4x2304x4x64 .f32) (w : FVec Ideal S4x4x4x2304x2305 .f32) : FVec Ideal S4x2304x4x4x64 .f32 :=
  transpose S4x2304x4x4x64 [0, 4, 1, 3, 2] (Host.dotGeneral dot_S4x2304x4x64_S4x4x4x2304x2304_S4x4x64x4x2304_1_4_3_23_02_01 none v
    (extractStridedSlice S4x4x4x2304x2304 ![0, 0, 0, 0, 1] w slices_S4x4x4x2304x2305_S4x4x4x2304x2304_0_0_0_0_1)) transposes_S4x4x64x4x2304_S4x2304x4x4x64_0_4_1_3_2

/-- The reference's attention over its arguments. -/
def REF (p : FVec Ideal S9216x10752 .bf16) (s : FVec Ideal S2x16 .f32) : FVec Ideal S9216x1024 .bf16 :=
  let f := logits (scores (rope16 (qs p)) (rope4 (ks p))) (sinks2 s)
  truncf .bf16 (shapeCast S9216x1024 (result (vs p) (probs (weights f (top f)))) shapeCasts_S4x2304x4x4x64_S9216x1024) bitsLt_bf16_f32

/-- What the reference's run leaves is that term of its arguments. -/
theorem res_eq (m : (ℓ : Loc nD τ sig) → Buf (Elt Ideal) ℓ) (c : Dev nD) :
    truncf .bf16 (shapeCast _ (transpose S4x2304x4x4x64 [0, 4, 1, 3, 2] (Host.dotGeneral dot_S4x2304x4x64_S4x4x4x2304x2304_S4x4x64x4x2304_1_4_3_23_02_01 none (shapeCast _ (extractStridedSlice S4x2304x256 ![0, 0, 4352] (Cert.SwaReferenceIdeal.Value.res_main_v29 (StableHlo.launchContents m c)) slices_S4x2304x10752_S4x2304x256_0_0_4352) shapeCasts_S4x2304x256_S4x2304x4x64) (extractStridedSlice S4x4x4x2304x2304 ![0, 0, 0, 0, 1] (Host.divf (Cert.SwaReferenceIdeal.Value.res_main_v156 (StableHlo.launchContents m c)) (broadcastInDim S4x4x4x2304x2305 ![0, 1, 2, 3, 4] bcast_S4x4x4x2304x1_S4x4x4x2304x2305_0_1_2_3_4 (broadcastInDim S4x4x4x2304x1 ![0, 1, 2, 3] bcast_S4x4x4x2304_S4x4x4x2304x1_0_1_2_3 (Host.reduceAdd (Cert.SwaReferenceIdeal.Value.res_main_v156 (StableHlo.launchContents m c)) (constant S_ .f32 0x00000000#32) reducesTo_S4x4x4x2304x2305_S4x4x4x2304_d4 h_S_)))) slices_S4x4x4x2304x2305_S4x4x4x2304x2304_0_0_0_0_1)) transposes_S4x4x64x4x2304_S4x2304x4x4x64_0_4_1_3_2) shapeCasts_S4x2304x4x4x64_S9216x1024) bitsLt_bf16_f32
      = REF (m ((c.tc : Thread nD τ).loc main_arg0)) (m ((c.tc : Thread nD τ).loc main_arg1)) := rfl

/-- An entry of the queries' rotated part. -/
theorem rope16_at (x : FVec Ideal S4x2304x16x64 .f32) (b : Fin 4) (t : Fin 2304) (h : Fin 16) (e : Fin 64) :
    rope16 x (ix4 b t h e) = rot t (fun j => x (ix4 b t h j)) e := by
  pointwise [rope16]
  by_cases ht : (t : ℕ) < 256
  · exact (dif_pos ht).trans (rot_ctx t ht (fun j => x (ix4 b t h j)) e).symm
  · have ht' : ∀ h' : 256 + ((t : ℕ) - 256) < 2304, (⟨256 + ((t : ℕ) - 256), h'⟩ : Fin 2304) = t := fun _ => Fin.ext (by dsimp only; omega)
    refine (dif_neg ht).trans (Eq.trans ?_ (rot_lat t ht _ e).symm)
    simp only [ht']

/-- An entry of the keys' rotated part. -/
theorem rope4_at (x : FVec Ideal S4x2304x4x64 .f32) (b : Fin 4) (t : Fin 2304) (h : Fin 4) (e : Fin 64) :
    rope4 x (ix4 b t h e) = rot t (fun j => x (ix4 b t h j)) e := by
  pointwise [rope4]
  by_cases ht : (t : ℕ) < 256
  · exact (dif_pos ht).trans (rot_ctx t ht (fun j => x (ix4 b t h j)) e).symm
  · have ht' : ∀ h' : 256 + ((t : ℕ) - 256) < 2304, (⟨256 + ((t : ℕ) - 256), h'⟩ : Fin 2304) = t := fun _ => Fin.ext (by dsimp only; omega)
    refine (dif_neg ht).trans (Eq.trans ?_ (rot_lat t ht _ e).symm)
    simp only [ht']

/-- An entry of the queries. -/
theorem qs_at (p : FVec Ideal S9216x10752 .bf16) (b : Fin 4) (t : Fin 2304) (h : Fin 16) (e : Fin 64) :
    qs p (ix4 b t h e) = p (ix2 ⟨(b : ℕ) * 2304 + t, by omega⟩ ⟨3072 + ((h : ℕ) * 64 + e), by omega⟩) := by
  pointwise [qs, byBatch]

/-- An entry of the keys. -/
theorem ks_at (p : FVec Ideal S9216x10752 .bf16) (b : Fin 4) (t : Fin 2304) (h : Fin 4) (e : Fin 64) :
    ks p (ix4 b t h e) = p (ix2 ⟨(b : ℕ) * 2304 + t, by omega⟩ ⟨4096 + ((h : ℕ) * 64 + e), by omega⟩) := by
  pointwise [ks, byBatch]

/-- An entry of the values. -/
theorem vs_at (p : FVec Ideal S9216x10752 .bf16) (b : Fin 4) (t : Fin 2304) (h : Fin 4) (e : Fin 64) :
    vs p (ix4 b t h e) = p (ix2 ⟨(b : ℕ) * 2304 + t, by omega⟩ ⟨4352 + ((h : ℕ) * 64 + e), by omega⟩) := by
  pointwise [vs, byBatch]

/-- A masked score. -/
theorem scores_at (q : FVec Ideal S4x2304x16x64 .f32) (k : FVec Ideal S4x2304x4x64 .f32) (b g r : Fin 4) (t l : Fin 2304) :
    scores q k (ix5 b g r t l) = if seen (ix2 t l) = 1#1 then
      (∑ e : Fin 64, k (ix4 b l g e) * q (ix4 b t ⟨(g : ℕ) * 4 + r, by omega⟩ e)) * Ideal.ofBits .f32 0x3E38AA3B#32 else Ideal.ofBits .f32 0xFF800000#32 := by
  pointwise [scores]
  rfl

/-- A sink. -/
theorem sinks2_at (s : FVec Ideal S2x16 .f32) (g r : Fin 4) : sinks2 s (ix2 g r) = s (ix2 0 ⟨(g : ℕ) * 4 + r, by omega⟩) * Ideal.ofBits .f32 0x3FB8AA3B#32 := by
  pointwise [sinks2]

/-- An entry of the sink and the scores. -/
theorem logits_at (z : FVec Ideal S4x4x4x2304x2304 .f32) (k : FVec Ideal S4x4 .f32) (b g r : Fin 4) (t : Fin 2304) (j : Fin 2305) :
    logits z k (ix5 b g r t j) = (if h : (j : ℕ) < 1 then k (ix2 g r) else z (ix5 b g r t ⟨(j : ℕ) - 1, by omega⟩)) * Ideal.log (Ideal.ofBits .f32 0x40000000#32) := by
  pointwise [logits]

/-- A weight. -/
theorem weights_at (f : FVec Ideal S4x4x4x2304x2305 .f32) (M : FVec Ideal S4x4x4x2304 .f32) (b g r : Fin 4) (t : Fin 2304) (j : Fin 2305) :
    weights f M (ix5 b g r t j) = Ideal.exp (f (ix5 b g r t j) - max (Ideal.ofBits .f32 0xFF800000#32) (M (ix4 b g r t))) := by
  pointwise [weights]

/-- A probability. -/
theorem probs_at (w : FVec Ideal S4x4x4x2304x2305 .f32) (b g r : Fin 4) (t : Fin 2304) (j : Fin 2305) :
    probs w (ix5 b g r t j) = Ideal.div (w (ix5 b g r t j)) (∑ i : Fin 2305, w (ix5 b g r t i)) := by
  pointwise [probs]

/-- A result. -/
theorem result_at (v : FVec Ideal S4x2304x4x64 .f32) (w : FVec Ideal S4x4x4x2304x2305 .f32) (b : Fin 4) (t : Fin 2304) (g r : Fin 4) (d : Fin 64) :
    result v w (ix5 b t g r d) = ∑ l : Fin 2304, v (ix4 b l g d) * w (ix5 b g r t ⟨1 + (l : ℕ), by omega⟩) := by
  pointwise [result]

/-- The largest entry. -/
theorem top_at (f : FVec Ideal S4x4x4x2304x2305 .f32) (b g r : Fin 4) (t : Fin 2304) :
    top f (ix4 b g r t) = Finset.univ.fold max (Ideal.ofBits .f32 0xFF800000#32) fun j : Fin 2305 => f (ix5 b g r t j) := by
  unfold top
  rw [Host.reduce_eq_fold, Shape.ReducesTo.fold_fiber_r5_a4]
  rfl

/-- A query sees the context's keys, and a latent query the keys at most 128 positions away. -/
theorem seen_at (t l : Fin 2304) : seen (ix2 t l) = 1#1 ↔ (l : ℕ) < 256 ∨ (256 ≤ (t : ℕ) ∧ (l : ℕ) ≤ t + 128 ∧ (t : ℕ) ≤ l + 128) := by
  pointwise [seen]
  rw [or_one, IntOp.andi_eq_one, below, above, near _ _ l.2 t.2]

/-- The query of row `i` in head `h`. -/
def query (p : FVec Ideal ⟨2, ![9216, 10752]⟩ .bf16) (i : Fin 9216) (h : Fin 16) (e : Fin 64) : EReal := p (ix2 i ⟨3072 + ((h : ℕ) * 64 + e), by omega⟩)

/-- The key of row `i` in group `g`. -/
def key (p : FVec Ideal ⟨2, ![9216, 10752]⟩ .bf16) (i : Fin 9216) (g : Fin 4) (e : Fin 64) : EReal := p (ix2 i ⟨4096 + ((g : ℕ) * 64 + e), by omega⟩)

/-- The score of row `i` in head `h` with the key of token `l`, both rotated; `⊥` if the query does not see the key. -/
def score (p : FVec Ideal ⟨2, ![9216, 10752]⟩ .bf16) (i : Fin 9216) (h : Fin 16) (l : Fin 2304) : EReal :=
  if (l : ℕ) < 256 ∨ (256 ≤ (i : ℕ) % 2304 ∧ (l : ℕ) ≤ (i : ℕ) % 2304 + 128 ∧ (i : ℕ) % 2304 ≤ l + 128) then
    (∑ e : Fin 64, rot ⟨(i : ℕ) % 2304, by omega⟩ (query p i h) e * rot l (key p ⟨(i : ℕ) / 2304 * 2304 + l, by omega⟩ ⟨(h : ℕ) / 4, by omega⟩) e) * Ideal.ofBits .f32 0x3E38AA3B#32
  else ⊥

/-- The bit pattern of minus infinity. -/
theorem ofBits_bot : Ideal.ofBits .f32 0xFF800000#32 = ⊥ := by simp [Ideal.ofBits, Ideal.ieee]

/-- The bit pattern of two. -/
theorem ofBits_two : Ideal.ofBits .f32 0x40000000#32 = ((2 : ℝ) : EReal) := by
  simp [Ideal.ofBits, Ideal.ieee, -EReal.coe_mul]; norm_num

/-- The attention of the reference, at a batch, a token, a group, a head of the group and a column of the head. -/
theorem attend_at (z : FVec Ideal S4x4x4x2304x2304 .f32) (k : FVec Ideal S4x4 .f32) (v : FVec Ideal S4x2304x4x64 .f32) (b : Fin 4) (t : Fin 2304) (g r : Fin 4) (d : Fin 64)
    (hz : ∀ l, z (ix5 b g r t l) ≠ ⊤) (κ : ℝ) (hk : k (ix2 g r) = (κ : EReal)) :
    result v (probs (weights (logits z k) (top (logits z k)))) (ix5 b t g r d)
      = sinkAtt (fun l => z (ix5 b g r t l)) (fun l => v (ix4 b l g d)) (κ : EReal) := by
  rw [← base_two_sink _ _ (fun j : Fin 2305 => if h : (j : ℕ) < 1 then k (ix2 g r) else z (ix5 b g r t ⟨(j : ℕ) - 1, by omega⟩)) κ hz hk fun l => by
    rw [dif_neg (by simp)]
    rfl]
  simp only [result_at, probs_at, weights_at, top_at, logits_at, ofBits_bot, ofBits_two]
  refine Finset.sum_congr rfl fun l _ => ?_
  have e : (⟨1 + (l : ℕ), by omega⟩ : Fin 2305) = l.succ := Fin.ext (by simp [add_comm])
  rw [← e]

/-- Each entry of the reference's result: row `i`, column `j` of head `j / 64`. -/
theorem REF_at (p : FVec Ideal S9216x10752 .bf16) (s : FVec Ideal S2x16 .f32) (i : Fin 9216) (j : Fin 1024)
    (hz : ∀ l, score p i ⟨(j : ℕ) / 64, by omega⟩ l ≠ ⊤) (κ : ℝ) (hk : s (ix2 0 ⟨(j : ℕ) / 64, by omega⟩) * Ideal.ofBits .f32 0x3FB8AA3B#32 = (κ : EReal)) :
    REF p s (ix2 i j) = sinkAtt (score p i ⟨(j : ℕ) / 64, by omega⟩)
      (fun l => p (ix2 ⟨(i : ℕ) / 2304 * 2304 + l, by omega⟩ ⟨4352 + ((j : ℕ) / 64 / 4 * 64 + (j : ℕ) % 64), by omega⟩)) (κ : EReal) := by
  pointwise [REF]
  have hj : (⟨(j : ℕ) / 256 * 4 + (j : ℕ) / 64 % 4, by omega⟩ : Fin 16) = ⟨(j : ℕ) / 64, by omega⟩ := Fin.ext (by dsimp only; omega)
  have hg : (⟨(j : ℕ) / 256, by omega⟩ : Fin 4) = ⟨(j : ℕ) / 64 / 4, by omega⟩ := Fin.ext (by dsimp only; omega)
  have hs : ∀ l, scores (rope16 (qs p)) (rope4 (ks p)) (ix5 ⟨(i : ℕ) / 2304, by omega⟩ ⟨(j : ℕ) / 256, by omega⟩ ⟨(j : ℕ) / 64 % 4, by omega⟩ ⟨(i : ℕ) % 2304, by omega⟩ l)
      = score p i ⟨(j : ℕ) / 64, by omega⟩ l := fun l => by
    rw [scores_at]
    refine if_congr (seen_at _ _) (congrArg (· * _) (Finset.sum_congr rfl fun e _ => ?_)) ofBits_bot
    rw [rope4_at, rope16_at, mul_comm]
    refine congrArg₂ (· * ·) (congrArg (fun z => rot _ z e) (funext fun a => ?_)) (congrArg (fun z => rot _ z e) (funext fun a => ?_))
    · rw [qs_at, hj]
      exact congrArg p ((ix2_inj ..).2 ⟨row_split i _, rfl⟩)
    · rw [ks_at, hg]
      rfl
  rw [attend_at _ _ _ _ _ _ _ _ (fun l => by rw [hs]; exact hz l) κ (by rw [sinks2_at, hj]; exact hk), funext hs]
  refine congrArg (fun z => sinkAtt _ z _) (funext fun l => ?_)
  rw [vs_at]
  exact congrArg p ((ix2_inj ..).2 ⟨rfl, Fin.ext (by dsimp only; omega)⟩)

/-- The patterns of four constants: real numbers, the base and the divisor of the frequencies, their factor two and the logarithm's unit. -/
theorem consts_real : (∃ r : ℝ, Ideal.ofBits .f32 0x461C4000#32 = (r : EReal)) ∧ (∃ r : ℝ, r ≠ 0 ∧ Ideal.ofBits .f32 0x42000000#32 = (r : EReal))
    ∧ (∃ r : ℝ, Ideal.ofBits .f32 0x40000000#32 = (r : EReal)) ∧ ∃ r : ℝ, Ideal.ofBits .f32 0x3FB8AA3B#32 = (r : EReal) := by
  refine ⟨⟨_, by simp [Ideal.ofBits, Ideal.ieee, -EReal.coe_mul]; rfl⟩, ⟨_, ?_, by simp [Ideal.ofBits, Ideal.ieee, -EReal.coe_mul]; rfl⟩, ⟨2, ofBits_two⟩,
    ⟨_, by simp [Ideal.ofBits, Ideal.ieee, -EReal.coe_mul]; rfl⟩⟩
  norm_num

/-- The scale of the scores is a number that is not negative. -/
theorem scale_real : ∃ r : ℝ, 0 ≤ r ∧ Ideal.ofBits .f32 0x3E38AA3B#32 = (r : EReal) := by
  refine ⟨_, ?_, by simp [Ideal.ofBits, Ideal.ieee, -EReal.coe_mul]; rfl⟩
  norm_num

/-- A frequency is a real number. -/
theorem freq_real (n : Fin 2048) (d : Fin 16) : ∃ r : ℝ, Cert.PrepReferenceIdeal.P.freq (ix2 n d) = (r : EReal) := by
  pointwise [Cert.PrepReferenceIdeal.P.freq]
  obtain ⟨⟨x, hx⟩, ⟨y, hy, hy'⟩, ⟨z, hz⟩, -⟩ := consts_real
  rw [hx, hy', hz, Ideal.div_coe hy]
  refine ⟨Real.rpow x (-(z * ((BitVec.ofNat 32 (d : ℕ)).toInt : ℝ)) * (1 / y)), ?_⟩
  rw [← Ideal.pow_coe_coe, EReal.coe_mul, EReal.coe_neg, EReal.coe_mul]
  rfl

/-- Every angle is a real number. -/
theorem ang_real (n : Fin 2048) (e : Fin 64) : ∃ r : ℝ, ang n e = (r : EReal) := by
  have hR : ∀ d : Fin 16, ∃ r : ℝ, angR (ix2 n d) = (r : EReal) := fun d => by
    obtain ⟨f, hf⟩ := freq_real n d
    refine ⟨((BitVec.ofNat 32 ((n : ℕ) / 64)).toInt : ℝ) * f, ?_⟩
    rw [EReal.coe_mul, ← hf]
    pointwise [angR]
    rfl
  have hC : ∀ d : Fin 16, ∃ r : ℝ, angC (ix2 n d) = (r : EReal) := fun d => by
    obtain ⟨f, hf⟩ := freq_real n d
    refine ⟨((BitVec.ofNat 32 ((n : ℕ) % 64)).toInt : ℝ) * f, ?_⟩
    rw [EReal.coe_mul, ← hf]
    pointwise [angC]
    rfl
  unfold ang
  split
  · exact hR _
  · exact hC _

/-- A rotated vector of real numbers has real entries. -/
theorem rot_real (t : Fin 2304) (x : Fin 64 → EReal) (hx : ∀ e, ∃ r : ℝ, x e = (r : EReal)) (e : Fin 64) : ∃ r : ℝ, rot t x e = (r : EReal) := by
  choose f hf using hx
  unfold rot
  by_cases ht : (t : ℕ) < 256
  · exact ⟨f e, by rw [dif_pos ht, hf]⟩
  · obtain ⟨a, ha⟩ := ang_real ⟨(t : ℕ) - 256, by omega⟩ e
    rw [dif_neg ht, ha, hf, hf]
    by_cases h : (e : ℕ) % 32 < 16
    · rw [if_pos h]
      exact ⟨f e * Real.cos a - f (mate e) * Real.sin a, by rw [EReal.coe_sub, EReal.coe_mul, EReal.coe_mul]; rfl⟩
    · rw [if_neg h]
      exact ⟨f (mate e) * Real.sin a + f e * Real.cos a, by rw [EReal.coe_add, EReal.coe_mul, EReal.coe_mul]; rfl⟩

/-- No score is infinite, if queries and keys are finite. -/
theorem score_ne_top (p : FVec Ideal S9216x10752 .bf16) (hp : ∀ (i : Fin 9216) (e : Fin 1280), ∃ r : ℝ, p (ix2 i ⟨3072 + (e : ℕ), by omega⟩) = (r : EReal))
    (i : Fin 9216) (h : Fin 16) (l : Fin 2304) : score p i h l ≠ ⊤ := by
  unfold score
  split
  · obtain ⟨c, -, hc⟩ := scale_real
    obtain ⟨x, hx⟩ := dot_real (fun e => rot ⟨(i : ℕ) % 2304, by omega⟩ (query p i h) e) (fun e => rot l (key p ⟨(i : ℕ) / 2304 * 2304 + l, by omega⟩ ⟨(h : ℕ) / 4, by omega⟩) e)
      (rot_real _ _ fun e => hp i ⟨(h : ℕ) * 64 + e, by omega⟩) (rot_real _ _ fun e => by
        obtain ⟨r, hr⟩ := hp ⟨(i : ℕ) / 2304 * 2304 + l, by omega⟩ ⟨1024 + ((h : ℕ) / 4 * 64 + e), by omega⟩
        exact ⟨r, by rw [← hr]; exact congrArg p ((ix2_inj ..).2 ⟨rfl, Fin.ext (by dsimp only; omega)⟩)⟩)
    rw [hx, hc, ← EReal.coe_mul]
    exact EReal.coe_ne_top _
  · exact bot_ne_top

end Cert.SwaReferenceIdeal.W

end
-- ==== Proof.SwaHost.lean ====
module

public import proofs.«01_k».proof.Proof.SwaPay
public import proofs.«01_k».proof.Proof.SwaRef
public import proofs.«01_k».proof.Proof.Gen.SwaIdeal.Frame
public import Idealize.ShloMosaic.Lib.Pipeline.ValueKit

/-! What the window attention finds in its buffers, the rotation by the two tables, and the attention of a block's heads. -/

@[expose] public section
set_option maxRecDepth 16384

noncomputable section
open Idealize.ShloMosaic Idealize.ShloMosaic.TcCoe Idealize.SL.Sem
open Idealize.ShloMosaic.Tactic

namespace Cert.SwaIdeal.W
open Cert.SwaIdeal Cert.SwaIdeal.Gen Cert.Softmax
open Cert.PrepReferenceIdeal.P (angR angC ang mate rot rot_ctx)
open Cert.SwaReferenceIdeal.W (query key score scale_real)

variable (m : (ℓ : Loc nD τ sig) → Buf (Elt Ideal) ℓ)

/-- The cosines of one head's 64 columns, a row per latent token. -/
def cos64 : FVec Ideal S2048x64 .f32 := (concatenate S2048x64 1 [⟨S2048x16, (Host.cos angR : FVec Ideal S2048x16 .f32)⟩, ⟨S2048x16, (Host.cos angR : FVec Ideal S2048x16 .f32)⟩,
        ⟨S2048x16, (Host.cos angC : FVec Ideal S2048x16 .f32)⟩, ⟨S2048x16, (Host.cos angC : FVec Ideal S2048x16 .f32)⟩] concatenates_S2048x16_S2048x16_S2048x16_S2048x16_S2048x64_d1 : FVec Ideal S2048x64 .f32)

/-- The sines, with the first halves' sign. -/
def sin64 : FVec Ideal S2048x64 .f32 := (concatenate S2048x64 1 [⟨S2048x16, (Host.negf (Host.sin angR) : FVec Ideal S2048x16 .f32)⟩, ⟨S2048x16, (Host.sin angR : FVec Ideal S2048x16 .f32)⟩,
        ⟨S2048x16, (Host.negf (Host.sin angC) : FVec Ideal S2048x16 .f32)⟩, ⟨S2048x16, (Host.sin angC : FVec Ideal S2048x16 .f32)⟩] concatenates_S2048x16_S2048x16_S2048x16_S2048x16_S2048x64_d1 : FVec Ideal S2048x64 .f32)

/-- A table of 64 columns twice, under rows of a constant for the context's tokens. -/
def table (z : FVec Ideal S2048x64 .f32) (b : BitVec 32) : FVec Ideal S2304x128 .f32 :=
  concatenate S2304x128 0 [⟨S256x128, (broadcastInDim S256x128 ![] bcast_S_S256x128 (constant S_ .f32 b) : FVec Ideal S256x128 .f32)⟩,
    ⟨S2048x128, (concatenate S2048x128 1 [⟨S2048x64, z⟩, ⟨S2048x64, z⟩] concatenates_S2048x64_S2048x64_S2048x128_d1 : FVec Ideal S2048x128 .f32)⟩]
    concatenates_S256x128_S2048x128_S2304x128_d0

/-- The cosines as the call finds them. -/
theorem V_cos (c : Dev nD) : V m c main_v42 = table cos64 0x3F800000#32 := by
  simp only [V, hostOps0, List.flatten_cons, List.flatten_nil, List.append_nil, List.cons_append, List.nil_append]
  after_results
  rfl

/-- The sines as the call finds them. -/
theorem V_sin (c : Dev nD) : V m c main_v44 = table sin64 0x00000000#32 := by
  simp only [V, hostOps0, List.flatten_cons, List.flatten_nil, List.append_nil, List.cons_append, List.nil_append]
  after_results
  rfl

/-- The branches' weights as the call finds them. -/
theorem V_branch (c : Dev nD) : V m c main_v45 = (shapeCast S2x3072x2048 (m ((c : Thread nD τ).loc main_arg2) : FVec Ideal S2x3x1024x2048 .f32) shapeCasts_S2x3x1024x2048_S2x3072x2048 : FVec Ideal S2x3072x2048 .f32) := by
  simp only [V, hostOps0, List.flatten_cons, List.flatten_nil, List.append_nil, List.cons_append, List.nil_append]
  after_results
  rfl

/-- An entry of the cosines of one head. -/
theorem cos64_at (n : Fin 2048) (e : Fin 64) : cos64 (ix2 n e) = Ideal.cos (ang n e) := by
  obtain ⟨e, he⟩ := e
  pointwise [cos64]
  unfold ang
  dsimp only
  by_cases h1 : e < 16
  · simp only [h1, dif_pos, if_pos, show e < 32 by omega, show e % 16 = e by omega]
  · by_cases h2 : e - 16 < 16
    · simp only [h1, h2, dif_pos, if_pos, dif_neg, if_neg, show e < 32 by omega, show e % 16 = e - 16 by omega, not_false_iff]
    · by_cases h3 : e - 16 - 16 < 16
      · simp only [h1, h2, h3, dif_pos, if_pos, dif_neg, if_neg, show ¬e < 32 by omega, show e % 16 = e - 16 - 16 by omega, not_false_iff]
      · simp only [h1, h2, h3, dif_neg, if_neg, show ¬e < 32 by omega, show e % 16 = e - 16 - 16 - 16 by omega, not_false_iff]

/-- An entry of the sines of one head. -/
theorem sin64_at (n : Fin 2048) (e : Fin 64) : sin64 (ix2 n e) = if (e : ℕ) % 32 < 16 then -Ideal.sin (ang n e) else Ideal.sin (ang n e) := by
  obtain ⟨e, he⟩ := e
  pointwise [sin64]
  unfold ang
  dsimp only
  by_cases h1 : e < 16
  · simp only [h1, dif_pos, if_pos, show e < 32 by omega, show e % 16 = e by omega, show e % 32 < 16 by omega]
  · by_cases h2 : e - 16 < 16
    · simp only [h1, h2, dif_pos, if_pos, dif_neg, if_neg, show e < 32 by omega, show e % 16 = e - 16 by omega, show ¬e % 32 < 16 by omega, not_false_iff]
    · by_cases h3 : e - 16 - 16 < 16
      · simp only [h1, h2, h3, dif_pos, if_pos, dif_neg, if_neg, show ¬e < 32 by omega, show e % 16 = e - 16 - 16 by omega, show e % 32 < 16 by omega, not_false_iff]
      · simp only [h1, h2, h3, dif_neg, if_neg, show ¬e < 32 by omega, show e % 16 = e - 16 - 16 - 16 by omega, show ¬e % 32 < 16 by omega, not_false_iff]

/-- An entry of a table. -/
theorem table_at (z : FVec Ideal S2048x64 .f32) (b : BitVec 32) (t : Fin 2304) (e : Fin 128) :
    table z b (ix2 t e) = if h : (t : ℕ) < 256 then Ideal.ofBits .f32 b else z (ix2 ⟨(t : ℕ) - 256, by omega⟩ ⟨(e : ℕ) % 64, by omega⟩) := by
  pointwise [table]
  refine dite_congr rfl (fun _ => rfl) fun h => ?_
  by_cases he : (e : ℕ) < 64
  · rw [dif_pos he]; exact congrArg z ((ix2_inj ..).2 ⟨rfl, Fin.ext (by dsimp only; omega)⟩)
  · rw [dif_neg he]; exact congrArg z ((ix2_inj ..).2 ⟨rfl, Fin.ext (by dsimp only; omega)⟩)

/-- The rotation by the tables of two heads side by side: the rotation of each. -/
theorem turn (t : Fin 2304) (z : Fin 128 → EReal) (e : Fin 128) :
    z e * table cos64 0x3F800000#32 (ix2 t e)
        + (if (e : ℕ) % 32 < 16 then z ⟨((e : ℕ) + 128 - 112) % 128, by omega⟩ else z ⟨((e : ℕ) + 128 - 16) % 128, by omega⟩) * table sin64 0x00000000#32 (ix2 t e)
      = rot t (fun j => z ⟨(e : ℕ) / 64 * 64 + j, by omega⟩) ⟨(e : ℕ) % 64, by omega⟩ := by
  have hz : ∀ h, z ⟨(e : ℕ) / 64 * 64 + (e : ℕ) % 64, h⟩ = z e := fun _ => congrArg z (Fin.ext (by dsimp only; omega))
  rw [table_at, table_at]
  unfold rot
  by_cases ht : (t : ℕ) < 256
  · have h1 : Ideal.ofBits .f32 0x3F800000#32 = 1 := by
      simp [Ideal.ofBits, Ideal.ieee, -EReal.coe_mul]
      norm_num
    have h0 : Ideal.ofBits .f32 0x00000000#32 = 0 := by simp [Ideal.ofBits, Ideal.ieee]
    rw [dif_pos ht, dif_pos ht, dif_pos ht, h1, h0, mul_one, mul_zero, add_zero]
    exact (hz _).symm
  · rw [dif_neg ht, dif_neg ht, dif_neg ht, cos64_at, sin64_at]
    have e32 : (e : ℕ) % 64 % 32 = (e : ℕ) % 32 := by omega
    dsimp only
    rw [e32, hz]
    by_cases h3 : (e : ℕ) % 32 < 16
    · rw [if_pos h3, if_pos h3, if_pos h3, mul_neg, sub_eq_add_neg]
      refine congrArg (fun y => _ + -(z y * _)) (Fin.ext ?_)
      unfold mate
      dsimp only
      omega
    · rw [if_neg h3, if_neg h3, if_neg h3, add_comm]
      refine congrArg (fun y => z y * _ + _) (Fin.ext ?_)
      unfold mate
      dsimp only
      omega

/-- Where each window sits at a point. -/
theorem idx : ∀ t : Fin cfg0.N, win0_0.index t = ![t.val, 3] ∧ win0_1.index t = ![t.val / 9, 16] ∧ win0_2.index t = ![t.val / 9, 17]
    ∧ win0_3.index t = ![0, 0] ∧ win0_4.index t = ![0, 0] ∧ win0_5.index t = ![0, 0] ∧ win0_8.index t = ![t.val, 0] :=
  (by decide +kernel : ∀ t : Fin grid0.N, _)

/-- The rows where a block's loads from the tables, the keys and the values start. -/
theorem offs : ∀ t : Fin cfg0.N, k0_off1 (grid0.coords t) = ![256 * (t.val % 9), 0] ∧ (1 ≤ t.val % 9 → k0_off2 (grid0.coords t) = ![min (256 * (t.val % 9) - 128) 1792, 0]
    ∧ k0_off3 (grid0.coords t) = ![min (256 * (t.val % 9) - 128) 1792, 0] ∧ k0_off4 (grid0.coords t) = ![min (256 * (t.val % 9) - 128) 1792, 128]) :=
  (by decide +kernel : ∀ t : Fin grid0.N, _)

/-- The queries' block. -/
theorem blkQ (c : Dev nD) (t : Fin cfg0.N) (r : Fin 256) (e : Fin 1024) (R : Fin 9216) (hR : (R : ℕ) = t.val * 256 + r) :
    X0_0 m c t (ix2 r e) = (m ((c : Thread nD τ).loc main_arg0) : FVec Ideal S9216x10752 .bf16) (ix2 R ⟨3072 + (e : ℕ), by omega⟩) := by
  unfold X0_0 Pipeline.Window.fill
  rw [dif_pos (moved0_0 t _)]
  blk_ext [iblk, V, idx t]

/-- The keys' block. -/
theorem blkK (c : Dev nD) (t : Fin cfg0.N) (l : Fin 2304) (e : Fin 256) (L : Fin 9216) (hL : (L : ℕ) = t.val / 9 * 2304 + l) :
    iblk m c 1 t (ix2 l e) = (m ((c : Thread nD τ).loc main_arg0) : FVec Ideal S9216x10752 .bf16) (ix2 L ⟨4096 + (e : ℕ), by omega⟩) := by
  blk_ext [iblk, V, idx t]

/-- The values' block. -/
theorem blkV (c : Dev nD) (t : Fin cfg0.N) (l : Fin 2304) (e : Fin 256) (L : Fin 9216) (hL : (L : ℕ) = t.val / 9 * 2304 + l) :
    iblk m c 2 t (ix2 l e) = (m ((c : Thread nD τ).loc main_arg0) : FVec Ideal S9216x10752 .bf16) (ix2 L ⟨4352 + (e : ℕ), by omega⟩) := by
  blk_ext [iblk, V, idx t]

/-- The cosines' block. -/
theorem blkC (c : Dev nD) (t : Fin cfg0.N) (l : Fin 2304) (e : Fin 128) : iblk m c 3 t (ix2 l e) = table cos64 0x3F800000#32 (ix2 l e) := by
  rw [← V_cos m c]
  blk_ext [iblk, idx t]

/-- The sines' block. -/
theorem blkS (c : Dev nD) (t : Fin cfg0.N) (l : Fin 2304) (e : Fin 128) : iblk m c 4 t (ix2 l e) = table sin64 0x00000000#32 (ix2 l e) := by
  rw [← V_sin m c]
  blk_ext [iblk, idx t]

/-- The sinks. -/
theorem blkT (c : Dev nD) (t : Fin cfg0.N) (l : Fin 2) (h : Fin 16) : iblk m c 5 t (ix2 l h) = (m ((c : Thread nD τ).loc main_arg1) : FVec Ideal S2x16 .f32) (ix2 l h) := by
  blk_ext [iblk, V, idx t]

/-- An entry of a load. -/
theorem ld_at {n0 n1 : ℕ} {e : EltTy} (X : (⟨2, ![n0, n1]⟩ : Shape).Idx → Elt Ideal e) (off size : Fin 2 → ℕ) (inb : ∀ a, off a + size a ≤ (⟨2, ![n0, n1]⟩ : Shape).size a)
    (x : (Rect.unit (s := ⟨2, ![n0, n1]⟩) off size inb).shape.Idx) (i : Fin n0) (j : Fin n1) (hi : (i : ℕ) = off 0 + x 0) (hj : (j : ℕ) = off 1 + x 1) :
    View.ld X (Rect.unit off size inb) x = X (ix2 i j) :=
  View.ld_unit_apply_of X off size inb x (ix2 i j) fun a => by
    match a with
    | 0 => exact hi
    | 1 => exact hj

end Cert.SwaIdeal.W

end
-- ==== Proof.SwaPoint.lean ====
module

public import proofs.«01_k».proof.Proof.SwaHost

/-! The window attention of one head, and of two heads side by side, at an entry of a block. -/

@[expose] public section
set_option maxRecDepth 16384

noncomputable section
open Idealize.ShloMosaic Idealize.ShloMosaic.TcCoe Idealize.SL.Sem
open Idealize.ShloMosaic.Tactic

namespace Cert.SwaIdeal.W
open Cert.SwaIdeal Cert.SwaIdeal.Gen Cert.Softmax
open Cert.PrepReferenceIdeal.P (rot rot_ctx)
open Cert.SwaReferenceIdeal.W (query key score scale_real score_ne_top consts_real)

/-- The columns of the queries, the keys and the values are numbers. -/
def Num (p : FVec Ideal ⟨2, ![9216, 10752]⟩ .bf16) : Prop := ∀ (i : Fin 9216) (e : Fin 1280), ∃ r : ℝ, p (ix2 i ⟨3072 + (e : ℕ), by omega⟩) = (r : EReal)

/-- The values of row `R`'s batch row at the result's column `J`. -/
def vals (p : FVec Ideal ⟨2, ![9216, 10752]⟩ .bf16) (R : Fin 9216) (J : Fin 1024) (l : Fin 2304) : EReal :=
  p (ix2 ⟨(R : ℕ) / 2304 * 2304 + l, by omega⟩ ⟨4352 + ((J : ℕ) / 64 / 4 * 64 + (J : ℕ) % 64), by omega⟩)

/-- The result at row `R` and column `J`. -/
def attAt (p : FVec Ideal ⟨2, ![9216, 10752]⟩ .bf16) (s : FVec Ideal ⟨2, ![2, 16]⟩ .f32) (R : Fin 9216) (J : Fin 1024) : EReal :=
  sinkAtt (score p R ⟨(J : ℕ) / 64, by omega⟩) (vals p R J) (s (ix2 0 ⟨(J : ℕ) / 64, by omega⟩) * Ideal.ofBits .f32 0x3FB8AA3B#32)

/-- The mask of a latent block: the key is a latent token at most 128 tokens away. -/
theorem mask_at : ∀ (t : Fin cfg0.N) (ht : 1 ≤ t.val % 9) (r : Fin 256) (j : Fin 512),
    k0_pay137 (Scalar.muli (BitVec.ofNat 32 (grid0.coords t 1).val) 256#32) (ix2 r j) = 1#1
      ↔ 256 ≤ min (256 * (t.val % 9) - 128) 1792 + (j : ℕ) ∧ min (256 * (t.val % 9) - 128) 1792 + (j : ℕ) ≤ 256 * (t.val % 9) + r + 128
        ∧ 256 * (t.val % 9) + r ≤ min (256 * (t.val % 9) - 128) 1792 + j + 128 := by
  intro t ht r j
  have hv : ∀ t : Fin cfg0.N, Scalar.muli (BitVec.ofNat 32 (grid0.coords t 1).val) 256#32 = BitVec.ofNat 32 (256 * (t.val % 9)) :=
    (by decide +kernel : ∀ t : Fin grid0.N, _)
  have hs : ∀ t : Fin cfg0.N, 1 ≤ t.val % 9 → Scalar.minsi (Scalar.subi (BitVec.ofNat 32 (256 * (t.val % 9))) 128#32) 1792#32 = BitVec.ofNat 32 (min (256 * (t.val % 9) - 128) 1792) :=
    (by decide +kernel : ∀ t : Fin grid0.N, _)
  have hg : ∀ a : Fin 2304, IntOp.cmpi .sge (IntOp.subi (BitVec.ofNat 32 (a : ℕ)) 256#32) 0#32 = 1#1 ↔ 256 ≤ (a : ℕ) := by decide +kernel
  have hadd : ∀ a b : ℕ, IntOp.addi (Scalar.subi (BitVec.ofNat 32 a) 256#32) (BitVec.ofNat 32 b) = IntOp.subi (BitVec.ofNat 32 (a + b)) 256#32 := fun a b => by
    show BitVec.ofNat 32 a - 256#32 + BitVec.ofNat 32 b = BitVec.ofNat 32 (a + b) - 256#32
    rw [BitVec.ofNat_add, BitVec.sub_eq_add_neg, BitVec.sub_eq_add_neg]
    ac_rfl
  have hsub : ∀ a b : BitVec 32, IntOp.subi (IntOp.subi a 256#32) (IntOp.subi b 256#32) = IntOp.subi a b := fun a b => by
    show a - 256#32 - (b - 256#32) = a - b
    exact BitVec.eq_of_toNat_eq (by simp only [BitVec.toNat_sub, BitVec.toNat_ofNat]; omega)
  have tl : t.val % 9 < 9 := Nat.mod_lt _ (by norm_num)
  rw [hv t]
  pointwise [k0_pay137]
  rw [hs t ht, hadd, hadd, hsub, IntOp.andi_eq_one, near _ _ (by omega) (by omega), hg ⟨min (256 * (t.val % 9) - 128) 1792 + (j : ℕ), by omega⟩]
  dsimp only
  omega

/-- One head of a context block. -/
theorem headA (p : FVec Ideal ⟨2, ![9216, 10752]⟩ .bf16) (hp : Num p) (R : Fin 9216) (hR : (R : ℕ) % 2304 < 256) (h : Fin 16) (i : ℕ) (hi : i < 2)
    (q k v : FVec Ideal S256x128 .bf16) (κ : ℝ) (r : Fin 256) (d : Fin 128) (w : Fin 2304 → EReal)
    (hq : ∀ e : Fin 128, q (ix2 r e) = if (e : ℕ) / 64 = i then rot ⟨(R : ℕ) % 2304, by omega⟩ (query p R h) ⟨(e : ℕ) % 64, by omega⟩ * Ideal.ofBits .f32 0x3E38AA3B#32 else 0)
    (hk : ∀ (l : Fin 256) (e : Fin 128), k (ix2 l e) = key p ⟨(R : ℕ) / 2304 * 2304 + l, by omega⟩ ⟨(h : ℕ) / 4, by omega⟩ ⟨(e : ℕ) % 64, by omega⟩)
    (hv : ∀ l : Fin 256, v (ix2 l d) = w ⟨l, by omega⟩) :
    attendA q k v (κ : EReal) (ix2 r d) = sinkAtt (score p R h) w (κ : EReal) := by
  obtain ⟨c, hc, hc'⟩ := scale_real
  have e : ∀ l : Fin 256, ∑ e : Fin 128, q (ix2 r e) * k (ix2 l e) = score p R h ⟨l, by omega⟩ := fun l => by
    unfold score
    rw [if_pos (Or.inl l.2)]
    simp only [hq, hk, hc', rot_ctx ⟨(l : ℕ), by omega⟩ l.2]
    exact dot_half i hi (rot ⟨(R : ℕ) % 2304, by omega⟩ (query p R h)) (key p ⟨(R : ℕ) / 2304 * 2304 + l, by omega⟩ ⟨(h : ℕ) / 4, by omega⟩) c hc
  rw [attendA_at, sinkAtt_ctx (score p R h) w (fun l hl => if_neg (by omega)) κ]
  simp only [e, hv]
  exact one_eq _ _ (fun l => score_ne_top p hp R h _) κ

/-- One head of a latent block, whose band starts at token `st`. -/
theorem headB (p : FVec Ideal ⟨2, ![9216, 10752]⟩ .bf16) (hp : Num p) (R : Fin 9216) (hR : 256 ≤ (R : ℕ) % 2304) (h : Fin 16) (i : ℕ) (hi : i < 2)
    (st : ℕ) (hst : st + 512 ≤ 2304) (hb : ∀ l : ℕ, l < 2304 → l ≤ (R : ℕ) % 2304 + 128 → (R : ℕ) % 2304 ≤ l + 128 → st ≤ l ∧ l < st + 512)
    (q k v : FVec Ideal S256x128 .bf16) (kb vb : FVec Ideal S512x128 .bf16) (mk : IVec S256x512 1) (κ : ℝ) (r : Fin 256) (d : Fin 128) (w : Fin 2304 → EReal)
    (hq : ∀ e : Fin 128, q (ix2 r e) = if (e : ℕ) / 64 = i then rot ⟨(R : ℕ) % 2304, by omega⟩ (query p R h) ⟨(e : ℕ) % 64, by omega⟩ * Ideal.ofBits .f32 0x3E38AA3B#32 else 0)
    (hk : ∀ (l : Fin 256) (e : Fin 128), k (ix2 l e) = key p ⟨(R : ℕ) / 2304 * 2304 + l, by omega⟩ ⟨(h : ℕ) / 4, by omega⟩ ⟨(e : ℕ) % 64, by omega⟩)
    (hv : ∀ l : Fin 256, v (ix2 l d) = w ⟨l, by omega⟩)
    (hkb : ∀ (j : Fin 512) (e : Fin 128), kb (ix2 j e) = rot ⟨st + j, by omega⟩ (key p ⟨(R : ℕ) / 2304 * 2304 + (st + j), by omega⟩ ⟨(h : ℕ) / 4, by omega⟩) ⟨(e : ℕ) % 64, by omega⟩)
    (hvb : ∀ j : Fin 512, vb (ix2 j d) = w ⟨st + j, by omega⟩)
    (hm : ∀ j : Fin 512, mk (ix2 r j) = 1#1 ↔ 256 ≤ st + (j : ℕ) ∧ st + (j : ℕ) ≤ (R : ℕ) % 2304 + 128 ∧ (R : ℕ) % 2304 ≤ st + j + 128) :
    attendB q k v kb vb mk (κ : EReal) (ix2 r d) = sinkAtt (score p R h) w (κ : EReal) := by
  obtain ⟨c, hc, hc'⟩ := scale_real
  have e : ∀ l : Fin 256, ∑ e : Fin 128, q (ix2 r e) * k (ix2 l e) = score p R h ⟨l, by omega⟩ := fun l => by
    unfold score
    rw [if_pos (Or.inl l.2)]
    simp only [hq, hk, hc', rot_ctx ⟨(l : ℕ), by omega⟩ l.2]
    exact dot_half i hi (rot ⟨(R : ℕ) % 2304, by omega⟩ (query p R h)) (key p ⟨(R : ℕ) / 2304 * 2304 + l, by omega⟩ ⟨(h : ℕ) / 4, by omega⟩) c hc
  have e' : ∀ j : Fin 512, (if mk (ix2 r j) = 1#1 then ∑ e : Fin 128, q (ix2 r e) * kb (ix2 j e) else ⊥) = if 256 ≤ st + (j : ℕ) then score p R h ⟨st + j, by omega⟩ else ⊥ := fun j => by
    by_cases h1 : 256 ≤ st + (j : ℕ)
    · rw [if_pos h1]
      unfold score
      refine if_ctx_congr ((hm j).trans (by dsimp only; omega)) (fun _ => ?_) fun _ => rfl
      simp only [hq, hkb, hc']
      exact dot_half i hi (rot ⟨(R : ℕ) % 2304, by omega⟩ (query p R h)) (rot ⟨st + j, by omega⟩ (key p ⟨(R : ℕ) / 2304 * 2304 + (st + j), by omega⟩ ⟨(h : ℕ) / 4, by omega⟩)) c hc
    · rw [if_neg h1, if_neg fun h2 => h1 ((hm j).1 h2).1]
  rw [attendB_at, sinkAtt_band (score p R h) w st hst (fun l h1 h2 => if_neg fun h3 => h2 (hb l l.2 (by omega) (by omega))) κ]
  simp only [e, e', hv, hvb]
  refine two_eq _ _ _ _ (fun l => score_ne_top p hp R h _) (fun j => ?_) κ
  by_cases h1 : 256 ≤ st + (j : ℕ)
  · rw [if_pos h1]; exact score_ne_top p hp R h _
  · rw [if_neg h1]; exact bot_ne_top

/-- A sink in base 2 is a number. -/
theorem sink2_real (s : FVec Ideal ⟨2, ![2, 16]⟩ .f32) (hs : ∀ j, ∃ r : ℝ, s (ix2 0 j) = (r : EReal)) (h : Fin 16) :
    ∃ κ : ℝ, s (ix2 0 h) * Ideal.ofBits .f32 0x3FB8AA3B#32 = (κ : EReal) := by
  obtain ⟨-, -, -, z, hz⟩ := consts_real
  obtain ⟨x, hx⟩ := hs h
  exact ⟨x * z, by rw [hx, hz, EReal.coe_mul]⟩

/-- Two heads' queries, from the projections' rows. -/
theorem queries_at (p : FVec Ideal ⟨2, ![9216, 10752]⟩ .bf16) (R : Fin 9216) (J : Fin 1024) (u w : FVec Ideal S256x128 .f32) (x : FVec Ideal S256x128 .bf16) (r : Fin 256)
    (hu : ∀ e, u (ix2 r e) = table cos64 0x3F800000#32 (ix2 ⟨(R : ℕ) % 2304, by omega⟩ e)) (hw : ∀ e, w (ix2 r e) = table sin64 0x00000000#32 (ix2 ⟨(R : ℕ) % 2304, by omega⟩ e))
    (hx : ∀ e : Fin 128, x (ix2 r e) = p (ix2 R ⟨3072 + ((J : ℕ) / 128 * 128 + e), by omega⟩)) (e : Fin 128) :
    queries u w x (ix2 r e) = rot ⟨(R : ℕ) % 2304, by omega⟩ (query p R ⟨(J : ℕ) / 128 * 2 + (e : ℕ) / 64, by omega⟩) ⟨(e : ℕ) % 64, by omega⟩ * Ideal.ofBits .f32 0x3E38AA3B#32 := by
  unfold queries
  rw [shapeCast_self, shapeCast_self]
  refine congrArg (· * Ideal.ofBits .f32 0x3E38AA3B#32) ((turn256_at u w x r e).trans ?_)
  rw [hu, hw]
  refine (turn ⟨(R : ℕ) % 2304, by omega⟩ (fun e => x (ix2 r e)) e).trans (congrArg (fun f => rot _ f _) (funext fun j => (hx _).trans ?_))
  exact congrArg p ((ix2_inj ..).2 ⟨rfl, Fin.ext (by dsimp only; omega)⟩)

/-- The band's keys, from the projections' rows. -/
theorem bandKeys_at (p : FVec Ideal ⟨2, ![9216, 10752]⟩ .bf16) (L : Fin 9216) (T : Fin 2304) (J : Fin 1024) (u w : FVec Ideal S512x128 .f32) (x : FVec Ideal S512x128 .bf16) (r : Fin 512)
    (hu : ∀ e, u (ix2 r e) = table cos64 0x3F800000#32 (ix2 T e)) (hw : ∀ e, w (ix2 r e) = table sin64 0x00000000#32 (ix2 T e))
    (hx : ∀ e : Fin 128, x (ix2 r e) = p (ix2 L ⟨4096 + ((J : ℕ) / 512 * 128 + e), by omega⟩)) (e : Fin 128) :
    bandKeys u w x (ix2 r e) = rot T (key p L ⟨(J : ℕ) / 512 * 2 + (e : ℕ) / 64, by omega⟩) ⟨(e : ℕ) % 64, by omega⟩ := by
  unfold bandKeys
  rw [shapeCast_self, shapeCast_self]
  refine (turn512_at u w x r e).trans ?_
  rw [hu, hw]
  refine (turn T (fun e => x (ix2 r e)) e).trans (congrArg (fun f => rot _ f _) (funext fun j => (hx _).trans ?_))
  exact congrArg p ((ix2_inj ..).2 ⟨rfl, Fin.ext (by dsimp only; omega)⟩)

/-- The lanes of the first of two heads' queries. -/
theorem head0_q (p : FVec Ideal ⟨2, ![9216, 10752]⟩ .bf16) (R : Fin 9216) (J : Fin 1024) (z : FVec Ideal S256x128 .f32) (r : Fin 256)
    (hz : ∀ e : Fin 128, z (ix2 r e) = rot ⟨(R : ℕ) % 2304, by omega⟩ (query p R ⟨(J : ℕ) / 128 * 2 + (e : ℕ) / 64, by omega⟩) ⟨(e : ℕ) % 64, by omega⟩ * Ideal.ofBits .f32 0x3E38AA3B#32)
    (h : Fin 16) (hh : (h : ℕ) = (J : ℕ) / 128 * 2) (e : Fin 128) :
    head0 z (ix2 r e) = if (e : ℕ) / 64 = 0 then rot ⟨(R : ℕ) % 2304, by omega⟩ (query p R h) ⟨(e : ℕ) % 64, by omega⟩ * Ideal.ofBits .f32 0x3E38AA3B#32 else 0 := by
  rw [head0_at]
  refine if_ctx_congr (by omega) (fun h1 => ?_) fun _ => rfl
  rw [hz, show (⟨(J : ℕ) / 128 * 2 + (e : ℕ) / 64, by omega⟩ : Fin 16) = h from Fin.ext (by dsimp only; omega)]

/-- The lanes of the second of two heads' queries. -/
theorem head1_q (p : FVec Ideal ⟨2, ![9216, 10752]⟩ .bf16) (R : Fin 9216) (J : Fin 1024) (z : FVec Ideal S256x128 .f32) (r : Fin 256)
    (hz : ∀ e : Fin 128, z (ix2 r e) = rot ⟨(R : ℕ) % 2304, by omega⟩ (query p R ⟨(J : ℕ) / 128 * 2 + (e : ℕ) / 64, by omega⟩) ⟨(e : ℕ) % 64, by omega⟩ * Ideal.ofBits .f32 0x3E38AA3B#32)
    (h : Fin 16) (hh : (h : ℕ) = (J : ℕ) / 128 * 2 + 1) (e : Fin 128) :
    head1 z (ix2 r e) = if (e : ℕ) / 64 = 1 then rot ⟨(R : ℕ) % 2304, by omega⟩ (query p R h) ⟨(e : ℕ) % 64, by omega⟩ * Ideal.ofBits .f32 0x3E38AA3B#32 else 0 := by
  rw [head1_at]
  by_cases h1 : (e : ℕ) < 64
  · rw [if_pos h1, if_neg (by omega)]
  · rw [if_neg h1, if_pos (by omega), hz, show (⟨(J : ℕ) / 128 * 2 + (e : ℕ) / 64, by omega⟩ : Fin 16) = h from Fin.ext (by dsimp only; omega)]

/-- Two heads of a context block side by side. -/
theorem pairA (p : FVec Ideal ⟨2, ![9216, 10752]⟩ .bf16) (hp : Num p) (s : FVec Ideal ⟨2, ![2, 16]⟩ .f32) (hs : ∀ j, ∃ r : ℝ, s (ix2 0 j) = (r : EReal))
    (R : Fin 9216) (hR : (R : ℕ) % 2304 < 256) (J : Fin 1024) (z : FVec Ideal S256x128 .f32) (k v : FVec Ideal S256x128 .bf16) (a b : Ideal .f32) (r : Fin 256) (d : Fin 128) (hd : (d : ℕ) = (J : ℕ) % 128)
    (hz : ∀ e : Fin 128, z (ix2 r e) = rot ⟨(R : ℕ) % 2304, by omega⟩ (query p R ⟨(J : ℕ) / 128 * 2 + (e : ℕ) / 64, by omega⟩) ⟨(e : ℕ) % 64, by omega⟩ * Ideal.ofBits .f32 0x3E38AA3B#32)
    (hk : ∀ (l : Fin 256) (e : Fin 128), k (ix2 l e) = key p ⟨(R : ℕ) / 2304 * 2304 + l, by omega⟩ ⟨(J : ℕ) / 256, by omega⟩ ⟨(e : ℕ) % 64, by omega⟩)
    (hv : ∀ l : Fin 256, v (ix2 l d) = vals p R J ⟨l, by omega⟩)
    (ha : a = s (ix2 0 ⟨(J : ℕ) / 128 * 2, by omega⟩)) (hb : b = s (ix2 0 ⟨(J : ℕ) / 128 * 2 + 1, by omega⟩)) :
    pair (attendA (head0 z) k v (sink2 a)) (attendA (head1 z) k v (sink2 b)) (ix2 r d) = attAt p s R J := by
  obtain ⟨κ, hκ⟩ := sink2_real s hs ⟨(J : ℕ) / 64, by omega⟩
  unfold attAt
  rw [hκ, pair_at]
  by_cases h : (d : ℕ) < 64
  · rw [if_pos h, show sink2 a = (κ : EReal) from (congrArg (· * Ideal.ofBits .f32 0x3FB8AA3B#32) (ha.trans (congrArg (fun i => s (ix2 0 i)) (Fin.ext (by dsimp only; omega))))).trans hκ]
    exact headA p hp R hR _ 0 (by norm_num) _ k v κ r d (vals p R J) (head0_q p R J z r hz _ (by dsimp only; omega))
      (fun l e => (hk l e).trans (congrArg (fun g => key p _ g _) (Fin.ext (by dsimp only; omega)))) hv
  · rw [if_neg h, show sink2 b = (κ : EReal) from (congrArg (· * Ideal.ofBits .f32 0x3FB8AA3B#32) (hb.trans (congrArg (fun i => s (ix2 0 i)) (Fin.ext (by dsimp only; omega))))).trans hκ]
    exact headA p hp R hR _ 1 (by norm_num) _ k v κ r d (vals p R J) (head1_q p R J z r hz _ (by dsimp only; omega))
      (fun l e => (hk l e).trans (congrArg (fun g => key p _ g _) (Fin.ext (by dsimp only; omega)))) hv

/-- Two heads of a latent block side by side. -/
theorem pairB (p : FVec Ideal ⟨2, ![9216, 10752]⟩ .bf16) (hp : Num p) (s : FVec Ideal ⟨2, ![2, 16]⟩ .f32) (hs : ∀ j, ∃ r : ℝ, s (ix2 0 j) = (r : EReal))
    (R : Fin 9216) (hR : 256 ≤ (R : ℕ) % 2304) (J : Fin 1024)
    (st : ℕ) (hst : st + 512 ≤ 2304) (hb : ∀ l : ℕ, l < 2304 → l ≤ (R : ℕ) % 2304 + 128 → (R : ℕ) % 2304 ≤ l + 128 → st ≤ l ∧ l < st + 512)
    (z : FVec Ideal S256x128 .f32) (k v : FVec Ideal S256x128 .bf16) (kb vb : FVec Ideal S512x128 .bf16) (mk : IVec S256x512 1) (a b : Ideal .f32) (r : Fin 256) (d : Fin 128) (hd : (d : ℕ) = (J : ℕ) % 128)
    (hz : ∀ e : Fin 128, z (ix2 r e) = rot ⟨(R : ℕ) % 2304, by omega⟩ (query p R ⟨(J : ℕ) / 128 * 2 + (e : ℕ) / 64, by omega⟩) ⟨(e : ℕ) % 64, by omega⟩ * Ideal.ofBits .f32 0x3E38AA3B#32)
    (hk : ∀ (l : Fin 256) (e : Fin 128), k (ix2 l e) = key p ⟨(R : ℕ) / 2304 * 2304 + l, by omega⟩ ⟨(J : ℕ) / 256, by omega⟩ ⟨(e : ℕ) % 64, by omega⟩)
    (hv : ∀ l : Fin 256, v (ix2 l d) = vals p R J ⟨l, by omega⟩)
    (hkb : ∀ (j : Fin 512) (e : Fin 128), kb (ix2 j e) = rot ⟨st + j, by omega⟩ (key p ⟨(R : ℕ) / 2304 * 2304 + (st + j), by omega⟩ ⟨(J : ℕ) / 256, by omega⟩) ⟨(e : ℕ) % 64, by omega⟩)
    (hvb : ∀ j : Fin 512, vb (ix2 j d) = vals p R J ⟨st + j, by omega⟩)
    (hm : ∀ j : Fin 512, mk (ix2 r j) = 1#1 ↔ 256 ≤ st + (j : ℕ) ∧ st + (j : ℕ) ≤ (R : ℕ) % 2304 + 128 ∧ (R : ℕ) % 2304 ≤ st + j + 128)
    (ha : a = s (ix2 0 ⟨(J : ℕ) / 128 * 2, by omega⟩)) (hb' : b = s (ix2 0 ⟨(J : ℕ) / 128 * 2 + 1, by omega⟩)) :
    pair (attendB (head0 z) k v kb vb mk (sink2 a)) (attendB (head1 z) k v kb vb mk (sink2 b)) (ix2 r d) = attAt p s R J := by
  obtain ⟨κ, hκ⟩ := sink2_real s hs ⟨(J : ℕ) / 64, by omega⟩
  unfold attAt
  have g : (⟨(J : ℕ) / 256, by omega⟩ : Fin 4) = ⟨(J : ℕ) / 64 / 4, by omega⟩ := Fin.ext (by dsimp only; omega)
  rw [g] at hk hkb
  rw [hκ, pair_at]
  by_cases h : (d : ℕ) < 64
  · rw [if_pos h, show sink2 a = (κ : EReal) from (congrArg (· * Ideal.ofBits .f32 0x3FB8AA3B#32) (ha.trans (congrArg (fun i => s (ix2 0 i)) (Fin.ext (by dsimp only; omega))))).trans hκ]
    exact headB p hp R hR _ 0 (by norm_num) st hst hb _ k v kb vb mk κ r d (vals p R J) (head0_q p R J z r hz _ (by dsimp only; omega)) hk hv hkb hvb hm
  · rw [if_neg h, show sink2 b = (κ : EReal) from (congrArg (· * Ideal.ofBits .f32 0x3FB8AA3B#32) (hb'.trans (congrArg (fun i => s (ix2 0 i)) (Fin.ext (by dsimp only; omega))))).trans hκ]
    exact headB p hp R hR _ 1 (by norm_num) st hst hb _ k v kb vb mk κ r d (vals p R J) (head1_q p R J z r hz _ (by dsimp only; omega)) hk hv hkb hvb hm

end Cert.SwaIdeal.W

end
-- ==== Proof.SwaLoad.lean ====
module

public import proofs.«01_k».proof.Proof.SwaPoint

/-! The window attention's block at a point of the grid, from the buffers. -/

@[expose] public section
set_option maxHeartbeats 4000000
set_option maxRecDepth 16384

noncomputable section
open Idealize.ShloMosaic Idealize.ShloMosaic.TcCoe Idealize.SL.Sem
open Idealize.ShloMosaic.Tactic

namespace Cert.SwaIdeal.W
open Cert.SwaIdeal Cert.SwaIdeal.Gen Cert.Softmax
open Cert.PrepReferenceIdeal.P (rot)
open Cert.SwaReferenceIdeal.W (query key)

variable (m : (ℓ : Loc nD τ sig) → Buf (Elt Ideal) ℓ)

/-- The projections. -/
abbrev proj (c : Dev nD) : FVec Ideal S9216x10752 .bf16 := m ((c : Thread nD τ).loc main_arg0)

/-- The sinks. -/
abbrev sink (c : Dev nD) : FVec Ideal S2x16 .f32 := m ((c : Thread nD τ).loc main_arg1)

/-- A load of queries. -/
theorem loadQ (c : Dev nD) (t : Fin cfg0.N) (a : ℕ) (ha : a + 128 ≤ 1024) (inb : ∀ k, (![0, a] : Fin 2 → ℕ) k + (![256, 128] : Fin 2 → ℕ) k ≤ S256x1024.size k)
    (r : Fin 256) (e : Fin 128) (R : Fin 9216) (hR : (R : ℕ) = t.val * 256 + r) :
    View.ld (X0_0 m c t) (Rect.unit ![0, a] ![256, 128] inb) (ix2 r e) = proj m c (ix2 R ⟨3072 + (a + (e : ℕ)), by omega⟩) :=
  (ld_at (X0_0 m c t) _ _ _ _ r ⟨a + (e : ℕ), by omega⟩ (Nat.zero_add _).symm rfl).trans (blkQ m c t r _ R hR)

/-- A load of keys. -/
theorem loadK (c : Dev nD) (t : Fin cfg0.N) (n : ℕ) (off : Fin 2 → ℕ) (a b : ℕ) (hoff : off = ![b, a]) (ha : a + 128 ≤ 256) (inb : ∀ k, off k + (![n, 128] : Fin 2 → ℕ) k ≤ S2304x256.size k)
    (l : Fin n) (hb : b + n ≤ 2304) (e : Fin 128) (L : Fin 9216) (hL : (L : ℕ) = t.val / 9 * 2304 + (b + l)) :
    View.ld (iblk m c 1 t) (Rect.unit off ![n, 128] inb) (ix2 l e) = proj m c (ix2 L ⟨4096 + (a + (e : ℕ)), by omega⟩) := by
  subst hoff
  exact (ld_at (iblk m c 1 t) _ _ _ _ ⟨b + (l : ℕ), by omega⟩ ⟨a + (e : ℕ), by omega⟩ rfl rfl).trans (blkK m c t _ _ L hL)

/-- A load of values. -/
theorem loadV (c : Dev nD) (t : Fin cfg0.N) (n : ℕ) (off : Fin 2 → ℕ) (a b : ℕ) (hoff : off = ![b, a]) (ha : a + 128 ≤ 256) (inb : ∀ k, off k + (![n, 128] : Fin 2 → ℕ) k ≤ S2304x256.size k)
    (l : Fin n) (hb : b + n ≤ 2304) (e : Fin 128) (L : Fin 9216) (hL : (L : ℕ) = t.val / 9 * 2304 + (b + l)) :
    View.ld (iblk m c 2 t) (Rect.unit off ![n, 128] inb) (ix2 l e) = proj m c (ix2 L ⟨4352 + (a + (e : ℕ)), by omega⟩) := by
  subst hoff
  exact (ld_at (iblk m c 2 t) _ _ _ _ ⟨b + (l : ℕ), by omega⟩ ⟨a + (e : ℕ), by omega⟩ rfl rfl).trans (blkV m c t _ _ L hL)

/-- A load of cosines. -/
theorem loadC (c : Dev nD) (t : Fin cfg0.N) (n : ℕ) (off : Fin 2 → ℕ) (b : ℕ) (hoff : off = ![b, 0]) (inb : ∀ k, off k + (![n, 128] : Fin 2 → ℕ) k ≤ S2304x128.size k)
    (l : Fin n) (e : Fin 128) (T : Fin 2304) (hT : (T : ℕ) = b + l) :
    View.ld (iblk m c 3 t) (Rect.unit off ![n, 128] inb) (ix2 l e) = table cos64 0x3F800000#32 (ix2 T e) := by
  subst hoff
  exact (ld_at (iblk m c 3 t) _ _ _ _ T e hT (Nat.zero_add _).symm).trans (blkC m c t _ _)

/-- A load of sines. -/
theorem loadS (c : Dev nD) (t : Fin cfg0.N) (n : ℕ) (off : Fin 2 → ℕ) (b : ℕ) (hoff : off = ![b, 0]) (inb : ∀ k, off k + (![n, 128] : Fin 2 → ℕ) k ≤ S2304x128.size k)
    (l : Fin n) (e : Fin 128) (T : Fin 2304) (hT : (T : ℕ) = b + l) :
    View.ld (iblk m c 4 t) (Rect.unit off ![n, 128] inb) (ix2 l e) = table sin64 0x00000000#32 (ix2 T e) := by
  subst hoff
  exact (ld_at (iblk m c 4 t) _ _ _ _ T e hT (Nat.zero_add _).symm).trans (blkS m c t _ _)

/-- A load of one sink. -/
theorem loadT (c : Dev nD) (t : Fin cfg0.N) (i : ℕ) (inb : ∀ k, (![0, i] : Fin 2 → ℕ) k + (![1, 1] : Fin 2 → ℕ) k ≤ S2x16.size k)
    (x : (Rect.unit (s := S2x16) ![0, i] ![1, 1] inb).shape.Idx) (h : Fin 16) (hh : (h : ℕ) = i) :
    View.ld (iblk m c 5 t) (Rect.unit ![0, i] ![1, 1] inb) x = sink m c (ix2 0 h) := by
  have h0 : (x 0 : ℕ) < 1 := (x 0).isLt
  have h1 : (x 1 : ℕ) < 1 := (x 1).isLt
  refine (ld_at (iblk m c 5 t) _ _ _ x 0 h ?_ ?_).trans (blkT m c t 0 h)
  · show 0 = 0 + (x 0 : ℕ); omega
  · show (h : ℕ) = i + (x 1 : ℕ); omega

/-- Two heads of a context block, over the half `g` of the loaded keys' and values' lanes. -/
theorem ctx (c : Dev nD) (t : Fin cfg0.N) (h0 : t.val % 9 = 0) (D : FVec Ideal S256x128 .bf16 → FVec Ideal S256x128 .bf16) (g : ℕ) (hg2 : g < 2) (hD : ∀ z (r : Fin 256) (d : Fin 128), D z (ix2 r d) = z (ix2 r ⟨64 * g + (d : ℕ) % 64, by omega⟩))
    (hp : Num (proj m c)) (hs : ∀ j, ∃ r : ℝ, sink m c (ix2 0 j) = (r : EReal))
    (a k i j : ℕ) (r : Fin 256) (d : Fin 128) (J : Fin 1024) (R : Fin 9216) (hR : (R : ℕ) = t.val * 256 + r) (hd : (d : ℕ) = (J : ℕ) % 128)
    (ha : a = (J : ℕ) / 128 * 128) (hk : k = (J : ℕ) / 512 * 128) (hg : (J : ℕ) / 256 % 2 = g) (hi : i = (J : ℕ) / 128 * 2) (hj : j = (J : ℕ) / 128 * 2 + 1) {b1 b2 b3 b4 b5 b6 b7 x y} :
    twoA D (View.ld (iblk m c 3 t) (Rect.unit (k0_off1 (grid0.coords t)) ![256, 128] b1)) (View.ld (iblk m c 4 t) (Rect.unit (k0_off1 (grid0.coords t)) ![256, 128] b2))
      (View.ld (X0_0 m c t) (Rect.unit ![0, a] ![256, 128] b3)) (View.ld (iblk m c 1 t) (Rect.unit ![0, k] ![256, 128] b4)) (View.ld (iblk m c 2 t) (Rect.unit ![0, k] ![256, 128] b5))
      (View.ld (iblk m c 5 t) (Rect.unit ![0, i] ![1, 1] b6) x) (View.ld (iblk m c 5 t) (Rect.unit ![0, j] ![1, 1] b7) y) (ix2 r d) = attAt (proj m c) (sink m c) R J := by
  obtain ⟨o1, -⟩ := offs t
  refine pairA (proj m c) hp (sink m c) hs R (by omega) J _ _ _ _ _ r d hd (queries_at (proj m c) R J _ _ _ r (fun e => ?_) (fun e => ?_) fun e => ?_) (fun l e => ?_) (fun l => ?_)
    (loadT m c t i _ x _ hi.symm) (loadT m c t j _ y _ hj.symm)
  · exact loadC m c t 256 _ _ o1 _ r e _ (by dsimp only; omega)
  · exact loadS m c t 256 _ _ o1 _ r e _ (by dsimp only; omega)
  · exact (loadQ m c t a (by omega) _ r e R hR).trans (congrArg (proj m c) ((ix2_inj ..).2 ⟨rfl, Fin.ext (by dsimp only; omega)⟩))
  · exact ((hD _ l e).trans (loadK m c t 256 _ k 0 rfl (by omega) _ l (by norm_num) _ ⟨(R : ℕ) / 2304 * 2304 + l, by omega⟩ (by dsimp only; omega))).trans
      (congrArg (proj m c) ((ix2_inj ..).2 ⟨rfl, Fin.ext (by dsimp only; omega)⟩))
  · exact ((hD _ l d).trans (loadV m c t 256 _ k 0 rfl (by omega) _ l (by norm_num) _ ⟨(R : ℕ) / 2304 * 2304 + l, by omega⟩ (by dsimp only; omega))).trans
      (congrArg (proj m c) ((ix2_inj ..).2 ⟨rfl, Fin.ext (by dsimp only; omega)⟩))

/-- Two heads of a latent block, over the half `g` of the loaded keys' and values' lanes. -/
theorem lat (c : Dev nD) (t : Fin cfg0.N) (h1 : 1 ≤ t.val % 9) (D : FVec Ideal S256x128 .bf16 → FVec Ideal S256x128 .bf16) (g : ℕ) (hg2 : g < 2) (hD : ∀ z (r : Fin 256) (d : Fin 128), D z (ix2 r d) = z (ix2 r ⟨64 * g + (d : ℕ) % 64, by omega⟩))
    (B : FVec Ideal S512x128 .f32 → FVec Ideal S512x128 .bf16) (hB : ∀ z (r : Fin 512) (d : Fin 128), B z (ix2 r d) = z (ix2 r ⟨64 * g + (d : ℕ) % 64, by omega⟩))
    (hp : Num (proj m c)) (hs : ∀ j, ∃ r : ℝ, sink m c (ix2 0 j) = (r : EReal))
    (a k i j : ℕ) (r : Fin 256) (d : Fin 128) (J : Fin 1024) (R : Fin 9216) (hR : (R : ℕ) = t.val * 256 + r) (hd : (d : ℕ) = (J : ℕ) % 128)
    (off : Fin 2 → ℕ) (ho : off = ![min (256 * (t.val % 9) - 128) 1792, k])
    (ha : a = (J : ℕ) / 128 * 128) (hk : k = (J : ℕ) / 512 * 128) (hg : (J : ℕ) / 256 % 2 = g) (hi : i = (J : ℕ) / 128 * 2) (hj : j = (J : ℕ) / 128 * 2 + 1)
    {b1 b2 b3 b4 b5 b6 b7 b8 b9 b10 b11 x y} :
    twoB D B (k0_pay137 (Scalar.muli (BitVec.ofNat 32 (grid0.coords t 1).val) 256#32))
      (View.ld (iblk m c 3 t) (Rect.unit (k0_off1 (grid0.coords t)) ![256, 128] b1)) (View.ld (iblk m c 4 t) (Rect.unit (k0_off1 (grid0.coords t)) ![256, 128] b2))
      (View.ld (iblk m c 3 t) (Rect.unit (k0_off2 (grid0.coords t)) ![512, 128] b8)) (View.ld (iblk m c 4 t) (Rect.unit (k0_off2 (grid0.coords t)) ![512, 128] b9))
      (View.ld (X0_0 m c t) (Rect.unit ![0, a] ![256, 128] b3)) (View.ld (iblk m c 1 t) (Rect.unit ![0, k] ![256, 128] b4)) (View.ld (iblk m c 2 t) (Rect.unit ![0, k] ![256, 128] b5))
      (View.ld (iblk m c 1 t) (Rect.unit off ![512, 128] b10)) (View.ld (iblk m c 2 t) (Rect.unit off ![512, 128] b11))
      (View.ld (iblk m c 5 t) (Rect.unit ![0, i] ![1, 1] b6) x) (View.ld (iblk m c 5 t) (Rect.unit ![0, j] ![1, 1] b7) y) (ix2 r d) = attAt (proj m c) (sink m c) R J := by
  obtain ⟨o1, o2⟩ := offs t
  obtain ⟨o2, -, -⟩ := o2 h1
  have tl : t.val % 9 < 9 := Nat.mod_lt _ (by norm_num)
  have hm := mask_at t h1 r
  have hq : (R : ℕ) % 2304 = 256 * (t.val % 9) + r := by omega
  have hd9 : (R : ℕ) / 2304 = t.val / 9 := by omega
  have hst : min (256 * (t.val % 9) - 128) 1792 + 512 ≤ 2304 := by omega
  have hb : ∀ l : ℕ, l < 2304 → l ≤ (R : ℕ) % 2304 + 128 → (R : ℕ) % 2304 ≤ l + 128 → min (256 * (t.val % 9) - 128) 1792 ≤ l ∧ l < min (256 * (t.val % 9) - 128) 1792 + 512 := fun l h1 h2 h3 => by omega
  rw [← hq] at hm
  generalize min (256 * (t.val % 9) - 128) 1792 = st at *
  refine pairB (proj m c) hp (sink m c) hs R (by omega) J st hst hb _ _ _ _ _ _ _ _ r d hd (queries_at (proj m c) R J _ _ _ r (fun e => ?_) (fun e => ?_) fun e => ?_) (fun l e => ?_) (fun l => ?_)
    (fun n e => ?_) (fun n => ?_) hm (loadT m c t i _ x _ hi.symm) (loadT m c t j _ y _ hj.symm)
  · exact loadC m c t 256 _ _ o1 _ r e _ (by dsimp only; omega)
  · exact loadS m c t 256 _ _ o1 _ r e _ (by dsimp only; omega)
  · exact (loadQ m c t a (by omega) _ r e R hR).trans (congrArg (proj m c) ((ix2_inj ..).2 ⟨rfl, Fin.ext (by dsimp only; omega)⟩))
  · exact ((hD _ l e).trans (loadK m c t 256 _ k 0 rfl (by omega) _ l (by norm_num) _ ⟨(R : ℕ) / 2304 * 2304 + l, by omega⟩ (by dsimp only; omega))).trans
      (congrArg (proj m c) ((ix2_inj ..).2 ⟨rfl, Fin.ext (by dsimp only; omega)⟩))
  · exact ((hD _ l d).trans (loadV m c t 256 _ k 0 rfl (by omega) _ l (by norm_num) _ ⟨(R : ℕ) / 2304 * 2304 + l, by omega⟩ (by dsimp only; omega))).trans
      (congrArg (proj m c) ((ix2_inj ..).2 ⟨rfl, Fin.ext (by dsimp only; omega)⟩))
  · refine ((hB _ n e).trans (bandKeys_at (proj m c) ⟨(R : ℕ) / 2304 * 2304 + (st + n), by omega⟩ ⟨st + n, by omega⟩ J _ _ _ n (fun e => ?_) (fun e => ?_) (fun e => ?_) _)).trans
      (congrArg₂ (fun g e => rot _ (key _ _ g) e) (Fin.ext (by dsimp only; omega)) (Fin.ext (by dsimp only; omega)))
    · exact loadC m c t 512 _ _ o2 _ n e _ rfl
    · exact loadS m c t 512 _ _ o2 _ n e _ rfl
    · exact (loadK m c t 512 off k st ho (by omega) _ n hst e ⟨(R : ℕ) / 2304 * 2304 + (st + n), by omega⟩ (by dsimp only; omega)).trans
        (congrArg (proj m c) ((ix2_inj ..).2 ⟨rfl, Fin.ext (by dsimp only; omega)⟩))
  · exact ((hB _ n d).trans (loadV m c t 512 off k st ho (by omega) _ n hst _ ⟨(R : ℕ) / 2304 * 2304 + (st + n), by omega⟩ (by dsimp only; omega))).trans
      (congrArg (proj m c) ((ix2_inj ..).2 ⟨rfl, Fin.ext (by dsimp only; omega)⟩))

end Cert.SwaIdeal.W

end
-- ==== Proof.SwaBlock.lean ====
module

public import proofs.«01_k».proof.Proof.SwaLoad

/-! The window attention's block at a point of the grid, column pair by column pair. -/

@[expose] public section
set_option maxHeartbeats 4000000
set_option maxRecDepth 16384

noncomputable section
open Idealize.ShloMosaic Idealize.ShloMosaic.TcCoe Idealize.SL.Sem
open Idealize.ShloMosaic.Tactic

namespace Cert.SwaIdeal.W
open Cert.SwaIdeal Cert.SwaIdeal.Gen Cert.Softmax

variable (m : (ℓ : Loc nD τ sig) → Buf (Elt Ideal) ℓ)

/-- A context block at a point. -/
theorem pointA (c : Dev nD) (t : Fin cfg0.N) (h0 : t.val % 9 = 0) (h1 : ¬1 ≤ t.val % 9) (hp : Num (proj m c)) (hs : ∀ j, ∃ r : ℝ, sink m c (ix2 0 j) = (r : EReal))
    (y0 : Fin 256) (y1 : Fin 1024) (R : Fin 9216) (hR : (R : ℕ) = t.val * 256 + y0) :
    (outsAt0 m c t.val t.isLt).1 (ix2 y0 y1) = attAt (proj m c) (sink m c) R y1 := by
  rw [outsAt0_A m c t h0 h1]; frame_out
  have H0 := ctx m c t h0 dup0 0 (by norm_num) (fun z r d => (dup0_at z r d).trans (congrArg z (congrArg (ix2 r) (Fin.ext (by dsimp only; omega))))) hp hs
  have H1 := ctx m c t h0 dup1 1 (by norm_num) dup1_at hp hs
  generalize X0_0 m c t = X at *
  canon_tiles x h
  all_goals
    idx_vars x
    open_payloads
    first
    | (refine Eq.trans (b := twoA dup0 ?_ ?_ ?_ ?_ ?_ ?_ ?_ (ix2 x0 x1)) ?_ ?_
       pick_goal 8
       · (dsimp only [twoA, pair, attendA, head0, head1, queries, turn256, dup0, low256, low, even16, sink2]; with_reducible rfl)
       refine H0 _ _ _ _ x0 x1 y1 R ?_ ?_ ?_ ?_ ?_ ?_ ?_ <;> omega)
    | (refine Eq.trans (b := twoA dup1 ?_ ?_ ?_ ?_ ?_ ?_ ?_ (ix2 x0 x1)) ?_ ?_
       pick_goal 8
       · (dsimp only [twoA, pair, attendA, head0, head1, queries, turn256, dup1, low256, low, even16, sink2]; with_reducible rfl)
       refine H1 _ _ _ _ x0 x1 y1 R ?_ ?_ ?_ ?_ ?_ ?_ ?_ <;> omega)

/-- A latent block at a point. -/
theorem pointB (c : Dev nD) (t : Fin cfg0.N) (h0 : ¬t.val % 9 = 0) (h1 : 1 ≤ t.val % 9) (hp : Num (proj m c)) (hs : ∀ j, ∃ r : ℝ, sink m c (ix2 0 j) = (r : EReal))
    (y0 : Fin 256) (y1 : Fin 1024) (R : Fin 9216) (hR : (R : ℕ) = t.val * 256 + y0) :
    (outsAt0 m c t.val t.isLt).1 (ix2 y0 y1) = attAt (proj m c) (sink m c) R y1 := by
  rw [outsAt0_B m c t h0 h1]; frame_out
  obtain ⟨-, o⟩ := offs t
  obtain ⟨-, o3, o4⟩ := o h1
  have H0 := lat m c t h1 dup0 0 (by norm_num) (fun z r d => (dup0_at z r d).trans (congrArg z (congrArg (ix2 r) (Fin.ext (by dsimp only; omega))))) band0 (fun z r d => (band0_at z r d).trans (congrArg z (congrArg (ix2 r) (Fin.ext (by dsimp only; omega))))) hp hs
  have H1 := lat m c t h1 dup1 1 (by norm_num) dup1_at band1 band1_at hp hs
  generalize X0_0 m c t = X at *
  canon_tiles x h
  all_goals
    idx_vars x
    open_payloads
    first
    | (refine Eq.trans (b := twoB dup0 band0 (k0_pay137 (Scalar.muli (BitVec.ofNat 32 (grid0.coords t 1).val) 256#32)) ?_ ?_ ?_ ?_ ?_ ?_ ?_ ?_ ?_ ?_ ?_ (ix2 x0 x1)) ?_ ?_
       pick_goal 12
       · (dsimp only [k0_pay137, twoB, pair, attendB, head0, head1, queries, turn256, turn512, dup0, band0, bandKeys, bandVals, low256, low512, low, even16, sink2]; with_reducible rfl)
       refine H0 _ _ _ _ x0 x1 y1 R ?_ ?_ _ ?_ ?_ ?_ ?_ ?_ ?_ <;> first | omega | with_reducible exact o3 | with_reducible exact o4)
    | (refine Eq.trans (b := twoB dup1 band1 (k0_pay137 (Scalar.muli (BitVec.ofNat 32 (grid0.coords t 1).val) 256#32)) ?_ ?_ ?_ ?_ ?_ ?_ ?_ ?_ ?_ ?_ ?_ (ix2 x0 x1)) ?_ ?_
       pick_goal 12
       · (dsimp only [k0_pay137, twoB, pair, attendB, head0, head1, queries, turn256, turn512, dup1, band1, bandKeys, bandVals, low256, low512, low, even16, sink2]; with_reducible rfl)
       refine H1 _ _ _ _ x0 x1 y1 R ?_ ?_ _ ?_ ?_ ?_ ?_ ?_ ?_ <;> first | omega | with_reducible exact o3 | with_reducible exact o4)

end Cert.SwaIdeal.W

end
-- ==== Proof.SwaFinal.lean ====
module

public import proofs.«01_k».proof.Proof.SwaBlock
public import proofs.«01_k».proof.Proof.AttnFinal
public import proofs.«01_k».proof.Pre_finite_window
public import proofs.«01_k».proof.Proof.Gen.Pre_finite_window
public import Idealize.ShloMosaic.Lib.ReduceAll

/-! The window attention's three arrays are the reference's, for finite queries, keys and sinks. -/

@[expose] public section
set_option maxRecDepth 16384

noncomputable section
open Idealize.ShloMosaic Idealize.ShloMosaic.TcCoe Idealize.SL.Sem
open Idealize.ShloMosaic.Tactic

namespace Cert.SwaIdeal.W
open Cert.SwaIdeal Cert.SwaIdeal.Gen Cert.Softmax
open Cert.SwaReferenceIdeal.W (score_ne_top)

variable (m : (ℓ : Loc nD τ sig) → Buf (Elt Ideal) ℓ)

/-- Where the windows of the cast weights sit at a point. -/
theorem idxW : ∀ t : Fin cfg0.N, win0_6.index t = ![0, min t.val 31, 0] ∧ win0_7.index t = ![0, min t.val 31, 0]
    ∧ win0_9.index t = ![min t.val 31, 0] ∧ win0_10.index t = ![min t.val 31, 0] :=
  (by decide +kernel : ∀ t : Fin grid0.N, _)

/-- A point's block is the attention's rows. -/
theorem point (c : Dev nD) (t : Fin cfg0.N) (hp : Num (proj m c)) (hs : ∀ j, ∃ r : ℝ, sink m c (ix2 0 j) = (r : EReal))
    (y0 : Fin 256) (y1 : Fin 1024) (R : Fin 9216) (hR : (R : ℕ) = t.val * 256 + y0) :
    (outsAt0 m c t.val t.isLt).1 (ix2 y0 y1) = attAt (proj m c) (sink m c) R y1 := by
  by_cases h0 : t.val % 9 = 0
  · exact pointA m c t h0 (by omega) hp hs y0 y1 R hR
  · exact pointB m c t h0 (by omega) hp hs y0 y1 R hR

/-- The branches' cast block. -/
theorem out9 (c : Dev nD) (t : Fin cfg0.N) (r : Fin 96) (k : Fin 2048) : (outsAt0 m c t.val t.isLt).2.1 (ix2 r k) = iblk m c 6 t (ix3 0 r k) := by
  by_cases h0 : t.val % 9 = 0
  · rw [outsAt0_A m c t h0 (by omega)]; frame_out
    pointwise [k0_pay1]
  · rw [outsAt0_B m c t h0 (by omega)]; frame_out
    pointwise [k0_pay1]

/-- The output projection's cast block. -/
theorem out10 (c : Dev nD) (t : Fin cfg0.N) (r : Fin 64) (k : Fin 2048) : (outsAt0 m c t.val t.isLt).2.2 (ix2 r k) = iblk m c 7 t (ix3 0 r k) := by
  by_cases h0 : t.val % 9 = 0
  · rw [outsAt0_A m c t h0 (by omega)]; frame_out
    pointwise [k0_pay2]
  · rw [outsAt0_B m c t h0 (by omega)]; frame_out
    pointwise [k0_pay2]

/-- The kernel's first array is the reference's term, if queries, keys and sinks are finite. -/
theorem final8 (c : Dev nD) (hp : Num (proj m c)) (hs : ∀ j, ∃ r : ℝ, sink m c (ix2 0 j) = (r : EReal)) :
    (dats m 0 c).arrAt 8 cfg0.N = Cert.SwaReferenceIdeal.W.REF (m ((c : Thread nD τ).loc main_arg0)) (m ((c : Thread nD τ).loc main_arg1)) := by
  refine (dats m 0 c).arrAt_eq_of_covers 8 _ (by decide +kernel) fun t hf y => ?_
  idx_vars y
  blk_simp [idx t]
  rw [after0_8]
  have ht : t.val < 36 := lt_of_lt_of_eq t.isLt (by decide)
  have he : (win0_8.blk t).view.emb (ix2 y0 y1) = ix2 (⟨t.val * 256 + y0, by omega⟩ : Fin 9216) y1 := by blk_ext [idx t]
  refine Eq.trans ?_ (congrArg _ he).symm
  obtain ⟨κ, hκ⟩ := sink2_real (sink m c) hs ⟨(y1 : ℕ) / 64, by omega⟩
  refine Eq.trans ?_ (Cert.SwaReferenceIdeal.W.REF_at _ _ _ _ (fun l => score_ne_top _ hp _ _ l) κ hκ).symm
  rw [point m c t hp hs y0 y1 ⟨t.val * 256 + y0, by omega⟩ rfl]
  unfold attAt
  rw [hκ]
  rfl

/-- The reference's second result: the branches' weights of the first layer. -/
def CASTB (w : FVec Ideal ⟨4, ![2, 3, 1024, 2048]⟩ .f32) : FVec Ideal ⟨2, ![3072, 2048]⟩ .bf16 := fun i =>
  w (ix4 0 ⟨(i 0 : ℕ) / 1024, Nat.div_lt_of_lt_mul (i 0).isLt⟩ ⟨(i 0 : ℕ) % 1024, Nat.mod_lt _ (by norm_num)⟩ (i 1))

/-- The reference's third result: the output projection of the first layer. -/
def CASTO (w : FVec Ideal ⟨3, ![2, 2048, 2048]⟩ .f32) : FVec Ideal ⟨2, ![2048, 2048]⟩ .bf16 := fun i => w (ix3 0 (i 0) (i 1))

/-- The branches' weights as one matrix per layer. -/
theorem castB_at (w : FVec Ideal S2x3x1024x2048 .f32) (r : Fin 3072) (k : Fin 2048) :
    (shapeCast S2x3072x2048 w shapeCasts_S2x3x1024x2048_S2x3072x2048 : FVec Ideal S2x3072x2048 .f32) (ix3 0 r k) = CASTB w (ix2 r k) := by
  unfold CASTB
  pointwise

/-- The branches' block. -/
theorem blkB (c : Dev nD) (t : Fin cfg0.N) (r : Fin 96) (k : Fin 2048) (R : Fin 3072) (hR : (R : ℕ) = min t.val 31 * 96 + r) :
    iblk m c 6 t (ix3 0 r k) = CASTB (m ((c : Thread nD τ).loc main_arg2)) (ix2 R k) := by
  rw [← castB_at, ← V_branch m c]
  blk_ext [iblk, idxW t]

/-- The kernel's second array. -/
theorem final9 (c : Dev nD) : (dats m 0 c).arrAt 9 cfg0.N = CASTB (m ((c : Thread nD τ).loc main_arg2)) := by
  refine (dats m 0 c).arrAt_eq_of_covers 9 _ (by decide +kernel) fun t hf y => ?_
  idx_vars y
  blk_simp [idxW t]
  rw [after0_9]
  have ht : t.val < 36 := lt_of_lt_of_eq t.isLt (by decide)
  have he : (win0_9.blk t).view.emb (ix2 y0 y1) = ix2 (⟨min t.val 31 * 96 + y0, by omega⟩ : Fin 3072) y1 := by blk_ext [idxW t]
  refine Eq.trans ?_ (congrArg _ he).symm
  refine (out9 m c t y0 y1).trans ?_
  exact blkB m c t y0 y1 _ rfl

/-- The kernel's third array. -/
theorem final10 (c : Dev nD) : (dats m 0 c).arrAt 10 cfg0.N = CASTO (m ((c : Thread nD τ).loc main_arg3)) := by
  refine (dats m 0 c).arrAt_eq_of_covers 10 _ (by decide +kernel) fun t hf y => ?_
  idx_vars y
  blk_simp [idxW t]
  rw [after0_10]
  have ht : t.val < 36 := lt_of_lt_of_eq t.isLt (by decide)
  have he : (win0_10.blk t).view.emb (ix2 y0 y1) = ix2 (⟨min t.val 31 * 64 + y0, by omega⟩ : Fin 2048) y1 := by blk_ext [idxW t]
  refine Eq.trans ?_ (congrArg _ he).symm
  refine (out10 m c t y0 y1).trans ?_
  unfold CASTO
  blk_ext [iblk, V, idxW t]

/-- The reference's second result is that term. -/
theorem ref_castB (w : FVec Ideal Cert.SwaReferenceIdeal.S2x3x1024x2048 .f32) :
    (truncf .bf16 (shapeCast Cert.SwaReferenceIdeal.S3072x2048 (shapeCast Cert.SwaReferenceIdeal.S3x1024x2048 (extractStridedSlice Cert.SwaReferenceIdeal.S1x3x1024x2048 ![0, 0, 0, 0] w
      Cert.SwaReferenceIdeal.Gen.slices_S2x3x1024x2048_S1x3x1024x2048_0_0_0_0) Cert.SwaReferenceIdeal.Gen.shapeCasts_S1x3x1024x2048_S3x1024x2048) Cert.SwaReferenceIdeal.Gen.shapeCasts_S3x1024x2048_S3072x2048)
      Cert.SwaReferenceIdeal.Gen.bitsLt_bf16_f32 : FVec Ideal Cert.SwaReferenceIdeal.S3072x2048 .bf16) = CASTB w := by
  funext y
  idx_vars y
  unfold CASTB
  pointwise

/-- The reference's third result is that term. -/
theorem ref_castO (w : FVec Ideal Cert.SwaReferenceIdeal.S2x2048x2048 .f32) :
    (truncf .bf16 (shapeCast Cert.SwaReferenceIdeal.S2048x2048 (extractStridedSlice Cert.SwaReferenceIdeal.S1x2048x2048 ![0, 0, 0] w
      Cert.SwaReferenceIdeal.Gen.slices_S2x2048x2048_S1x2048x2048_0_0_0) Cert.SwaReferenceIdeal.Gen.shapeCasts_S1x2048x2048_S2048x2048)
      Cert.SwaReferenceIdeal.Gen.bitsLt_bf16_f32 : FVec Ideal Cert.SwaReferenceIdeal.S2048x2048 .bf16) = CASTO w := by
  funext y
  idx_vars y
  unfold CASTO
  pointwise

/-- From the precondition: the columns of the queries and the keys, and the layer's sinks, are numbers. -/
theorem finite_of_pre (p : FVec Ideal S9216x10752 .bf16) (s : FVec Ideal S2x16 .f32) (b : FVec Ideal S2x3x1024x2048 .f32) (o : FVec Ideal S2x2048x2048 .f32)
    (h : Cert.Pre_finite_window.fn (F := Ideal) p s b o = fun _ => 1#1) : Num p ∧ ∀ j, ∃ r : ℝ, s (ix2 0 j) = (r : EReal) := by
  have e := congrFun h ix0
  unfold Cert.Pre_finite_window.fn at e
  obtain ⟨e0, e1⟩ := IntOp.andi_eq_one.1 e
  refine ⟨fun i j => ?_, fun j => ?_⟩
  · obtain ⟨r, hr⟩ := Cert.KernelIdeal.Attn.real_of_cmp (Host.reduce_andi_all _ _ _ _ _ e0 (ix2 i j))
    refine ⟨r, Eq.trans ?_ hr⟩
    pointwise
  · obtain ⟨r, hr⟩ := Cert.KernelIdeal.Attn.real_of_cmp (Host.reduce_andi_all _ _ _ _ _ e1 (ix1 j))
    refine ⟨r, Eq.trans ?_ hr⟩
    pointwise

end Cert.SwaIdeal.W

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.Mixin
public import proofs.«01_k».proof.Proof.Gen.Mixin.Skeleton
public import proofs.«01_k».proof.Proof.Gen.Mixin.Launch
public import proofs.«01_k».proof.Proof.Gen.Mixin.Points
public import proofs.«01_k».proof.Proof.Gen.Mixin.Frame
public import proofs.«01_k».proof.Proof.Gen.MixinIdeal
public import proofs.«01_k».proof.Proof.Gen.MixinIdeal.Skeleton
public import proofs.«01_k».proof.Proof.Gen.MixinIdeal.Launch
public import proofs.«01_k».proof.Proof.Gen.MixinIdeal.Points
public import proofs.«01_k».proof.Proof.Gen.MixinIdeal.Frame
public import proofs.«01_k».proof.Proof.Gen.MixinReferenceIdeal
public import proofs.«01_k».proof.Proof.Gen.MixinReferenceIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepReferenceIdeal
public import proofs.«01_k».proof.Proof.Gen.PrepReferenceIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaReferenceIdeal
public import proofs.«01_k».proof.Proof.Gen.AdaReferenceIdeal.Run
public import proofs.«01_k».proof.Proof.Gen.Pre_finite_scores
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaReferenceIdeal
public import proofs.«01_k».proof.Proof.Gen.SwaReferenceIdeal.Run
public import proofs.«01_k».proof.Proof.Gen.Pre_finite_window
public import proofs.«01_k».proof.Proof.AttnFinal
public import proofs.«01_k».proof.Proof.MixinPoint
public import proofs.«01_k».proof.Proof.FfnPoint
public import proofs.«01_k».proof.Proof.MergePoint
public import proofs.«01_k».proof.Proof.PrepFinal
public import proofs.«01_k».proof.Proof.AdaPoint
public import proofs.«01_k».proof.Proof.SwaFinal
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The attention kernel and its reference compute the same array when the queries and the keys are finite. -/
theorem attention : Cert.algebraic_KernelIdeal_ReferenceIdeal_pre_finite_scores := by
  pair_intro
  · run_from Cert.KernelIdeal.Gen.run_main m g
  · run_from Cert.ReferenceIdeal.Value.run m' g'
    obtain ⟨a0, a1, a2⟩ := hagree c
    obtain ⟨hq, hk⟩ := Cert.KernelIdeal.Attn.finite_of_pre _ _ _ (hpre c)
    refine (Cert.ReferenceIdeal.Attn.res_eq m' c).trans ?_
    rw [a0, a1, a2]
    exact (Cert.KernelIdeal.Attn.final m c hq hk).symm

/-- The feed-forward kernel and its reference compute the same two arrays. -/
theorem ffn : Cert.algebraic_FfnIdeal_FfnReferenceIdeal := by
  pair_intro
  · run_from Cert.FfnIdeal.Gen.run_main m g
  · run_from Cert.FfnReferenceIdeal.Value.run m' g'
    · obtain ⟨a0, a1, a2, a3, a4, a5, a6⟩ := hagree c
      refine (Cert.FfnReferenceIdeal.F.res_eq m' c).trans ?_
      rw [a0, a1, a2, a3, a4, a5]
      exact (Cert.FfnIdeal.F.final13 m c).symm
    · exact (Cert.FfnIdeal.F.final14 m c).symm

/-- The merge kernel and its reference compute the same array. -/
theorem merge : Cert.algebraic_MergeIdeal_MergeReferenceIdeal := by
  pair_intro
  · run_from Cert.MergeIdeal.Gen.run_main m g
  · run_from Cert.MergeReferenceIdeal.Value.run m' g'
    obtain ⟨a0, a1, a2, a3, a4, a5, a6, a7, a8, a9⟩ := hagree c
    refine (Cert.MergeReferenceIdeal.M.res_eq m' c).trans ?_
    rw [a0, a1, a2, a3, a4, a5, a6, a7, a8, a9]
    exact (Cert.MergeIdeal.M.final m c).symm

set_option maxHeartbeats 4000000 in
/-- The preparation of the latent attention and its reference compute the same queries, keys and values. -/
theorem prep : Cert.algebraic_PrepIdeal_PrepReferenceIdeal := by
  pair_intro
  · run_from Cert.PrepIdeal.Gen.run_main m g
    exacts [Cert.PrepIdeal.Gen.V_main_arg1 m c, Cert.PrepIdeal.Gen.V_main_arg2 m c, Cert.PrepIdeal.Gen.V_main_arg3 m c, Cert.PrepIdeal.Gen.V_main_arg4 m c]
  · run_from Cert.PrepReferenceIdeal.Value.run m' g'
    · obtain ⟨a0, a1, a2, a3, a4⟩ := hagree c
      refine (Cert.PrepReferenceIdeal.P.resq_eq m' c).trans ?_
      rw [a0, a1, a2]
      exact (Cert.PrepIdeal.P.final10 m c).symm
    · obtain ⟨a0, a1, a2, a3, a4⟩ := hagree c
      refine (Cert.PrepReferenceIdeal.P.resk_eq m' c).trans ?_
      rw [a0, a3, a4]
      exact (Cert.PrepIdeal.P.final11 m c).symm
    · exact (Cert.PrepIdeal.P.final12 m c).symm

/-- The modulation kernel and its reference compute the same array. -/
theorem ada : Cert.algebraic_AdaIdeal_AdaReferenceIdeal := by
  pair_intro
  · run_from Cert.AdaIdeal.Gen.run_main m g
  · run_from Cert.AdaReferenceIdeal.Value.run m' g'
    obtain ⟨a0, a1, a2, a3⟩ := hagree c
    refine (Cert.AdaReferenceIdeal.A.res_eq m' c).trans ?_
    rw [a0, a1, a2, a3]
    exact (Cert.AdaIdeal.A.final m c).symm

/-- The input projection kernel and its reference compute the same two arrays. -/
theorem mixin : Cert.algebraic_MixinIdeal_MixinReferenceIdeal := by
  pair_intro
  · run_from Cert.MixinIdeal.Gen.run_main m g
  · run_from Cert.MixinReferenceIdeal.Value.run m' g'
    · obtain ⟨a0, a1, a2, a3⟩ := hagree c
      refine (Cert.MixinReferenceIdeal.Mix.res_eq m' c).trans ?_
      rw [a0, a1, a2]
      exact (Cert.MixinIdeal.Mix.final7 m c).symm
    · exact (Cert.MixinIdeal.Mix.final8 m c).symm

set_option maxHeartbeats 4000000 in
/-- The window attention kernel and its reference compute the same three arrays when the queries, the keys and the sinks are finite. -/
theorem swa : Cert.algebraic_SwaIdeal_SwaReferenceIdeal_pre_finite_window := by
  pair_intro
  · run_from Cert.SwaIdeal.Gen.run_main m g
  · run_from Cert.SwaReferenceIdeal.Value.run m' g'
    · obtain ⟨a0, a1, a2, a3⟩ := hagree c
      obtain ⟨hp, hs⟩ := Cert.SwaIdeal.W.finite_of_pre _ _ _ _ (hpre c)
      refine (Cert.SwaReferenceIdeal.W.res_eq m' c).trans ?_
      rw [a0, a1]
      exact (Cert.SwaIdeal.W.final8 m c hp hs).symm
    · exact (Cert.SwaIdeal.W.ref_castB _).trans (Cert.SwaIdeal.W.final9 m c).symm
    · exact (Cert.SwaIdeal.W.ref_castO _).trans (Cert.SwaIdeal.W.final10 m c).symm

/-- Every claim, in the order in which the certificate states them. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Merge.Gen.facts, Cert.MergeIdeal.Gen.facts, Cert.MergeReferenceIdeal.Gen.facts,
    Cert.Prep.Gen.facts, Cert.PrepIdeal.Gen.facts, Cert.PrepReferenceIdeal.Gen.facts,
    Cert.Ada.Gen.facts, Cert.AdaIdeal.Gen.facts, Cert.AdaReferenceIdeal.Gen.facts,
    Cert.Mixin.Gen.facts, Cert.MixinIdeal.Gen.facts, Cert.MixinReferenceIdeal.Gen.facts,
    Cert.Swa.Gen.facts, Cert.SwaIdeal.Gen.facts, Cert.SwaReferenceIdeal.Gen.facts,
    Cert.Pre_finite_scores.Gen.facts, Cert.Pre_finite_window.Gen.facts,
    fun m g _ => Cert.Kernel.Gen.frame m g,
    fun m g _ => Cert.KernelIdeal.Gen.frame m g,
    fun m g _ => Cert.KernelIdeal.Gen.frame m g,
    fun m g _ => θ_run_and ((θ_run _ _ _).mono (fun _ h c => (h c).2) (Cert.ReferenceIdeal.Value.run m g)) ((θ_run _ _ _).mono (fun r _ => sem_eq_zero_of_no_sems rfl r.2) (Cert.ReferenceIdeal.Value.run m g)),
    fun m g _ => θ_run_and ((θ_run _ _ _).mono (fun _ h c => (h c).2) (Cert.ReferenceIdeal.Value.run m g)) ((θ_run _ _ _).mono (fun r _ => sem_eq_zero_of_no_sems rfl r.2) (Cert.ReferenceIdeal.Value.run m g)),
    fun m g _ => Cert.Ffn.Gen.frame m g,
    fun m g _ => Cert.FfnIdeal.Gen.frame m g,
    fun m g _ => θ_run_and ((θ_run _ _ _).mono (fun _ h c => (h c).2.2) (Cert.FfnReferenceIdeal.Value.run m g)) ((θ_run _ _ _).mono (fun r _ => sem_eq_zero_of_no_sems rfl r.2) (Cert.FfnReferenceIdeal.Value.run m g)),
    fun m g _ => Cert.Merge.Gen.frame m g,
    fun m g _ => Cert.MergeIdeal.Gen.frame m g,
    fun m g _ => θ_run_and ((θ_run _ _ _).mono (fun _ h c => (h c).2) (Cert.MergeReferenceIdeal.Value.run m g)) ((θ_run _ _ _).mono (fun r _ => sem_eq_zero_of_no_sems rfl r.2) (Cert.MergeReferenceIdeal.Value.run m g)),
    fun m g _ => Cert.Prep.Gen.frame m g,
    fun m g _ => Cert.PrepIdeal.Gen.frame m g,
    fun m g _ => θ_run_and ((θ_run _ _ _).mono (fun _ h c => (h c).2.2.2) (Cert.PrepReferenceIdeal.Value.run m g)) ((θ_run _ _ _).mono (fun r _ => sem_eq_zero_of_no_sems rfl r.2) (Cert.PrepReferenceIdeal.Value.run m g)),
    fun m g _ => Cert.Ada.Gen.frame m g,
    fun m g _ => Cert.AdaIdeal.Gen.frame m g,
    fun m g _ => θ_run_and ((θ_run _ _ _).mono (fun _ h c => (h c).2) (Cert.AdaReferenceIdeal.Value.run m g)) ((θ_run _ _ _).mono (fun r _ => sem_eq_zero_of_no_sems rfl r.2) (Cert.AdaReferenceIdeal.Value.run m g)),
    fun m g _ => Cert.Mixin.Gen.frame m g,
    fun m g _ => Cert.MixinIdeal.Gen.frame m g,
    fun m g _ => θ_run_and ((θ_run _ _ _).mono (fun _ h c => (h c).2.2) (Cert.MixinReferenceIdeal.Value.run m g)) ((θ_run _ _ _).mono (fun r _ => sem_eq_zero_of_no_sems rfl r.2) (Cert.MixinReferenceIdeal.Value.run m g)),
    fun m g _ => Cert.Swa.Gen.frame m g,
    fun m g _ => Cert.SwaIdeal.Gen.frame m g,
    fun m g _ => Cert.SwaIdeal.Gen.frame m g,
    fun m g _ => θ_run_and ((θ_run _ _ _).mono (fun _ h c => (h c).2.2.2) (Cert.SwaReferenceIdeal.Value.run m g)) ((θ_run _ _ _).mono (fun r _ => sem_eq_zero_of_no_sems rfl r.2) (Cert.SwaReferenceIdeal.Value.run m g)),
    fun m g _ => θ_run_and ((θ_run _ _ _).mono (fun _ h c => (h c).2.2.2) (Cert.SwaReferenceIdeal.Value.run m g)) ((θ_run _ _ _).mono (fun r _ => sem_eq_zero_of_no_sems rfl r.2) (Cert.SwaReferenceIdeal.Value.run m g)),
    trivial, attention, trivial, ffn, trivial, merge, trivial, prep, trivial, ada, trivial, mixin, trivial, swa⟩

end Cert.Proof

end
